-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "tanh_scale" .f32 0x3AE7B46A#32 (((Real.sqrt 128)⁻¹ * (1 / 50) : ℝ) : EReal)
  ∧ IdealRules.named_const.Statement Cert.KernelIdeal.κ "exp2_scale" .f32 0x429044FE#32 ((50 * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x6144x7168 : Shape := ⟨3, ![2, 6144, 7168]⟩
abbrev S2x6144x1024 : Shape := ⟨3, ![2, 6144, 1024]⟩
abbrev S_ : Shape := ⟨0, ![]⟩

class Facts : Prop where
  bcast_S_S2x6144x7168 : S_.BroadcastsInDim S2x6144x7168 (![] : Fin 0 → Fin S2x6144x7168.rank)
  bcast_S_S2x6144x1024 : S_.BroadcastsInDim S2x6144x1024 (![] : Fin 0 → Fin S2x6144x1024.rank)

variable [Facts]

def fn {F : FTy → Type} [FloatOps F] (main_arg0 : FVec F S2x6144x7168 .bf16) (main_arg1 : FVec F S2x6144x1024 .bf16) (main_arg2 : FVec F S2x6144x1024 .bf16) : IVec S2x6144x7168 1 × IVec S2x6144x1024 1 × IVec S2x6144x1024 1 :=
  let main_v0 : FVec F S2x6144x7168 .bf16 := Host.absf main_arg0
  let main_cst : FVec F S_ .bf16 := constant S_ .bf16 0x7F7F#16
  let main_v1 : FVec F S2x6144x7168 .bf16 := broadcastInDim S2x6144x7168 ![] bcast_S_S2x6144x7168 main_cst
  let main_v2 : IVec S2x6144x7168 1 := cmpf .ole main_v0 main_v1
  let main_v3 : FVec F S2x6144x1024 .bf16 := Host.absf main_arg1
  let main_cst_0 : FVec F S_ .bf16 := constant S_ .bf16 0x7F7F#16
  let main_v4 : FVec F S2x6144x1024 .bf16 := broadcastInDim S2x6144x1024 ![] bcast_S_S2x6144x1024 main_cst_0
  let main_v5 : IVec S2x6144x1024 1 := cmpf .ole main_v3 main_v4
  let main_v6 : FVec F S2x6144x1024 .bf16 := Host.absf main_arg2
  let main_cst_1 : FVec F S_ .bf16 := constant S_ .bf16 0x7F7F#16
  let main_v7 : FVec F S2x6144x1024 .bf16 := broadcastInDim S2x6144x1024 ![] bcast_S_S2x6144x1024 main_cst_1
  let main_v8 : IVec S2x6144x1024 1 := cmpf .ole main_v6 main_v7
  (main_v2, main_v5, main_v8)
-- ==== Kernel.lean ====
abbrev S2x6144x7168 : Shape := ⟨3, ![2, 6144, 7168]⟩
abbrev S2x6144x1024 : Shape := ⟨3, ![2, 6144, 1024]⟩
abbrev S2x8x7x4x6144 : Shape := ⟨5, ![2, 8, 7, 4, 6144]⟩
abbrev S2x8x4x6144 : Shape := ⟨4, ![2, 8, 4, 6144]⟩
abbrev S2x8x1x6144 : Shape := ⟨4, ![2, 8, 1, 6144]⟩
abbrev S1x512x896 : Shape := ⟨3, ![1, 512, 896]⟩
abbrev S1x6144x128 : Shape := ⟨3, ![1, 6144, 128]⟩
abbrev S1x1x7x4x512 : Shape := ⟨5, ![1, 1, 7, 4, 512]⟩
abbrev S1x1x4x6144 : Shape := ⟨4, ![1, 1, 4, 6144]⟩
abbrev S1x1x1x6144 : Shape := ⟨4, ![1, 1, 1, 6144]⟩
abbrev S6144x128 : Shape := ⟨2, ![6144, 128]⟩
abbrev S128x6144 : Shape := ⟨2, ![128, 6144]⟩
abbrev S128x512 : Shape := ⟨2, ![128, 512]⟩
abbrev S6144x512 : Shape := ⟨2, ![6144, 512]⟩
abbrev S1x256x128 : Shape := ⟨3, ![1, 256, 128]⟩
abbrev S256x128 : Shape := ⟨2, ![256, 128]⟩
abbrev S128x256 : Shape := ⟨2, ![128, 256]⟩
abbrev S4x32x256 : Shape := ⟨3, ![4, 32, 256]⟩
abbrev S4x256 : Shape := ⟨2, ![4, 256]⟩
abbrev S4x1x256 : Shape := ⟨3, ![4, 1, 256]⟩
abbrev S1x1x4x256 : Shape := ⟨4, ![1, 1, 4, 256]⟩
abbrev S256 : Shape := ⟨1, ![256]⟩
abbrev S256x1 : Shape := ⟨2, ![256, 1]⟩
abbrev S1x256 : Shape := ⟨2, ![1, 256]⟩
abbrev S1x1x1x256 : Shape := ⟨4, ![1, 1, 1, 256]⟩
abbrev S1x512x128 : Shape := ⟨3, ![1, 512, 128]⟩
abbrev S512x128 : Shape := ⟨2, ![512, 128]⟩
abbrev S4x32x512 : Shape := ⟨3, ![4, 32, 512]⟩
abbrev S4x512 : Shape := ⟨2, ![4, 512]⟩
abbrev S4x1x512 : Shape := ⟨3, ![4, 1, 512]⟩
abbrev S1x1x1x4x512 : Shape := ⟨5, ![1, 1, 1, 4, 512]⟩
abbrev S8x512 : Shape := ⟨2, ![8, 512]⟩
abbrev S512x512 : Shape := ⟨2, ![512, 512]⟩
abbrev S64x8x512 : Shape := ⟨3, ![64, 8, 512]⟩
abbrev S512 : Shape := ⟨1, ![512]⟩
abbrev S1x512 : Shape := ⟨2, ![1, 512]⟩
abbrev S2x224x6144 : Shape := ⟨3, ![2, 224, 6144]⟩
abbrev S2x6144x224 : Shape := ⟨3, ![2, 6144, 224]⟩
abbrev S2x32x6144 : Shape := ⟨3, ![2, 32, 6144]⟩
abbrev S2x6144x32 : Shape := ⟨3, ![2, 6144, 32]⟩
abbrev S2x8x6144 : Shape := ⟨3, ![2, 8, 6144]⟩
abbrev S2x6144x8 : Shape := ⟨3, ![2, 6144, 8]⟩

abbrev nBuf : Space → Nat
  | .hbm => 16
  | .vmem => 26
  | .smem => 0
  | _ => 0

abbrev bufTy : (tb : Table) → Fin (tcTables nBuf tb) → BufTy
  | .hbm, ⟨0, _⟩ => ⟨S2x6144x7168, .bf16⟩
  | .hbm, ⟨1, _⟩ => ⟨S2x6144x1024, .bf16⟩
  | .hbm, ⟨2, _⟩ => ⟨S2x6144x1024, .bf16⟩
  | .hbm, ⟨3, _⟩ => ⟨S2x6144x7168, .bf16⟩
  | .hbm, ⟨4, _⟩ => ⟨S2x6144x7168, .fp8e4m3⟩
  | .hbm, ⟨5, _⟩ => ⟨S2x8x7x4x6144, .f32⟩
  | .hbm, ⟨6, _⟩ => ⟨S2x6144x1024, .fp8e4m3⟩
  | .hbm, ⟨7, _⟩ => ⟨S2x8x4x6144, .f32⟩
  | .hbm, ⟨8, _⟩ => ⟨S2x6144x1024, .fp8e4m3⟩
  | .hbm, ⟨9, _⟩ => ⟨S2x8x1x6144, .f32⟩
  | .hbm, ⟨10, _⟩ => ⟨S2x224x6144, .f32⟩
  | .hbm, ⟨11, _⟩ => ⟨S2x6144x224, .f32⟩
  | .hbm, ⟨12, _⟩ => ⟨S2x32x6144, .f32⟩
  | .hbm, ⟨13, _⟩ => ⟨S2x6144x32, .f32⟩
  | .hbm, ⟨14, _⟩ => ⟨S2x8x6144, .f32⟩
  | .hbm, ⟨15, _⟩ => ⟨S2x6144x8, .f32⟩
  | .local _ .vmem, ⟨0, _⟩ => ⟨S1x512x896, .bf16⟩
  | .local _ .vmem, ⟨1, _⟩ => ⟨S1x512x896, .bf16⟩
  | .local _ .vmem, ⟨2, _⟩ => ⟨S1x6144x128, .bf16⟩
  | .local _ .vmem, ⟨3, _⟩ => ⟨S1x6144x128, .bf16⟩
  | .local _ .vmem, ⟨4, _⟩ => ⟨S1x6144x128, .bf16⟩
  | .local _ .vmem, ⟨5, _⟩ => ⟨S1x6144x128, .bf16⟩
  | .local _ .vmem, ⟨6, _⟩ => ⟨S1x512x896, .bf16⟩
  | .local _ .vmem, ⟨7, _⟩ => ⟨S1x512x896, .bf16⟩
  | .local _ .vmem, ⟨8, _⟩ => ⟨S1x512x896, .fp8e4m3⟩
  | .local _ .vmem, ⟨9, _⟩ => ⟨S1x512x896, .fp8e4m3⟩
  | .local _ .vmem, ⟨10, _⟩ => ⟨S1x1x7x4x512, .f32⟩
  | .local _ .vmem, ⟨11, _⟩ => ⟨S1x1x7x4x512, .f32⟩
  | .local _ .vmem, ⟨12, _⟩ => ⟨S1x6144x128, .fp8e4m3⟩
  | .local _ .vmem, ⟨13, _⟩ => ⟨S1x6144x128, .fp8e4m3⟩
  | .local _ .vmem, ⟨14, _⟩ => ⟨S1x1x4x6144, .f32⟩
  | .local _ .vmem, ⟨15, _⟩ => ⟨S1x1x4x6144, .f32⟩
  | .local _ .vmem, ⟨16, _⟩ => ⟨S1x6144x128, .fp8e4m3⟩
  | .local _ .vmem, ⟨17, _⟩ => ⟨S1x6144x128, .fp8e4m3⟩
  | .local _ .vmem, ⟨18, _⟩ => ⟨S1x1x1x6144, .f32⟩
  | .local _ .vmem, ⟨19, _⟩ => ⟨S1x1x1x6144, .f32⟩
  | .local _ .vmem, ⟨20, _⟩ => ⟨S6144x128, .bf16⟩
  | .local _ .vmem, ⟨21, _⟩ => ⟨S128x6144, .fp8e4m3⟩
  | .local _ .vmem, ⟨22, _⟩ => ⟨S6144x128, .f32⟩
  | .local _ .vmem, ⟨23, _⟩ => ⟨S128x512, .bf16⟩
  | .local _ .vmem, ⟨24, _⟩ => ⟨S6144x512, .f32⟩
  | .local _ .vmem, ⟨25, _⟩ => ⟨S128x512, .f32⟩
  | _, _ => ⟨S2x6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 12], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c24_i32 : BitVec 32 := 24#32
  let v4 : BitVec 32 := Scalar.addi c0_i32_3 c24_i32
  let c1_i32_4 : BitVec 32 := 1#32
  ⟨c0_i32_3, v4, c1_i32_4⟩
def k0_mult1 (k0_t1 : Fin k0_t1_loop.trips) : BitVec 32 :=
  let c0_i32_3 : BitVec 32 := 0#32
  let c1_i32_4 : BitVec 32 := 1#32
  let arg19 : BitVec 32 := Scf.iv c0_i32_3 c1_i32_4 k0_t1
  let c256_i32 : BitVec 32 := 256#32
  let v5 : BitVec 32 := Scalar.muli arg19 c256_i32
  v5
def k0_off1 (k0_t1 : Fin k0_t1_loop.trips) : Fin 3 → Nat :=
  let c0 : Index := 0#32
  let c0_i32_3 : BitVec 32 := 0#32
  let c1_i32_4 : BitVec 32 := 1#32
  let arg19 : BitVec 32 := Scf.iv c0_i32_3 c1_i32_4 k0_t1
  let c256_i32 : BitVec 32 := 256#32
  let v5 : BitVec 32 := Scalar.muli arg19 c256_i32
  let v6 : BitVec 32 := v5
  let v7 : Index := Scalar.indexCast v6
  let c0_6 : Index := 0#32
  ![0, v7.toNat, 0]
def k0_off2 (k0_t1 : Fin k0_t1_loop.trips) : Fin 4 → Nat :=
  let c0_26 : Index := 0#32
  let c0_27 : Index := 0#32
  let c0_28 : Index := 0#32
  let c0_i32_3 : BitVec 32 := 0#32
  let c1_i32_4 : BitVec 32 := 1#32
  let arg19 : BitVec 32 := Scf.iv c0_i32_3 c1_i32_4 k0_t1
  let c256_i32 : BitVec 32 := 256#32
  let v5 : BitVec 32 := Scalar.muli arg19 c256_i32
  let v6 : BitVec 32 := v5
  let v113 : Index := Scalar.indexCast v6
  ![0, 0, 0, v113.toNat]
def k0_off3 (k0_t1 : Fin k0_t1_loop.trips) : Fin 2 → Nat :=
  let c0_i32_3 : BitVec 32 := 0#32
  let c1_i32_4 : BitVec 32 := 1#32
  let arg19 : BitVec 32 := Scf.iv c0_i32_3 c1_i32_4 k0_t1
  let c256_i32 : BitVec 32 := 256#32
  let v5 : BitVec 32 := Scalar.muli arg19 c256_i32
  let v6 : BitVec 32 := v5
  let v120 : Index := Scalar.indexCast v6
  let c0_29 : Index := 0#32
  ![v120.toNat, 0]
def k0_off4 (k0_t1 : Fin k0_t1_loop.trips) : Fin 4 → Nat :=
  let c0_89 : Index := 0#32
  let c0_90 : Index := 0#32
  let c0_91 : Index := 0#32
  let c0_i32_3 : BitVec 32 := 0#32
  let c1_i32_4 : BitVec 32 := 1#32
  let arg19 : BitVec 32 := Scf.iv c0_i32_3 c1_i32_4 k0_t1
  let c256_i32 : BitVec 32 := 256#32
  let v5 : BitVec 32 := Scalar.muli arg19 c256_i32
  let v6 : BitVec 32 := v5
  let v302 : Index := Scalar.indexCast v6
  ![0, 0, 0, v302.toNat]
def k0_off5 (k0_t1 : Fin k0_t1_loop.trips) : Fin 2 → Nat :=
  let c0_94 : Index := 0#32
  let c0_i32_3 : BitVec 32 := 0#32
  let c1_i32_4 : BitVec 32 := 1#32
  let arg19 : BitVec 32 := Scf.iv c0_i32_3 c1_i32_4 k0_t1
  let c256_i32 : BitVec 32 := 256#32
  let v5 : BitVec 32 := Scalar.muli arg19 c256_i32
  let v6 : BitVec 32 := v5
  let v313 : Index := Scalar.indexCast v6
  ![0, v313.toNat]
@[reducible] def k0_t2_loop : Scf.Loop 32 :=
  let c0_i32_1 : BitVec 32 := 0#32
  let c7_i32 : BitVec 32 := 7#32
  let v3 : BitVec 32 := Scalar.addi c0_i32_1 c7_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg19 : BitVec 32 := Scf.iv c0_i32_1 c1_i32 k0_t2
  let c128_i32 : BitVec 32 := 128#32
  let v4 : BitVec 32 := Scalar.muli arg19 c128_i32
  v4
def k0_off6 (k0_t2 : Fin k0_t2_loop.trips) : Fin 3 → Nat :=
  let c0 : Index := 0#32
  let c0_3 : Index := 0#32
  let c0_i32_1 : BitVec 32 := 0#32
  let c1_i32 : BitVec 32 := 1#32
  let arg19 : BitVec 32 := Scf.iv c0_i32_1 c1_i32 k0_t2
  let c128_i32 : BitVec 32 := 128#32
  let v4 : BitVec 32 := Scalar.muli arg19 c128_i32
  let v5 : BitVec 32 := v4
  let v6 : Index := Scalar.indexCast v5
  ![0, 0, v6.toNat]
def k0_off7 (k0_t2 : Fin k0_t2_loop.trips) : Fin 5 → Nat :=
  let c0_24 : Index := 0#32
  let c0_25 : Index := 0#32
  let c0_i32_1 : BitVec 32 := 0#32
  let c1_i32 : BitVec 32 := 1#32
  let arg19 : BitVec 32 := Scf.iv c0_i32_1 c1_i32 k0_t2
  let v112 : Index := Scalar.indexCast arg19
  let c0_26 : Index := 0#32
  let c0_27 : Index := 0#32
  ![0, 0, v112.toNat, 0, 0]
@[reducible] def k0_t3_loop (i : grid0.Coords) : Scf.Loop 32 :=
  let c0_i32_31 : BitVec 32 := 0#32
  let arg2 : BitVec 32 := BitVec.ofNat 32 (i 2).val
  let v120 : BitVec 32 := Scalar.subi arg2 c0_i32_31
  let c1_i32_32 : BitVec 32 := 1#32
  let v122 : BitVec 32 := Scalar.divsi v120 c1_i32_32
  let v123 : BitVec 32 := Scalar.muli v122 c1_i32_32
  let v124 : BitVec 32 := Scalar.addi c0_i32_31 v123
  let c1_i32_33 : BitVec 32 := 1#32
  ⟨c0_i32_31, v124, c1_i32_33⟩
def k0_mult3 (i : grid0.Coords) (k0_t3 : Fin (k0_t3_loop i).trips) : BitVec 32 :=
  let c0_i32_31 : BitVec 32 := 0#32
  let c1_i32_33 : BitVec 32 := 1#32
  let arg20 : BitVec 32 := Scf.iv c0_i32_31 c1_i32_33 k0_t3
  let c512_i32_89 : BitVec 32 := 512#32
  let v267 : BitVec 32 := Scalar.muli arg20 c512_i32_89
  v267
def k0_off8 (i : grid0.Coords) (k0_t3 : Fin (k0_t3_loop i).trips) : Fin 2 → Nat :=
  let c0_i32_31 : BitVec 32 := 0#32
  let c1_i32_33 : BitVec 32 := 1#32
  let arg20 : BitVec 32 := Scf.iv c0_i32_31 c1_i32_33 k0_t3
  let c512_i32_89 : BitVec 32 := 512#32
  let v267 : BitVec 32 := Scalar.muli arg20 c512_i32_89
  let v268 : BitVec 32 := v267
  let v269 : Index := Scalar.indexCast v268
  let c0_90 : Index := 0#32
  ![v269.toNat, 0]
def k0_off9 (i : grid0.Coords) (k0_t3 : Fin (k0_t3_loop i).trips) : Fin 2 → Nat :=
  let c0_i32_31 : BitVec 32 := 0#32
  let c1_i32_33 : BitVec 32 := 1#32
  let arg20 : BitVec 32 := Scf.iv c0_i32_31 c1_i32_33 k0_t3
  let c512_i32_89 : BitVec 32 := 512#32
  let v267 : BitVec 32 := Scalar.muli arg20 c512_i32_89
  let v268 : BitVec 32 := v267
  let v283 : Index := Scalar.indexCast v268
  let c0_97 : Index := 0#32
  ![v283.toNat, 0]
@[reducible] def k0_t4_loop (i : grid0.Coords) : Scf.Loop 32 :=
  let c0_i32_31 : BitVec 32 := 0#32
  let arg2 : BitVec 32 := BitVec.ofNat 32 (i 2).val
  let v120 : BitVec 32 := Scalar.subi arg2 c0_i32_31
  let c1_i32_32 : BitVec 32 := 1#32
  let v122 : BitVec 32 := Scalar.divsi v120 c1_i32_32
  let v123 : BitVec 32 := Scalar.muli v122 c1_i32_32
  let v124 : BitVec 32 := Scalar.addi c0_i32_31 v123
  let v121 : BitVec 32 := Scalar.addi c0_i32_31 v120
  let c1_i32_34 : BitVec 32 := 1#32
  ⟨v124, v121, c1_i32_34⟩
def k0_mult4 (i : grid0.Coords) (k0_t4 : Fin (k0_t4_loop i).trips) : BitVec 32 :=
  let c0_i32_31 : BitVec 32 := 0#32
  let arg2 : BitVec 32 := BitVec.ofNat 32 (i 2).val
  let v120 : BitVec 32 := Scalar.subi arg2 c0_i32_31
  let c1_i32_32 : BitVec 32 := 1#32
  let v122 : BitVec 32 := Scalar.divsi v120 c1_i32_32
  let v123 : BitVec 32 := Scalar.muli v122 c1_i32_32
  let v124 : BitVec 32 := Scalar.addi c0_i32_31 v123
  let c1_i32_34 : BitVec 32 := 1#32
  let arg20 : BitVec 32 := Scf.iv v124 c1_i32_34 k0_t4
  let c512_i32_89 : BitVec 32 := 512#32
  let v267 : BitVec 32 := Scalar.muli arg20 c512_i32_89
  v267
def k0_off10 (i : grid0.Coords) (k0_t4 : Fin (k0_t4_loop i).trips) : Fin 2 → Nat :=
  let c0_i32_31 : BitVec 32 := 0#32
  let arg2 : BitVec 32 := BitVec.ofNat 32 (i 2).val
  let v120 : BitVec 32 := Scalar.subi arg2 c0_i32_31
  let c1_i32_32 : BitVec 32 := 1#32
  let v122 : BitVec 32 := Scalar.divsi v120 c1_i32_32
  let v123 : BitVec 32 := Scalar.muli v122 c1_i32_32
  let v124 : BitVec 32 := Scalar.addi c0_i32_31 v123
  let c1_i32_34 : BitVec 32 := 1#32
  let arg20 : BitVec 32 := Scf.iv v124 c1_i32_34 k0_t4
  let c512_i32_89 : BitVec 32 := 512#32
  let v267 : BitVec 32 := Scalar.muli arg20 c512_i32_89
  let v268 : BitVec 32 := v267
  let v269 : Index := Scalar.indexCast v268
  let c0_90 : Index := 0#32
  ![v269.toNat, 0]
def k0_off11 (i : grid0.Coords) (k0_t4 : Fin (k0_t4_loop i).trips) : Fin 2 → Nat :=
  let c0_i32_31 : BitVec 32 := 0#32
  let arg2 : BitVec 32 := BitVec.ofNat 32 (i 2).val
  let v120 : BitVec 32 := Scalar.subi arg2 c0_i32_31
  let c1_i32_32 : BitVec 32 := 1#32
  let v122 : BitVec 32 := Scalar.divsi v120 c1_i32_32
  let v123 : BitVec 32 := Scalar.muli v122 c1_i32_32
  let v124 : BitVec 32 := Scalar.addi c0_i32_31 v123
  let c1_i32_34 : BitVec 32 := 1#32
  let arg20 : BitVec 32 := Scf.iv v124 c1_i32_34 k0_t4
  let c512_i32_89 : BitVec 32 := 512#32
  let v267 : BitVec 32 := Scalar.muli arg20 c512_i32_89
  let v268 : BitVec 32 := v267
  let v283 : Index := Scalar.indexCast v268
  let c0_97 : Index := 0#32
  ![v283.toNat, 0]
def k0_mult5 (i : grid0.Coords) : BitVec 32 :=
  let arg2 : BitVec 32 := BitVec.ofNat 32 (i 2).val
  let c512_i32 : BitVec 32 := 512#32
  let v127 : BitVec 32 := Scalar.muli arg2 c512_i32
  v127
def k0_off12 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v129 : Index := Scalar.indexCast v128
  let c0_35 : Index := 0#32
  ![v129.toNat, 0]
def k0_off13 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v148 : Index := Scalar.indexCast v128
  let c0_43 : Index := 0#32
  ![v148.toNat, 0]
@[reducible] def k0_t5_loop (i : grid0.Coords) : Scf.Loop 32 :=
  let c0_i32_81 : BitVec 32 := 0#32
  let arg2 : BitVec 32 := BitVec.ofNat 32 (i 2).val
  let c1_i32_79 : BitVec 32 := 1#32
  let v250 : BitVec 32 := Scalar.addi arg2 c1_i32_79
  let v251 : BitVec 32 := Scalar.subi v250 c0_i32_81
  let c1_i32_82 : BitVec 32 := 1#32
  let v253 : BitVec 32 := Scalar.divsi v251 c1_i32_82
  let v254 : BitVec 32 := Scalar.muli v253 c1_i32_82
  let v255 : BitVec 32 := Scalar.addi c0_i32_81 v254
  let c1_i32_83 : BitVec 32 := 1#32
  ⟨c0_i32_81, v255, c1_i32_83⟩
def k0_mult6 (i : grid0.Coords) (k0_t5 : Fin (k0_t5_loop i).trips) : BitVec 32 :=
  let c0_i32_81 : BitVec 32 := 0#32
  let c1_i32_83 : BitVec 32 := 1#32
  let arg20 : BitVec 32 := Scf.iv c0_i32_81 c1_i32_83 k0_t5
  let c512_i32_89 : BitVec 32 := 512#32
  let v267 : BitVec 32 := Scalar.muli arg20 c512_i32_89
  v267
def k0_off14 (i : grid0.Coords) (k0_t5 : Fin (k0_t5_loop i).trips) : Fin 2 → Nat :=
  let c0_i32_81 : BitVec 32 := 0#32
  let c1_i32_83 : BitVec 32 := 1#32
  let arg20 : BitVec 32 := Scf.iv c0_i32_81 c1_i32_83 k0_t5
  let c512_i32_89 : BitVec 32 := 512#32
  let v267 : BitVec 32 := Scalar.muli arg20 c512_i32_89
  let v268 : BitVec 32 := v267
  let v269 : Index := Scalar.indexCast v268
  let c0_90 : Index := 0#32
  ![v269.toNat, 0]
def k0_off15 (i : grid0.Coords) (k0_t5 : Fin (k0_t5_loop i).trips) : Fin 2 → Nat :=
  let c0_94 : Index := 0#32
  let c0_i32_81 : BitVec 32 := 0#32
  let c1_i32_83 : BitVec 32 := 1#32
  let arg20 : BitVec 32 := Scf.iv c0_i32_81 c1_i32_83 k0_t5
  let c512_i32_89 : BitVec 32 := 512#32
  let v267 : BitVec 32 := Scalar.muli arg20 c512_i32_89
  let v268 : BitVec 32 := v267
  let v277 : Index := Scalar.indexCast v268
  ![0, v277.toNat]
@[reducible] def k0_t6_loop (i : grid0.Coords) : Scf.Loop 32 :=
  let c0_i32_81 : BitVec 32 := 0#32
  let arg2 : BitVec 32 := BitVec.ofNat 32 (i 2).val
  let c1_i32_79 : BitVec 32 := 1#32
  let v250 : BitVec 32 := Scalar.addi arg2 c1_i32_79
  let v251 : BitVec 32 := Scalar.subi v250 c0_i32_81
  let c1_i32_82 : BitVec 32 := 1#32
  let v253 : BitVec 32 := Scalar.divsi v251 c1_i32_82
  let v254 : BitVec 32 := Scalar.muli v253 c1_i32_82
  let v255 : BitVec 32 := Scalar.addi c0_i32_81 v254
  let v252 : BitVec 32 := Scalar.addi c0_i32_81 v251
  let c1_i32_84 : BitVec 32 := 1#32
  ⟨v255, v252, c1_i32_84⟩
def k0_mult7 (i : grid0.Coords) (k0_t6 : Fin (k0_t6_loop i).trips) : BitVec 32 :=
  let c0_i32_81 : BitVec 32 := 0#32
  let arg2 : BitVec 32 := BitVec.ofNat 32 (i 2).val
  let c1_i32_79 : BitVec 32 := 1#32
  let v250 : BitVec 32 := Scalar.addi arg2 c1_i32_79
  let v251 : BitVec 32 := Scalar.subi v250 c0_i32_81
  let c1_i32_82 : BitVec 32 := 1#32
  let v253 : BitVec 32 := Scalar.divsi v251 c1_i32_82
  let v254 : BitVec 32 := Scalar.muli v253 c1_i32_82
  let v255 : BitVec 32 := Scalar.addi c0_i32_81 v254
  let c1_i32_84 : BitVec 32 := 1#32
  let arg20 : BitVec 32 := Scf.iv v255 c1_i32_84 k0_t6
  let c512_i32_89 : BitVec 32 := 512#32
  let v267 : BitVec 32 := Scalar.muli arg20 c512_i32_89
  v267
def k0_off16 (i : grid0.Coords) (k0_t6 : Fin (k0_t6_loop i).trips) : Fin 2 → Nat :=
  let c0_i32_81 : BitVec 32 := 0#32
  let arg2 : BitVec 32 := BitVec.ofNat 32 (i 2).val
  let c1_i32_79 : BitVec 32 := 1#32
  let v250 : BitVec 32 := Scalar.addi arg2 c1_i32_79
  let v251 : BitVec 32 := Scalar.subi v250 c0_i32_81
  let c1_i32_82 : BitVec 32 := 1#32
  let v253 : BitVec 32 := Scalar.divsi v251 c1_i32_82
  let v254 : BitVec 32 := Scalar.muli v253 c1_i32_82
  let v255 : BitVec 32 := Scalar.addi c0_i32_81 v254
  let c1_i32_84 : BitVec 32 := 1#32
  let arg20 : BitVec 32 := Scf.iv v255 c1_i32_84 k0_t6
  let c512_i32_89 : BitVec 32 := 512#32
  let v267 : BitVec 32 := Scalar.muli arg20 c512_i32_89
  let v268 : BitVec 32 := v267
  let v269 : Index := Scalar.indexCast v268
  let c0_90 : Index := 0#32
  ![v269.toNat, 0]
def k0_off17 (i : grid0.Coords) (k0_t6 : Fin (k0_t6_loop i).trips) : Fin 2 → Nat :=
  let c0_94 : Index := 0#32
  let c0_i32_81 : BitVec 32 := 0#32
  let arg2 : BitVec 32 := BitVec.ofNat 32 (i 2).val
  let c1_i32_79 : BitVec 32 := 1#32
  let v250 : BitVec 32 := Scalar.addi arg2 c1_i32_79
  let v251 : BitVec 32 := Scalar.subi v250 c0_i32_81
  let c1_i32_82 : BitVec 32 := 1#32
  let v253 : BitVec 32 := Scalar.divsi v251 c1_i32_82
  let v254 : BitVec 32 := Scalar.muli v253 c1_i32_82
  let v255 : BitVec 32 := Scalar.addi c0_i32_81 v254
  let c1_i32_84 : BitVec 32 := 1#32
  let arg20 : BitVec 32 := Scf.iv v255 c1_i32_84 k0_t6
  let c512_i32_89 : BitVec 32 := 512#32
  let v267 : BitVec 32 := Scalar.muli arg20 c512_i32_89
  let v268 : BitVec 32 := v267
  let v277 : Index := Scalar.indexCast v268
  ![0, v277.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x6144x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x6144x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x896 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x7x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x6144x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x6144x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "exp2_scale" => some ((50 * (Real.log 2)⁻¹ : ℝ) : EReal)
  | "tanh_scale" => some (((Real.sqrt 128)⁻¹ * (1 / 50) : ℝ) : EReal)
  | _ => none
-- ==== ReferenceIdeal.lean ====
abbrev S2x6144x7168 : Shape := ⟨3, ![2, 6144, 7168]⟩
abbrev S2x6144x1024 : Shape := ⟨3, ![2, 6144, 1024]⟩
abbrev S2x6144x224 : Shape := ⟨3, ![2, 6144, 224]⟩
abbrev S2x6144x32 : Shape := ⟨3, ![2, 6144, 32]⟩
abbrev S2x6144x8 : Shape := ⟨3, ![2, 6144, 8]⟩
abbrev S2x6144x224x32 : Shape := ⟨4, ![2, 6144, 224, 32]⟩
abbrev S2x6144x224x1 : Shape := ⟨4, ![2, 6144, 224, 1]⟩
abbrev S2x6144x32x32 : Shape := ⟨4, ![2, 6144, 32, 32]⟩
abbrev S2x6144x32x1 : Shape := ⟨4, ![2, 6144, 32, 1]⟩
abbrev S2x6144x8x128 : Shape := ⟨4, ![2, 6144, 8, 128]⟩
abbrev S2x6144x8x1 : Shape := ⟨4, ![2, 6144, 8, 1]⟩
abbrev S2x6144x8x7x128 : Shape := ⟨5, ![2, 6144, 8, 7, 128]⟩
abbrev S2x8x7x6144x128 : Shape := ⟨5, ![2, 8, 7, 6144, 128]⟩
abbrev S16x43008x128 : Shape := ⟨3, ![16, 43008, 128]⟩
abbrev S2x8x6144x128 : Shape := ⟨4, ![2, 8, 6144, 128]⟩
abbrev S16x6144x128 : Shape := ⟨3, ![16, 6144, 128]⟩
abbrev S16x43008x6144 : Shape := ⟨3, ![16, 43008, 6144]⟩
abbrev S16x7x6144x6144 : Shape := ⟨4, ![16, 7, 6144, 6144]⟩
abbrev S16x7x6144 : Shape := ⟨3, ![16, 7, 6144]⟩
abbrev S16x7x6144x1 : Shape := ⟨4, ![16, 7, 6144, 1]⟩
abbrev S2x8x6144 : Shape := ⟨3, ![2, 8, 6144]⟩
abbrev S16x1x1x6144 : Shape := ⟨4, ![16, 1, 1, 6144]⟩
abbrev S16x7x6144x128 : Shape := ⟨4, ![16, 7, 6144, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x6144x7168, .bf16⟩
  | .hbm, ⟨1, _⟩ => ⟨S2x6144x1024, .bf16⟩
  | .hbm, ⟨2, _⟩ => ⟨S2x6144x1024, .bf16⟩
  | .hbm, ⟨3, _⟩ => ⟨S2x6144x7168, .bf16⟩
  | .hbm, ⟨4, _⟩ => ⟨S2x6144x7168, .fp8e4m3⟩
  | .hbm, ⟨5, _⟩ => ⟨S2x6144x224, .f32⟩
  | .hbm, ⟨6, _⟩ => ⟨S2x6144x1024, .fp8e4m3⟩
  | .hbm, ⟨7, _⟩ => ⟨S2x6144x32, .f32⟩
  | .hbm, ⟨8, _⟩ => ⟨S2x6144x1024, .fp8e4m3⟩
  | .hbm, ⟨9, _⟩ => ⟨S2x6144x8, .f32⟩
  | .local _ .vmem, ⟨0, _⟩ => ⟨S2x6144x7168, .bf16⟩
  | .local _ .vmem, ⟨1, _⟩ => ⟨S2x6144x1024, .bf16⟩
  | .local _ .vmem, ⟨2, _⟩ => ⟨S2x6144x1024, .bf16⟩
  | .local _ .vmem, ⟨3, _⟩ => ⟨S2x6144x7168, .bf16⟩
  | .local _ .vmem, ⟨4, _⟩ => ⟨S2x6144x7168, .fp8e4m3⟩
  | .local _ .vmem, ⟨5, _⟩ => ⟨S2x6144x224, .f32⟩
  | .local _ .vmem, ⟨6, _⟩ => ⟨S2x6144x1024, .fp8e4m3⟩
  | .local _ .vmem, ⟨7, _⟩ => ⟨S2x6144x32, .f32⟩
  | .local _ .vmem, ⟨8, _⟩ => ⟨S2x6144x1024, .fp8e4m3⟩
  | .local _ .vmem, ⟨9, _⟩ => ⟨S2x6144x8, .f32⟩
  | _, _ => ⟨S2x6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln_2" => some ((Real.log 2 : ℝ) : EReal)
  | "score_scale" => some (((Real.sqrt 128)⁻¹ : ℝ) : EReal)
  | _ => none

abbrev grid0 : Pipeline.Grid := .none

abbrev stage0_0 : Fin 1 → Memref sig .tc .vmem S2x6144x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x6144x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x6144x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x6144x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelHead.lean ====
/- One head of the query loop: the pieces it stores, and the loop's invariant over them. -/
module

public import proofs.«01_k».proof.Proof.Gen.Kernel.Loops
public import proofs.«01_k».proof.Proof.Gen.Kernel.Frame

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)
    (arg2 : BitVec 32)
    (X3 : BufTy.Contents (Elt F) arg3.view.ty) (X13 : BufTy.Contents (Elt F) arg13.view.ty) (X14 : BufTy.Contents (Elt F) arg14.view.ty) (X15 : BufTy.Contents (Elt F) arg15.view.ty)

/-- One trip of the head loop at a symbolic head `k`: the pieces it stores into the output block, the query codes and
    the query scales, as functions of what the three scratch buffers it overwrites held before. -/
@[irreducible] def tripHead (k : Fin k0_t2_loop.trips) :
    Σ' (L6 : BufTy.Contents (Elt F) arg16.view.ty → BufTy.Contents (Elt F) arg17.view.ty → BufTy.Contents (Elt F) arg18.view.ty → List (View.Piece (Elt F) S1x512x896 .bf16))
      (L7 : BufTy.Contents (Elt F) arg16.view.ty → BufTy.Contents (Elt F) arg17.view.ty → BufTy.Contents (Elt F) arg18.view.ty → List (View.Piece (Elt F) S1x512x896 .fp8e4m3)),
      { L8 : BufTy.Contents (Elt F) arg16.view.ty → BufTy.Contents (Elt F) arg17.view.ty → BufTy.Contents (Elt F) arg18.view.ty → List (View.Piece (Elt F) S1x1x7x4x512 .f32) // ∀ (E : Set ℕ) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty),
        (iprop((arg3.view.loc (c : Thread nD τ) ↦[arg3.view.set]{fullShare} X3) ∗
          (arg13.view.loc (c : Thread nD τ) ↦[arg13.view.set]{fullShare} X13) ∗
          (arg14.view.loc (c : Thread nD τ) ↦[arg14.view.set]{fullShare} X14) ∗
          (arg15.view.loc (c : Thread nD τ) ↦[arg15.view.set]{fullShare} X15) ∗
          (arg6.view.loc (c : Thread nD τ) ↦[arg6.view.set]{fullShare} f6) ∗
          (arg7.view.loc (c : Thread nD τ) ↦[arg7.view.set]{fullShare} f7) ∗
          (arg8.view.loc (c : Thread nD τ) ↦[arg8.view.set]{fullShare} f8) ∗
          (arg16.view.loc (c : Thread nD τ) ↦[arg16.view.set]{fullShare} f16) ∗
          (arg17.view.loc (c : Thread nD τ) ↦[arg17.view.set]{fullShare} f17) ∗
          (arg18.view.loc (c : Thread nD τ) ↦[arg18.view.set]{fullShare} f18)) : sProp 𝕄G)
        ⊢ wp frame (wpE (defs₀ (F := F)) 𝒱 (c : Thread nD τ) bd) E
          (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k PUnit.unit)
          (fun _ => iprop((arg3.view.loc (c : Thread nD τ) ↦[arg3.view.set]{fullShare} X3) ∗
            (arg13.view.loc (c : Thread nD τ) ↦[arg13.view.set]{fullShare} X13) ∗
            (arg14.view.loc (c : Thread nD τ) ↦[arg14.view.set]{fullShare} X14) ∗
            (arg15.view.loc (c : Thread nD τ) ↦[arg15.view.set]{fullShare} X15) ∗
            (arg6.view.loc (c : Thread nD τ) ↦[arg6.view.set]{fullShare} (arg6.view.writes (Elt F) f6 (L6 f16 f17 f18))) ∗
            (arg7.view.loc (c : Thread nD τ) ↦[arg7.view.set]{fullShare} (arg7.view.writes (Elt F) f7 (L7 f16 f17 f18))) ∗
            (arg8.view.loc (c : Thread nD τ) ↦[arg8.view.set]{fullShare} (arg8.view.writes (Elt F) f8 (L8 f16 f17 f18))) ∗
            (∃ f, (arg16.view.loc (c : Thread nD τ) ↦[arg16.view.set]{fullShare} f)) ∗
            (∃ f, (arg17.view.loc (c : Thread nD τ) ↦[arg17.view.set]{fullShare} f)) ∗
            (∃ f, (arg18.view.loc (c : Thread nD τ) ↦[arg18.view.set]{fullShare} f)))) } := by
  have hk : k.val < 7 := Nat.lt_of_lt_of_le k.isLt k0_t2_abs.2.1
  refine ⟨?_, ?_, ?_, fun E f6 f7 f8 f16 f17 f18 => ?run⟩
  case run =>
    unfold k0_t2_body
    rw [k0_part8_eq_skeleton, k0_part9_eq_skeleton, k0_part10_eq_skeleton, k0_part11_eq_skeleton,
      k0_part12_eq_skeleton, k0_part13_eq_skeleton]
    iintro ⟨HR3, HR13, HR14, HR15, HW6, HW7, HW8, HJ16, HJ17, HJ18⟩
    sl_exec
    sl_step
    sl_close

/-- What the three outputs of the head loop may hold before head `k`, from what they held before the loop: each head
    before `k` has stored its pieces, whatever the scratch buffers held when it began. -/
inductive Reach (G6 : BufTy.Contents (Elt F) arg6.view.ty) (G7 : BufTy.Contents (Elt F) arg7.view.ty) (G8 : BufTy.Contents (Elt F) arg8.view.ty) :
    ℕ → BufTy.Contents (Elt F) arg6.view.ty → BufTy.Contents (Elt F) arg7.view.ty → BufTy.Contents (Elt F) arg8.view.ty → Prop
  | zero : Reach G6 G7 G8 0 G6 G7 G8
  | succ (k : Fin k0_t2_loop.trips) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty) :
      Reach G6 G7 G8 k.val f6 f7 f8 →
      Reach G6 G7 G8 (k.val + 1)
        (arg6.view.writes (Elt F) f6 ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).1 f16 f17 f18))
        (arg7.view.writes (Elt F) f7 ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).2.1 f16 f17 f18))
        (arg8.view.writes (Elt F) f8 ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).2.2.1 f16 f17 f18))

set_option warn.classDefReducibility false in
/-- The head loop by its invariant: the prepared keys and values unchanged, the three outputs reached by the heads
    done so far, the scratch buffers at anything. -/
@[sl_loop] def loopInv_k0_t2 (E : Set ℕ) (G6 : BufTy.Contents (Elt F) arg6.view.ty) (G7 : BufTy.Contents (Elt F) arg7.view.ty) (G8 : BufTy.Contents (Elt F) arg8.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 where
  inv k _ := iprop((arg3.view.loc (c : Thread nD τ) ↦[arg3.view.set]{fullShare} X3) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗
      (∃ f16, (arg16.view.loc (c : Thread nD τ) ↦[arg16.view.set]{fullShare} f16)) ∗ (∃ f17, (arg17.view.loc (c : Thread nD τ) ↦[arg17.view.set]{fullShare} f17)) ∗ (∃ f18, (arg18.view.loc (c : Thread nD τ) ↦[arg18.view.set]{fullShare} f18)) ∗
      (∃ f6, ∃ f7, ∃ f8, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗
        ⌜Reach (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 G6 G7 G8 k f6 f7 f8⌝))
  step k acc := by
    iintro ⟨HR3, HR13, HR14, HR15, ⟨%f16, HJ16⟩, ⟨%f17, HJ17⟩, ⟨%f18, HJ18⟩, ⟨%f6, %f7, %f8, HW6, HW7, HW8, %hr⟩⟩
    iapply (wp_wand_r Idealize.ShloMosaic.frame (wpE (defs₀ (F := F)) 𝒱 (c : Thread nD τ) bd) E)
    isplitl [HR3 HR13 HR14 HR15 HW6 HW7 HW8 HJ16 HJ17 HJ18]
    · iapply ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).2.2.2 E f6 f7 f8 f16 f17 f18)
      isplitl [HR3]; · iexact HR3
      isplitl [HR13]; · iexact HR13
      isplitl [HR14]; · iexact HR14
      isplitl [HR15]; · iexact HR15
      isplitl [HW6]; · iexact HW6
      isplitl [HW7]; · iexact HW7
      isplitl [HW8]; · iexact HW8
      isplitl [HJ16]; · iexact HJ16
      isplitl [HJ17]; · iexact HJ17
      iexact HJ18
    · iintro %_ ⟨HR3, HR13, HR14, HR15, HW6, HW7, HW8, HJ16, HJ17, HJ18⟩
      isplitl [HR3]; · iexact HR3
      isplitl [HR13]; · iexact HR13
      isplitl [HR14]; · iexact HR14
      isplitl [HR15]; · iexact HR15
      isplitl [HJ16]; · iexact HJ16
      isplitl [HJ17]; · iexact HJ17
      isplitl [HJ18]; · iexact HJ18
      iexists _, _, _
      isplitl [HW6]; · iexact HW6
      isplitl [HW7]; · iexact HW7
      isplitl [HW8]; · iexact HW8
      ipureintro
      exact Reach.succ k f6 f7 f8 f16 f17 f18 hr

end Cert.Proof.Kernel

end
-- ==== Proof.KernelBody.lean ====
/- The kernel's body at one grid point: what it leaves in every buffer it touches. -/
module

public import proofs.«01_k».proof.Proof.KernelHead

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)

/-- The body at the first query block of a group: the keys and values are prepared, then the heads run over them. -/
theorem bodyFirst (h1 : k0_cond1 i = 1#1) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)
    (K : PUnit → sProp 𝕄G) :
    (iprop((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg6.view.loc (c : Thread nD τ) ↦[arg6.view.set]{fullShare} f6) ∗
        (arg7.view.loc (c : Thread nD τ) ↦[arg7.view.set]{fullShare} f7) ∗
        (arg8.view.loc (c : Thread nD τ) ↦[arg8.view.set]{fullShare} f8) ∗
        (arg9.view.loc (c : Thread nD τ) ↦[arg9.view.set]{fullShare} f9) ∗
        (arg10.view.loc (c : Thread nD τ) ↦[arg10.view.set]{fullShare} f10) ∗
        (arg11.view.loc (c : Thread nD τ) ↦[arg11.view.set]{fullShare} f11) ∗
        (arg12.view.loc (c : Thread nD τ) ↦[arg12.view.set]{fullShare} f12) ∗
        (arg13.view.loc (c : Thread nD τ) ↦[arg13.view.set]{fullShare} f13) ∗
        (arg14.view.loc (c : Thread nD τ) ↦[arg14.view.set]{fullShare} f14) ∗
        (arg15.view.loc (c : Thread nD τ) ↦[arg15.view.set]{fullShare} f15) ∗
        (arg16.view.loc (c : Thread nD τ) ↦[arg16.view.set]{fullShare} f16) ∗
        (arg17.view.loc (c : Thread nD τ) ↦[arg17.view.set]{fullShare} f17) ∗
        (arg18.view.loc (c : Thread nD τ) ↦[arg18.view.set]{fullShare} f18) ∗
      (((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg9.view.loc (c : Thread nD τ) ↦[arg9.view.set]{fullShare} (arg9.view.writes (Elt F) f9 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).1)) ∗
        (arg10.view.loc (c : Thread nD τ) ↦[arg10.view.set]{fullShare} (arg10.view.writes (Elt F) f10 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.1)) ∗
        (arg11.view.loc (c : Thread nD τ) ↦[arg11.view.set]{fullShare} (arg11.view.writes (Elt F) f11 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.1)) ∗
        (arg12.view.loc (c : Thread nD τ) ↦[arg12.view.set]{fullShare} (arg12.view.writes (Elt F) f12 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.1)) ∗
        (arg13.view.loc (c : Thread nD τ) ↦[arg13.view.set]{fullShare} (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1)) ∗
        (arg14.view.loc (c : Thread nD τ) ↦[arg14.view.set]{fullShare} (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1)) ∗
        (arg15.view.loc (c : Thread nD τ) ↦[arg15.view.set]{fullShare} (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2)) ∗
        (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗
        (∃ g6, ∃ g7, ∃ g8, (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗
          ⌜Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1) (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1) (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2) f6 f7 f8 k0_t2_loop.trips g6 g7 g8⌝)) -∗ K ⟨⟩)) : sProp 𝕄G)
      ⊢ wp frame (wpE (defs₀ (F := F)) Variants.none (c : Thread nD τ) none) Set.univ (cc0_softcap_gqa (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H3, H4, H5, H6, H7, H8, H9, H10, H11, H12, H13, H14, H15, H16, H17, H18, Hk⟩
  have hz : Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1) (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1) (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2) f6 f7 f8 0 f6 f7 f8 := Reach.zero
  let L := loopInv_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1) (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1) (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2) Set.univ f6 f7 f8
  sl_unfold [cc0_softcap_gqa]
  sl_exec
  sl_step
  iapply Hk
  sl_close

/-- The body at a later query block of a group: the heads run over the keys and values the scratch buffers hold. -/
theorem bodyRest (h1 : ¬ k0_cond1 i = 1#1) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (f16 : BufTy.Contents (Elt F) arg16.view.ty) (f17 : BufTy.Contents (Elt F) arg17.view.ty) (f18 : BufTy.Contents (Elt F) arg18.view.ty)
    (K : PUnit → sProp 𝕄G) :
    (iprop((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg6.view.loc (c : Thread nD τ) ↦[arg6.view.set]{fullShare} f6) ∗
        (arg7.view.loc (c : Thread nD τ) ↦[arg7.view.set]{fullShare} f7) ∗
        (arg8.view.loc (c : Thread nD τ) ↦[arg8.view.set]{fullShare} f8) ∗
        (arg9.view.loc (c : Thread nD τ) ↦[arg9.view.set]{fullShare} X9) ∗
        (arg10.view.loc (c : Thread nD τ) ↦[arg10.view.set]{fullShare} X10) ∗
        (arg11.view.loc (c : Thread nD τ) ↦[arg11.view.set]{fullShare} X11) ∗
        (arg12.view.loc (c : Thread nD τ) ↦[arg12.view.set]{fullShare} X12) ∗
        (arg13.view.loc (c : Thread nD τ) ↦[arg13.view.set]{fullShare} X13) ∗
        (arg14.view.loc (c : Thread nD τ) ↦[arg14.view.set]{fullShare} X14) ∗
        (arg15.view.loc (c : Thread nD τ) ↦[arg15.view.set]{fullShare} X15) ∗
        (arg16.view.loc (c : Thread nD τ) ↦[arg16.view.set]{fullShare} f16) ∗
        (arg17.view.loc (c : Thread nD τ) ↦[arg17.view.set]{fullShare} f17) ∗
        (arg18.view.loc (c : Thread nD τ) ↦[arg18.view.set]{fullShare} f18) ∗
      (((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg9.view.loc (c : Thread nD τ) ↦[arg9.view.set]{fullShare} X9) ∗
        (arg10.view.loc (c : Thread nD τ) ↦[arg10.view.set]{fullShare} X10) ∗
        (arg11.view.loc (c : Thread nD τ) ↦[arg11.view.set]{fullShare} X11) ∗
        (arg12.view.loc (c : Thread nD τ) ↦[arg12.view.set]{fullShare} X12) ∗
        (arg13.view.loc (c : Thread nD τ) ↦[arg13.view.set]{fullShare} X13) ∗
        (arg14.view.loc (c : Thread nD τ) ↦[arg14.view.set]{fullShare} X14) ∗
        (arg15.view.loc (c : Thread nD τ) ↦[arg15.view.set]{fullShare} X15) ∗
        (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗
        (∃ g6, ∃ g7, ∃ g8, (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗
          ⌜Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 X13 X14 X15 f6 f7 f8 k0_t2_loop.trips g6 g7 g8⌝)) -∗ K ⟨⟩)) : sProp 𝕄G)
      ⊢ wp frame (wpE (defs₀ (F := F)) Variants.none (c : Thread nD τ) none) Set.univ (cc0_softcap_gqa (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H3, H4, H5, H6, H7, H8, H9, H10, H11, H12, H13, H14, H15, H16, H17, H18, Hk⟩
  have hz : Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 X13 X14 X15 f6 f7 f8 0 f6 f7 f8 := Reach.zero
  let L := loopInv_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 X13 X14 X15 Set.univ f6 f7 f8
  sl_unfold [cc0_softcap_gqa]
  sl_exec
  sl_step
  iapply Hk
  sl_close

end Cert.Proof.Kernel

end
-- ==== Proof.KernelFrame.lean ====
/- The kernel runs to its end from every launch, leaves its three arguments as they were, and every semaphore counter
   at zero. -/
module

public import proofs.«01_k».proof.Proof.KernelBody
public import Idealize.ShloMosaic.Adequacy
public import Idealize.ShloMosaic.Init

@[expose] public section

set_option maxRecDepth 16384
set_option maxHeartbeats 1000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, whose contents the frame claim says nothing of. -/
def forgets : Fin 10 → Bool := fun w => Nat.ble 3 w.val

/-- The proof data: each array as the region finds it, each input block left in place, the scratch buffers at
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | w => Pipeline.Dat.unnamed (cfg := cfg0) w t
  Φ _ := Pipeline.ΦA spec0 c
  q _ := fullShare
  owed _ := 0

/-- The invariant opened: the six scratch buffers and the generator register, each at something. -/
theorem phi_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- The body at a point, whichever of its two cases the point is. -/
theorem sound_body (c : Dev nD) (t : Fin cfg0.N) :
    bodyPre m c t ⊢ wp frame (wpE (defs₀ (F := F)) Variants.none c none) Set.univ (bodyAt0 t) (fun _ => bodyPost m c t) := by
  have b0 := fun d => before0_0_of m (dats m 0 c) rfl (fun _ => rfl) t d
  have b1 := fun d => before0_1_of m (dats m 0 c) rfl (fun _ => rfl) t d
  have b2 := fun d => before0_2_of m (dats m 0 c) rfl (fun _ => rfl) t d
  unfold bodyPre bodyPost
  simp only [b0, b1, b2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq,
    show (dats m 0 c).after 0 t = iblk m c 0 t from rfl, show (dats m 0 c).after 1 t = iblk m c 1 t from rfl,
    show (dats m 0 c).after 2 t = iblk m c 2 t from rfl]
  generalize (dats m 0 c).owesAt () t.castSucc = O
  generalize iblk m c 0 t = x0
  generalize iblk m c 1 t = x1
  generalize iblk m c 2 t = x2
  unfold owns
  iintro ⟨⟨⟨⟨%d13, %f13, -, H13⟩, ⟨%d14, %f14, -, H14⟩, ⟨%d15, %f15, -, H15⟩, ⟨%d16, %f16, -, H16⟩, ⟨%d17, %f17, -, H17⟩, ⟨%d18, %f18, -, H18⟩⟩, Hg⟩, HO, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩
  by_cases h1 : k0_cond1 (grid0.coords t) = 1#1
  · iapply (bodyFirst (F := F) c (grid0.coords t) _ _ _ _ _ _ _ _ _ _ _ _ _ _ _ _ _ _ _ _ _ _ _ _ _ _ _ _ _ _ _ _ h1 f3 f4 f5 f6 f7 f8 f9 f10 f11 f12 f13 f14 f15 f16 f17 f18 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H9, H10, H11, H12, H13, H14, H15, ⟨%j16, H16⟩, ⟨%j17, H17⟩, ⟨%j18, H18⟩, ⟨%g6, %g7, %g8, H6, H7, H8, -⟩⟩
    isplitl [Hg H13 H14 H15 H16 H17 H18]
    · isplitr [Hg]
      · isplitl [H13]
        · iexists _, _; isplitr; swap; · iexact H13
          ipureintro; rfl
        isplitl [H14]
        · iexists _, _; isplitr; swap; · iexact H14
          ipureintro; rfl
        isplitl [H15]
        · iexists _, _; isplitr; swap; · iexact H15
          ipureintro; rfl
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      iexact Hg
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl
  · iapply (bodyRest (F := F) c (grid0.coords t) _ _ _ _ _ _ _ _ _ _ _ _ _ _ _ _ _ _ _ _ _ _ _ _ _ _ _ _ _ _ _ _ h1 f3 f4 f5 f6 f7 f8 f9 f10 f11 f12 f13 f14 f15 f16 f17 f18 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H9, H10, H11, H12, H13, H14, H15, ⟨%j16, H16⟩, ⟨%j17, H17⟩, ⟨%j18, H18⟩, ⟨%g6, %g7, %g8, H6, H7, H8, -⟩⟩
    isplitl [Hg H13 H14 H15 H16 H17 H18]
    · isplitr [Hg]
      · isplitl [H13]
        · iexists _, _; isplitr; swap; · iexact H13
          ipureintro; rfl
        isplitl [H14]
        · iexists _, _; isplitr; swap; · iexact H14
          ipureintro; rfl
        isplitl [H15]
        · iexists _, _; isplitr; swap; · iexact H15
          ipureintro; rfl
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      iexact Hg
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body at every point. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The buffers the lines after the kernel write. -/
def tailWrites : Finset (Ref sig .tc) := {main_v1, main_v2, main_v3, main_v4, main_v5, main_v6}

set_option backward.isDefEq.respectTransparency.types false in
/-- From any launch the program ends with its arguments as launched and every counter at zero. -/
theorem quiescent_run :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  Pipeline.θ_run_frame_around_T_forget cfgs (dats m) (0 : Fin 1) launch0 defs₀ Variants.none forgets tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps)
    (hT := by
      intro ops hops op hop b hb
      simp only [List.mem_cons, List.mem_nil_iff, or_false] at hops
      rcases hops with rfl
      simp only [hostOps1, List.mem_cons, List.mem_nil_iff, or_false] at hop
      rcases hop with rfl | rfl | rfl | rfl | rfl | rfl
      all_goals
        simp only [StableHlo.unary_writes, StableHlo.reshape_writes, Finset.mem_singleton] at hb
        simp only [tailWrites, Finset.mem_insert, Finset.mem_singleton]
        have := Proc.devRef_injective _ hb
        simp [this])
    (hmain := hmain m Variants.none) (hA := fun _ _ => rfl) (hΦ := fun _ _ => rfl)
    (Q' := _) (hQ' := fun r h => ⟨fun c =>
      ⟨(h.1.arr_in c 0 rfl), (h.1.arr_in c 1 rfl), (h.1.arr_in c 2 rfl)⟩, h.2⟩)

end Cert.Proof.Kernel

end
-- ==== Proof.IdealHead.lean ====
/- One head of the query loop: the pieces it stores, and the loop's invariant over them. -/
module

public import proofs.«01_k».proof.Proof.Gen.KernelIdeal.Loops
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)
    (arg2 : BitVec 32)
    (X3 : BufTy.Contents (Elt F) arg3.view.ty) (X13 : BufTy.Contents (Elt F) arg13.view.ty) (X14 : BufTy.Contents (Elt F) arg14.view.ty) (X15 : BufTy.Contents (Elt F) arg15.view.ty)

/-- One trip of the head loop at a symbolic head `k`: the pieces it stores into the output block, the query codes and
    the query scales, as functions of what the three scratch buffers it overwrites held before. -/
@[irreducible] def tripHead (k : Fin k0_t2_loop.trips) :
    Σ' (L6 : BufTy.Contents (Elt F) arg16.view.ty → BufTy.Contents (Elt F) arg17.view.ty → BufTy.Contents (Elt F) arg18.view.ty → List (View.Piece (Elt F) S1x512x896 .bf16))
      (L7 : BufTy.Contents (Elt F) arg16.view.ty → BufTy.Contents (Elt F) arg17.view.ty → BufTy.Contents (Elt F) arg18.view.ty → List (View.Piece (Elt F) S1x512x896 .fp8e4m3)),
      { L8 : BufTy.Contents (Elt F) arg16.view.ty → BufTy.Contents (Elt F) arg17.view.ty → BufTy.Contents (Elt F) arg18.view.ty → List (View.Piece (Elt F) S1x1x7x4x512 .f32) // ∀ (E : Set ℕ) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty),
        (iprop((arg3.view.loc (c : Thread nD τ) ↦[arg3.view.set]{fullShare} X3) ∗
          (arg13.view.loc (c : Thread nD τ) ↦[arg13.view.set]{fullShare} X13) ∗
          (arg14.view.loc (c : Thread nD τ) ↦[arg14.view.set]{fullShare} X14) ∗
          (arg15.view.loc (c : Thread nD τ) ↦[arg15.view.set]{fullShare} X15) ∗
          (arg6.view.loc (c : Thread nD τ) ↦[arg6.view.set]{fullShare} f6) ∗
          (arg7.view.loc (c : Thread nD τ) ↦[arg7.view.set]{fullShare} f7) ∗
          (arg8.view.loc (c : Thread nD τ) ↦[arg8.view.set]{fullShare} f8) ∗
          (arg16.view.loc (c : Thread nD τ) ↦[arg16.view.set]{fullShare} f16) ∗
          (arg17.view.loc (c : Thread nD τ) ↦[arg17.view.set]{fullShare} f17) ∗
          (arg18.view.loc (c : Thread nD τ) ↦[arg18.view.set]{fullShare} f18)) : sProp 𝕄G)
        ⊢ wp frame (wpE (defs₀ (F := F)) 𝒱 (c : Thread nD τ) bd) E
          (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k PUnit.unit)
          (fun _ => iprop((arg3.view.loc (c : Thread nD τ) ↦[arg3.view.set]{fullShare} X3) ∗
            (arg13.view.loc (c : Thread nD τ) ↦[arg13.view.set]{fullShare} X13) ∗
            (arg14.view.loc (c : Thread nD τ) ↦[arg14.view.set]{fullShare} X14) ∗
            (arg15.view.loc (c : Thread nD τ) ↦[arg15.view.set]{fullShare} X15) ∗
            (arg6.view.loc (c : Thread nD τ) ↦[arg6.view.set]{fullShare} (arg6.view.writes (Elt F) f6 (L6 f16 f17 f18))) ∗
            (arg7.view.loc (c : Thread nD τ) ↦[arg7.view.set]{fullShare} (arg7.view.writes (Elt F) f7 (L7 f16 f17 f18))) ∗
            (arg8.view.loc (c : Thread nD τ) ↦[arg8.view.set]{fullShare} (arg8.view.writes (Elt F) f8 (L8 f16 f17 f18))) ∗
            (∃ f, (arg16.view.loc (c : Thread nD τ) ↦[arg16.view.set]{fullShare} f)) ∗
            (∃ f, (arg17.view.loc (c : Thread nD τ) ↦[arg17.view.set]{fullShare} f)) ∗
            (∃ f, (arg18.view.loc (c : Thread nD τ) ↦[arg18.view.set]{fullShare} f)))) } := by
  have hk : k.val < 7 := Nat.lt_of_lt_of_le k.isLt k0_t2_abs.2.1
  refine ⟨?_, ?_, ?_, fun E f6 f7 f8 f16 f17 f18 => ?run⟩
  case run =>
    unfold k0_t2_body
    rw [k0_part8_eq_skeleton, k0_part9_eq_skeleton, k0_part10_eq_skeleton, k0_part11_eq_skeleton,
      k0_part12_eq_skeleton, k0_part13_eq_skeleton]
    iintro ⟨HR3, HR13, HR14, HR15, HW6, HW7, HW8, HJ16, HJ17, HJ18⟩
    sl_exec
    sl_step
    sl_close

/-- What the three outputs of the head loop may hold before head `k`, from what they held before the loop: each head
    before `k` has stored its pieces, whatever the scratch buffers held when it began. -/
inductive Reach (G6 : BufTy.Contents (Elt F) arg6.view.ty) (G7 : BufTy.Contents (Elt F) arg7.view.ty) (G8 : BufTy.Contents (Elt F) arg8.view.ty) :
    ℕ → BufTy.Contents (Elt F) arg6.view.ty → BufTy.Contents (Elt F) arg7.view.ty → BufTy.Contents (Elt F) arg8.view.ty → Prop
  | zero : Reach G6 G7 G8 0 G6 G7 G8
  | succ (k : Fin k0_t2_loop.trips) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty) :
      Reach G6 G7 G8 k.val f6 f7 f8 →
      Reach G6 G7 G8 (k.val + 1)
        (arg6.view.writes (Elt F) f6 ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).1 f16 f17 f18))
        (arg7.view.writes (Elt F) f7 ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).2.1 f16 f17 f18))
        (arg8.view.writes (Elt F) f8 ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).2.2.1 f16 f17 f18))

set_option warn.classDefReducibility false in
/-- The head loop by its invariant: the prepared keys and values unchanged, the three outputs reached by the heads
    done so far, the scratch buffers at anything. -/
@[sl_loop] def loopInv_k0_t2 (E : Set ℕ) (G6 : BufTy.Contents (Elt F) arg6.view.ty) (G7 : BufTy.Contents (Elt F) arg7.view.ty) (G8 : BufTy.Contents (Elt F) arg8.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 where
  inv k _ := iprop((arg3.view.loc (c : Thread nD τ) ↦[arg3.view.set]{fullShare} X3) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗
      (∃ f16, (arg16.view.loc (c : Thread nD τ) ↦[arg16.view.set]{fullShare} f16)) ∗ (∃ f17, (arg17.view.loc (c : Thread nD τ) ↦[arg17.view.set]{fullShare} f17)) ∗ (∃ f18, (arg18.view.loc (c : Thread nD τ) ↦[arg18.view.set]{fullShare} f18)) ∗
      (∃ f6, ∃ f7, ∃ f8, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗
        ⌜Reach (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 G6 G7 G8 k f6 f7 f8⌝))
  step k acc := by
    iintro ⟨HR3, HR13, HR14, HR15, ⟨%f16, HJ16⟩, ⟨%f17, HJ17⟩, ⟨%f18, HJ18⟩, ⟨%f6, %f7, %f8, HW6, HW7, HW8, %hr⟩⟩
    iapply (wp_wand_r Idealize.ShloMosaic.frame (wpE (defs₀ (F := F)) 𝒱 (c : Thread nD τ) bd) E)
    isplitl [HR3 HR13 HR14 HR15 HW6 HW7 HW8 HJ16 HJ17 HJ18]
    · iapply ((tripHead (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k).2.2.2 E f6 f7 f8 f16 f17 f18)
      isplitl [HR3]; · iexact HR3
      isplitl [HR13]; · iexact HR13
      isplitl [HR14]; · iexact HR14
      isplitl [HR15]; · iexact HR15
      isplitl [HW6]; · iexact HW6
      isplitl [HW7]; · iexact HW7
      isplitl [HW8]; · iexact HW8
      isplitl [HJ16]; · iexact HJ16
      isplitl [HJ17]; · iexact HJ17
      iexact HJ18
    · iintro %_ ⟨HR3, HR13, HR14, HR15, HW6, HW7, HW8, HJ16, HJ17, HJ18⟩
      isplitl [HR3]; · iexact HR3
      isplitl [HR13]; · iexact HR13
      isplitl [HR14]; · iexact HR14
      isplitl [HR15]; · iexact HR15
      isplitl [HJ16]; · iexact HJ16
      isplitl [HJ17]; · iexact HJ17
      isplitl [HJ18]; · iexact HJ18
      iexists _, _, _
      isplitl [HW6]; · iexact HW6
      isplitl [HW7]; · iexact HW7
      isplitl [HW8]; · iexact HW8
      ipureintro
      exact Reach.succ k f6 f7 f8 f16 f17 f18 hr

end Cert.Proof.KernelIdeal

end
-- ==== Proof.IdealBody.lean ====
/- The kernel's body at one grid point: what it leaves in every buffer it touches. -/
module

public import proofs.«01_k».proof.Proof.IdealHead

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)

/-- The body at the first query block of a group: the keys and values are prepared, then the heads run over them. -/
theorem bodyFirst (h1 : k0_cond1 i = 1#1) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)
    (K : PUnit → sProp 𝕄G) :
    (iprop((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg6.view.loc (c : Thread nD τ) ↦[arg6.view.set]{fullShare} f6) ∗
        (arg7.view.loc (c : Thread nD τ) ↦[arg7.view.set]{fullShare} f7) ∗
        (arg8.view.loc (c : Thread nD τ) ↦[arg8.view.set]{fullShare} f8) ∗
        (arg9.view.loc (c : Thread nD τ) ↦[arg9.view.set]{fullShare} f9) ∗
        (arg10.view.loc (c : Thread nD τ) ↦[arg10.view.set]{fullShare} f10) ∗
        (arg11.view.loc (c : Thread nD τ) ↦[arg11.view.set]{fullShare} f11) ∗
        (arg12.view.loc (c : Thread nD τ) ↦[arg12.view.set]{fullShare} f12) ∗
        (arg13.view.loc (c : Thread nD τ) ↦[arg13.view.set]{fullShare} f13) ∗
        (arg14.view.loc (c : Thread nD τ) ↦[arg14.view.set]{fullShare} f14) ∗
        (arg15.view.loc (c : Thread nD τ) ↦[arg15.view.set]{fullShare} f15) ∗
        (arg16.view.loc (c : Thread nD τ) ↦[arg16.view.set]{fullShare} f16) ∗
        (arg17.view.loc (c : Thread nD τ) ↦[arg17.view.set]{fullShare} f17) ∗
        (arg18.view.loc (c : Thread nD τ) ↦[arg18.view.set]{fullShare} f18) ∗
      (((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg9.view.loc (c : Thread nD τ) ↦[arg9.view.set]{fullShare} (arg9.view.writes (Elt F) f9 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).1)) ∗
        (arg10.view.loc (c : Thread nD τ) ↦[arg10.view.set]{fullShare} (arg10.view.writes (Elt F) f10 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.1)) ∗
        (arg11.view.loc (c : Thread nD τ) ↦[arg11.view.set]{fullShare} (arg11.view.writes (Elt F) f11 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.1)) ∗
        (arg12.view.loc (c : Thread nD τ) ↦[arg12.view.set]{fullShare} (arg12.view.writes (Elt F) f12 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.1)) ∗
        (arg13.view.loc (c : Thread nD τ) ↦[arg13.view.set]{fullShare} (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1)) ∗
        (arg14.view.loc (c : Thread nD τ) ↦[arg14.view.set]{fullShare} (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1)) ∗
        (arg15.view.loc (c : Thread nD τ) ↦[arg15.view.set]{fullShare} (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2)) ∗
        (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗
        (∃ g6, ∃ g7, ∃ g8, (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗
          ⌜Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1) (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1) (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2) f6 f7 f8 k0_t2_loop.trips g6 g7 g8⌝)) -∗ K ⟨⟩)) : sProp 𝕄G)
      ⊢ wp frame (wpE (defs₀ (F := F)) Variants.none (c : Thread nD τ) none) Set.univ (cc0_softcap_gqa (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H3, H4, H5, H6, H7, H8, H9, H10, H11, H12, H13, H14, H15, H16, H17, H18, Hk⟩
  have hz : Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1) (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1) (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2) f6 f7 f8 0 f6 f7 f8 := Reach.zero
  let L := loopInv_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 (arg13.view.writes (Elt F) f13 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1) (arg14.view.writes (Elt F) f14 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1) (arg15.view.writes (Elt F) f15 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2) Set.univ f6 f7 f8
  sl_unfold [cc0_softcap_gqa]
  sl_exec
  sl_step
  iapply Hk
  sl_close

/-- The body at a later query block of a group: the heads run over the keys and values the scratch buffers hold. -/
theorem bodyRest (h1 : ¬ k0_cond1 i = 1#1) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (f16 : BufTy.Contents (Elt F) arg16.view.ty) (f17 : BufTy.Contents (Elt F) arg17.view.ty) (f18 : BufTy.Contents (Elt F) arg18.view.ty)
    (K : PUnit → sProp 𝕄G) :
    (iprop((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg6.view.loc (c : Thread nD τ) ↦[arg6.view.set]{fullShare} f6) ∗
        (arg7.view.loc (c : Thread nD τ) ↦[arg7.view.set]{fullShare} f7) ∗
        (arg8.view.loc (c : Thread nD τ) ↦[arg8.view.set]{fullShare} f8) ∗
        (arg9.view.loc (c : Thread nD τ) ↦[arg9.view.set]{fullShare} X9) ∗
        (arg10.view.loc (c : Thread nD τ) ↦[arg10.view.set]{fullShare} X10) ∗
        (arg11.view.loc (c : Thread nD τ) ↦[arg11.view.set]{fullShare} X11) ∗
        (arg12.view.loc (c : Thread nD τ) ↦[arg12.view.set]{fullShare} X12) ∗
        (arg13.view.loc (c : Thread nD τ) ↦[arg13.view.set]{fullShare} X13) ∗
        (arg14.view.loc (c : Thread nD τ) ↦[arg14.view.set]{fullShare} X14) ∗
        (arg15.view.loc (c : Thread nD τ) ↦[arg15.view.set]{fullShare} X15) ∗
        (arg16.view.loc (c : Thread nD τ) ↦[arg16.view.set]{fullShare} f16) ∗
        (arg17.view.loc (c : Thread nD τ) ↦[arg17.view.set]{fullShare} f17) ∗
        (arg18.view.loc (c : Thread nD τ) ↦[arg18.view.set]{fullShare} f18) ∗
      (((arg3.view.loc (c : Thread nD τ) ↦[arg3.view.set]{fullShare} X3) ∗
        (arg4.view.loc (c : Thread nD τ) ↦[arg4.view.set]{fullShare} X4) ∗
        (arg5.view.loc (c : Thread nD τ) ↦[arg5.view.set]{fullShare} X5) ∗
        (arg9.view.loc (c : Thread nD τ) ↦[arg9.view.set]{fullShare} X9) ∗
        (arg10.view.loc (c : Thread nD τ) ↦[arg10.view.set]{fullShare} X10) ∗
        (arg11.view.loc (c : Thread nD τ) ↦[arg11.view.set]{fullShare} X11) ∗
        (arg12.view.loc (c : Thread nD τ) ↦[arg12.view.set]{fullShare} X12) ∗
        (arg13.view.loc (c : Thread nD τ) ↦[arg13.view.set]{fullShare} X13) ∗
        (arg14.view.loc (c : Thread nD τ) ↦[arg14.view.set]{fullShare} X14) ∗
        (arg15.view.loc (c : Thread nD τ) ↦[arg15.view.set]{fullShare} X15) ∗
        (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗
        (∃ g6, ∃ g7, ∃ g8, (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗
          ⌜Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 X13 X14 X15 f6 f7 f8 k0_t2_loop.trips g6 g7 g8⌝)) -∗ K ⟨⟩)) : sProp 𝕄G)
      ⊢ wp frame (wpE (defs₀ (F := F)) Variants.none (c : Thread nD τ) none) Set.univ (cc0_softcap_gqa (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H3, H4, H5, H6, H7, H8, H9, H10, H11, H12, H13, H14, H15, H16, H17, H18, Hk⟩
  have hz : Reach (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 X13 X14 X15 f6 f7 f8 0 f6 f7 f8 := Reach.zero
  let L := loopInv_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) X3 X13 X14 X15 Set.univ f6 f7 f8
  sl_unfold [cc0_softcap_gqa]
  sl_exec
  sl_step
  iapply Hk
  sl_close

end Cert.Proof.KernelIdeal

end
-- ==== Proof.IdealFrame.lean ====
/- The kernel runs to its end from every launch, leaves its three arguments as they were, and every semaphore counter
   at zero. -/
module

public import proofs.«01_k».proof.Proof.IdealBody
public import Idealize.ShloMosaic.Adequacy
public import Idealize.ShloMosaic.Init

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output windows, whose contents the frame claim says nothing of. -/
def forgets : Fin 10 → Bool := fun w => Nat.ble 3 w.val

/-- The proof data: each array as the region finds it, each input block left in place, the scratch buffers at
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | w => Pipeline.Dat.unnamed (cfg := cfg0) w t
  Φ _ := Pipeline.ΦA spec0 c
  q _ := fullShare
  owed _ := 0

/-- The invariant opened: the six scratch buffers and the generator register, each at something. -/
theorem phi_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- The body at a point, whichever of its two cases the point is. -/
theorem sound_body (c : Dev nD) (t : Fin cfg0.N) :
    bodyPre m c t ⊢ wp frame (wpE (defs₀ (F := F)) Variants.none c none) Set.univ (bodyAt0 t) (fun _ => bodyPost m c t) := by
  have b0 := fun d => before0_0_of m (dats m 0 c) rfl (fun _ => rfl) t d
  have b1 := fun d => before0_1_of m (dats m 0 c) rfl (fun _ => rfl) t d
  have b2 := fun d => before0_2_of m (dats m 0 c) rfl (fun _ => rfl) t d
  unfold bodyPre bodyPost
  simp only [b0, b1, b2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq,
    show (dats m 0 c).after 0 t = iblk m c 0 t from rfl, show (dats m 0 c).after 1 t = iblk m c 1 t from rfl,
    show (dats m 0 c).after 2 t = iblk m c 2 t from rfl]
  generalize (dats m 0 c).owesAt () t.castSucc = O
  generalize iblk m c 0 t = x0
  generalize iblk m c 1 t = x1
  generalize iblk m c 2 t = x2
  unfold owns
  iintro ⟨⟨⟨⟨%d13, %f13, -, H13⟩, ⟨%d14, %f14, -, H14⟩, ⟨%d15, %f15, -, H15⟩, ⟨%d16, %f16, -, H16⟩, ⟨%d17, %f17, -, H17⟩, ⟨%d18, %f18, -, H18⟩⟩, Hg⟩, HO, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩
  by_cases h1 : k0_cond1 (grid0.coords t) = 1#1
  · iapply (bodyFirst (F := F) c (grid0.coords t) _ _ _ _ _ _ _ _ _ _ _ _ _ _ _ _ _ _ _ _ _ _ _ _ _ _ _ _ _ _ _ _ h1 f3 f4 f5 f6 f7 f8 f9 f10 f11 f12 f13 f14 f15 f16 f17 f18 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H9, H10, H11, H12, H13, H14, H15, ⟨%j16, H16⟩, ⟨%j17, H17⟩, ⟨%j18, H18⟩, ⟨%g6, %g7, %g8, H6, H7, H8, -⟩⟩
    isplitl [Hg H13 H14 H15 H16 H17 H18]
    · isplitr [Hg]
      · isplitl [H13]
        · iexists _, _; isplitr; swap; · iexact H13
          ipureintro; rfl
        isplitl [H14]
        · iexists _, _; isplitr; swap; · iexact H14
          ipureintro; rfl
        isplitl [H15]
        · iexists _, _; isplitr; swap; · iexact H15
          ipureintro; rfl
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      iexact Hg
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl
  · iapply (bodyRest (F := F) c (grid0.coords t) _ _ _ _ _ _ _ _ _ _ _ _ _ _ _ _ _ _ _ _ _ _ _ _ _ _ _ _ _ _ _ _ h1 f3 f4 f5 f6 f7 f8 f9 f10 f11 f12 f13 f14 f15 f16 f17 f18 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H9, H10, H11, H12, H13, H14, H15, ⟨%j16, H16⟩, ⟨%j17, H17⟩, ⟨%j18, H18⟩, ⟨%g6, %g7, %g8, H6, H7, H8, -⟩⟩
    isplitl [Hg H13 H14 H15 H16 H17 H18]
    · isplitr [Hg]
      · isplitl [H13]
        · iexists _, _; isplitr; swap; · iexact H13
          ipureintro; rfl
        isplitl [H14]
        · iexists _, _; isplitr; swap; · iexact H14
          ipureintro; rfl
        isplitl [H15]
        · iexists _, _; isplitr; swap; · iexact H15
          ipureintro; rfl
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      iexact Hg
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body at every point. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The buffers the lines after the kernel write. -/
def tailWrites : Finset (Ref sig .tc) := {main_v1, main_v2, main_v3, main_v4, main_v5, main_v6}

set_option backward.isDefEq.respectTransparency.types false in
/-- From any launch the program ends with its arguments as launched and every counter at zero. -/
theorem quiescent_run :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  Pipeline.θ_run_frame_around_T_forget cfgs (dats m) (0 : Fin 1) launch0 defs₀ Variants.none forgets tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps)
    (hT := by
      intro ops hops op hop b hb
      simp only [List.mem_cons, List.mem_nil_iff, or_false] at hops
      rcases hops with rfl
      simp only [hostOps1, List.mem_cons, List.mem_nil_iff, or_false] at hop
      rcases hop with rfl | rfl | rfl | rfl | rfl | rfl
      all_goals
        simp only [StableHlo.unary_writes, StableHlo.reshape_writes, Finset.mem_singleton] at hb
        simp only [tailWrites, Finset.mem_insert, Finset.mem_singleton]
        have := Proc.devRef_injective _ hb
        simp [this])
    (hmain := hmain m Variants.none) (hA := fun _ _ => rfl) (hΦ := fun _ _ => rfl)
    (Q' := _) (hQ' := fun r h => ⟨fun c =>
      ⟨(h.1.arr_in c 0 rfl), (h.1.arr_in c 1 rfl), (h.1.arr_in c 2 rfl)⟩, h.2⟩)

end Cert.Proof.KernelIdeal

end
-- ==== Proof.Quant.lean ====
/- The power-of-two scale of a quantiser: the kernel's search for an exponent field, and the logarithm it stands for. -/
module

public import Idealize.ShloMosaic.Lib.Pointwise

@[expose] public section

set_option maxRecDepth 16384

noncomputable section

namespace Cert.Proof

open Idealize.ShloMosaic

/-- One step of the search: the bit `b` is kept in the field `f` if the power of two it names is at most `y`. -/
def step (y : EReal) (f b : BitVec 32) : BitVec 32 :=
  Scalar.select (FloatOps.cmpf (F := Ideal) (φ := .f32) .oge y
    (FloatOps.ofBits (F := Ideal) .f32 (IntOp.shli .vector (IntOp.addi f b) 23#32))) (IntOp.addi f b) f

/-- The exponent field of `y`, bit by bit from the top. -/
def field (y : EReal) : BitVec 32 :=
  step y (step y (step y (step y (step y (step y (step y (step y 0#32 128#32) 64#32) 32#32) 16#32) 8#32) 4#32) 2#32) 1#32

/-- The exponent from its field. -/
def expoOf (f : BitVec 32) : BitVec 32 := Scalar.select (IntOp.cmpi .eq f 0#32) 0#32 (IntOp.subi f 126#32)

/-- The power of two with exponent word `e`. -/
def powOf (e : BitVec 32) : EReal := FloatOps.ofBits (F := Ideal) .f32 (IntOp.shli .vector (IntOp.addi e 127#32) 23#32)

/-- The power of two with exponent word minus `e`. -/
def ipowOf (e : BitVec 32) : EReal := FloatOps.ofBits (F := Ideal) .f32 (IntOp.shli .vector (IntOp.subi 127#32 e) 23#32)

/-- The scale the kernel gives a block whose greatest magnitude over 448 is `y`. -/
def scaleOf (y : EReal) : EReal := powOf (expoOf (field y))

/-- Its inverse. -/
def invOf (y : EReal) : EReal := ipowOf (expoOf (field y))

/-- The value a field names. -/
def gv (n : ℕ) : EReal := Ideal.ofBits .f32 (BitVec.ofNat 32 n <<< 23)

/-- The parts of a word with only an exponent field. -/
theorem bits_facts : ∀ n : Fin 256, ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by decide +kernel

/-- The field 0 names zero. -/
theorem gv_zero : gv 0 = 0 := by simp [gv, Ideal.ofBits, Ideal.ieee]

/-- The field 255 names infinity. -/
theorem gv_top : gv 255 = ⊤ := by
  have h := bits_facts 255
  simp only [gv, Ideal.ofBits, Ideal.ieee]
  rw [show ((255 : Fin 256).val) = 255 from rfl] at h
  rw [h.1, h.2.1]
  simp [h.2.2]

/-- The fields between name the powers of two. -/
theorem gv_pos (n : ℕ) (h1 : 1 ≤ n) (h2 : n ≤ 254) : gv n = (((2 : ℝ) ^ ((n : ℤ) - 127) : ℝ) : EReal) := by
  have h := bits_facts ⟨n, by omega⟩
  simp only at h
  simp only [gv, Ideal.ofBits, Ideal.ieee]
  rw [h.1, h.2.1, h.2.2]
  rw [if_neg (by omega), if_neg (by omega)]
  congr 1
  simp only [Bool.false_eq_true, if_false, add_zero, one_mul]
  push_cast
  norm_num
  rw [show (8388608 : ℝ) = (2 : ℝ) ^ (23 : ℤ) by norm_num, ← zpow_add₀ (by norm_num : (2 : ℝ) ≠ 0)]
  congr 1
  ring

/-- One bit of the search is kept when the value is at least what the trial names. -/
theorem step_eq (y : EReal) (n b : ℕ) (h : n + b ≤ 255) :
    step y (BitVec.ofNat 32 n) (BitVec.ofNat 32 b) = if gv (n + b) ≤ y then BitVec.ofNat 32 (n + b) else BitVec.ofNat 32 n := by
  have hadd : IntOp.addi (BitVec.ofNat 32 n) (BitVec.ofNat 32 b) = BitVec.ofNat 32 (n + b) := by
    simp [IntOp.addi, BitVec.ofNat_add]
  unfold step
  rw [hadd]
  have hs : IntOp.shli .vector (BitVec.ofNat 32 (n + b)) 23#32 = BitVec.ofNat 32 (n + b) <<< 23 := by
    simp [IntOp.shli]
  rw [hs]
  show Scalar.select (BitVec.ofBool (decide (gv (n + b) ≤ y))) _ _ = _
  by_cases hc : gv (n + b) ≤ y <;> simp [Scalar.select, hc]

/-- The field found: the power it names is at most `y`, the next one above it. -/
theorem field_spec (y : EReal) (h0 : 0 ≤ y) (ht : y < ⊤) :
    ∃ n : ℕ, n ≤ 254 ∧ field y = BitVec.ofNat 32 n ∧ gv n ≤ y ∧ y < gv (n + 1) := by
  have key : ∀ (n b : ℕ), n + 2 * b ≤ 256 → gv n ≤ y → (n + 2 * b = 256 ∨ y < gv (n + 2 * b)) → 1 ≤ b →
      ∃ n' : ℕ, step y (BitVec.ofNat 32 n) (BitVec.ofNat 32 b) = BitVec.ofNat 32 n' ∧ n' + b ≤ 256 ∧ gv n' ≤ y
        ∧ (n' + b = 256 ∨ y < gv (n' + b)) := by
    intro n b hn hg hy hb
    rw [step_eq y n b (by omega)]
    by_cases hc : gv (n + b) ≤ y
    · exact ⟨n + b, by rw [if_pos hc], by omega, hc, by rw [show n + b + b = n + 2 * b by omega]; exact hy⟩
    · exact ⟨n, by rw [if_neg hc], by omega, hg, .inr (lt_of_not_ge hc)⟩
  obtain ⟨n1, e1, l1, g1, y1⟩ := key 0 128 (by omega) (by rw [gv_zero]; exact h0) (.inl rfl) (by omega)
  obtain ⟨n2, e2, l2, g2, y2⟩ := key n1 64 l1 g1 y1 (by omega)
  obtain ⟨n3, e3, l3, g3, y3⟩ := key n2 32 l2 g2 y2 (by omega)
  obtain ⟨n4, e4, l4, g4, y4⟩ := key n3 16 l3 g3 y3 (by omega)
  obtain ⟨n5, e5, l5, g5, y5⟩ := key n4 8 l4 g4 y4 (by omega)
  obtain ⟨n6, e6, l6, g6, y6⟩ := key n5 4 l5 g5 y5 (by omega)
  obtain ⟨n7, e7, l7, g7, y7⟩ := key n6 2 l6 g6 y6 (by omega)
  obtain ⟨n8, e8, l8, g8, y8⟩ := key n7 1 l7 g7 y7 (by omega)
  have hne : n8 ≠ 255 := by
    rintro rfl
    rw [gv_top] at g8
    exact absurd ht (not_lt.mpr g8)
  refine ⟨n8, by omega, ?_, g8, ?_⟩
  · unfold field
    rw [e1, e2, e3, e4, e5, e6, e7, e8]
  · rcases y8 with h | h
    · omega
    · exact h

/-- The exponent of a scale as the quantiser's definition gives it: the power of two strictly above `r`, and `1` for a
    value under the smallest normal number. -/
def eR (r : ℝ) : ℤ := if r < (2 : ℝ) ^ (-126 : ℤ) then 0 else ⌊Real.log r / Real.log 2⌋ + 1

/-- The floor of the logarithm to base two of a number between two powers of two. -/
theorem floor_log (r : ℝ) (k : ℤ) (h1 : (2 : ℝ) ^ k ≤ r) (h2 : r < (2 : ℝ) ^ (k + 1)) : ⌊Real.log r / Real.log 2⌋ = k := by
  have hl : 0 < Real.log 2 := Real.log_pos (by norm_num)
  have hp : (0 : ℝ) < (2 : ℝ) ^ k := by positivity
  have hr : 0 < r := lt_of_lt_of_le hp h1
  rw [Int.floor_eq_iff]
  constructor
  · rw [le_div_iff₀ hl, ← Real.log_zpow]
    exact Real.log_le_log hp h1
  · rw [div_lt_iff₀ hl]
    have := Real.log_lt_log hr h2
    rw [Real.log_zpow] at this
    push_cast at this
    exact this

/-- The words of the scale and its inverse, from the field. -/
theorem words : ∀ n : Fin 253, IntOp.addi (expoOf (BitVec.ofNat 32 n.val)) 127#32 = BitVec.ofNat 32 (if n.val = 0 then 127 else n.val + 1)
    ∧ IntOp.subi 127#32 (expoOf (BitVec.ofNat 32 n.val)) = BitVec.ofNat 32 (if n.val = 0 then 127 else 253 - n.val) := by
  decide +kernel

/-- A word shifted into the exponent field names a field's value. -/
theorem pow_gv (n : ℕ) : FloatOps.ofBits (F := Ideal) .f32 (IntOp.shli .vector (BitVec.ofNat 32 n) 23#32) = gv n := by
  have hs : IntOp.shli .vector (BitVec.ofNat 32 n) 23#32 = BitVec.ofNat 32 n <<< 23 := by simp [IntOp.shli]
  rw [hs]; rfl

/-- The kernel's scale and inverse scale of a real value below `2 ^ 126` are the powers of two of the quantiser's exponent. -/
theorem scale_spec (r : ℝ) (h0 : 0 ≤ r) (h1 : r < (2 : ℝ) ^ (126 : ℤ)) :
    scaleOf (r : EReal) = (((2 : ℝ) ^ eR r : ℝ) : EReal) ∧ invOf (r : EReal) = (((2 : ℝ) ^ (-eR r) : ℝ) : EReal) := by
  obtain ⟨n, hn, hf, hg, hy⟩ := field_spec (r : EReal) (by exact_mod_cast h0) (EReal.coe_lt_top r)
  have hn' : n ≤ 252 := by
    by_contra hc
    rw [gv_pos n (by omega) hn, EReal.coe_le_coe_iff] at hg
    have : (2 : ℝ) ^ (126 : ℤ) ≤ (2 : ℝ) ^ ((n : ℤ) - 127) := zpow_le_zpow_right₀ (by norm_num) (by omega)
    linarith
  have hw := words ⟨n, by omega⟩
  simp only at hw
  unfold scaleOf invOf powOf ipowOf
  rw [hf, hw.1, hw.2, pow_gv, pow_gv]
  by_cases hz : n = 0
  · subst hz
    rw [gv_pos 1 (by omega) (by omega), EReal.coe_lt_coe_iff] at hy
    have he : eR r = 0 := by
      unfold eR
      rw [if_pos]
      have : ((1 : ℕ) : ℤ) - 127 = -126 := by norm_num
      rwa [this] at hy
    simp only [if_true]
    rw [gv_pos 127 (by omega) (by omega), he]
    simp
  · rw [if_neg hz, if_neg hz, gv_pos (n + 1) (by omega) (by omega), gv_pos (253 - n) (by omega) (by omega)]
    rw [gv_pos (n + 1) (by omega) (by omega), EReal.coe_lt_coe_iff] at hy
    rw [gv_pos n (by omega) hn, EReal.coe_le_coe_iff] at hg
    have hfl := floor_log r ((n : ℤ) - 127) hg (by convert hy using 2; push_cast; ring)
    have hge : ¬ r < (2 : ℝ) ^ (-126 : ℤ) := by
      have : (2 : ℝ) ^ (-126 : ℤ) ≤ (2 : ℝ) ^ ((n : ℤ) - 127) := zpow_le_zpow_right₀ (by norm_num) (by omega)
      linarith
    have he : eR r = (n : ℤ) - 126 := by
      unfold eR
      rw [if_neg hge, hfl]; ring
    rw [he]
    constructor
    · congr 2; push_cast; ring
    · congr 2
      rw [Nat.cast_sub (by omega)]; push_cast; ring

/-- The reference's exponent of `y`. -/
def refE (y : EReal) : EReal :=
  Scalar.select (FloatOps.cmpf (F := Ideal) (φ := .f32) .olt y (Ideal.ofBits .f32 0x00800000#32)) (Ideal.ofBits .f32 0x00000000#32)
    (FloatOps.floor (F := Ideal) (φ := .f32) (Ideal.div (Ideal.log y) ((Real.log 2 : ℝ) : EReal)) + Ideal.ofBits .f32 0x3F800000#32)

/-- The reference's exponent of a number is an integer. -/
theorem refE_coe (r : ℝ) (h0 : 0 ≤ r) : refE (r : EReal) = ((eR r : ℝ) : EReal) := by
  have hb : Ideal.ofBits .f32 0x00800000#32 = (((2 : ℝ) ^ (-126 : ℤ) : ℝ) : EReal) := by
    have := gv_pos 1 (by omega) (by omega)
    rw [show ((1 : ℕ) : ℤ) - 127 = -126 by norm_num] at this
    rw [← this]; rfl
  have hl : Real.log 2 ≠ 0 := (Real.log_pos (by norm_num)).ne'
  unfold refE
  rw [hb, Ideal.ofBits_zero_f32, Ideal.ofBits_one_f32]
  show Scalar.select (BitVec.ofBool (decide ((r : EReal) < _))) _ _ = _
  unfold eR
  by_cases hc : r < (2 : ℝ) ^ (-126 : ℤ)
  · rw [if_pos hc]
    have : (r : EReal) < (((2 : ℝ) ^ (-126 : ℤ) : ℝ) : EReal) := by exact_mod_cast hc
    rw [decide_eq_true this]
    simp [Scalar.select]
  · rw [if_neg hc]
    have hr : ¬ (r : EReal) < (((2 : ℝ) ^ (-126 : ℤ) : ℝ) : EReal) := by rw [EReal.coe_lt_coe_iff]; exact hc
    have hpos : 0 < r := lt_of_lt_of_le (by positivity) (not_lt.mp hc)
    have hlog : Ideal.log (r : EReal) = ((Real.log r : ℝ) : EReal) := by
      show (if r ≤ 0 then (⊥ : EReal) else (Real.log r : EReal)) = _
      rw [if_neg (not_le.mpr hpos)]
    have hdiv : Ideal.div ((Real.log r : ℝ) : EReal) ((Real.log 2 : ℝ) : EReal) = ((Real.log r / Real.log 2 : ℝ) : EReal) := by
      unfold Ideal.div
      rw [if_neg (by exact_mod_cast hl), ← EReal.coe_inv, ← EReal.coe_mul, div_eq_mul_inv]
    rw [hlog, hdiv]
    have hfl : FloatOps.floor (F := Ideal) (φ := .f32) ((Real.log r / Real.log 2 : ℝ) : EReal) = ((⌊Real.log r / Real.log 2⌋ : ℝ) : EReal) := rfl
    rw [hfl]
    simp only [Scalar.select, hr, decide_false]
    push_cast
    rfl

/-- Two to an integer. -/
theorem exp2_coe (k : ℤ) : Ideal.exp2 ((k : ℝ) : EReal) = (((2 : ℝ) ^ k : ℝ) : EReal) := by
  show ((Real.rpow 2 (k : ℝ) : ℝ) : EReal) = _
  congr 1
  exact Real.rpow_intCast 2 k

/-- The kernel's scale of a value is the reference's. -/
theorem scale_eq (r : ℝ) (h0 : 0 ≤ r) (h1 : r < (2 : ℝ) ^ (126 : ℤ)) : scaleOf (r : EReal) = Ideal.exp2 (refE (r : EReal)) := by
  rw [refE_coe r h0, exp2_coe, (scale_spec r h0 h1).1]

/-- The kernel's inverse scale of a value is the reference's. -/
theorem inv_eq (r : ℝ) (h0 : 0 ≤ r) (h1 : r < (2 : ℝ) ^ (126 : ℤ)) :
    invOf (r : EReal) = Ideal.exp2 (Ideal.ofBits .f32 0x00000000#32 - refE (r : EReal)) := by
  rw [refE_coe r h0, Ideal.ofBits_zero_f32, zero_sub, ← EReal.coe_neg, ← Int.cast_neg, exp2_coe, (scale_spec r h0 h1).2]

end Cert.Proof

end
-- ==== Proof.Block.lean ====
/- What one row of a block is quantised to, and what one query row attends to, as formulas on extended reals. -/
module

public import proofs.«01_k».proof.Proof.Quant

@[expose] public section

set_option maxRecDepth 16384

noncomputable section

namespace Cert.Proof

open Idealize.ShloMosaic

/-- The single-precision number nearest `1 / 448`. -/
abbrev c448 : EReal := Ideal.ofBits .f32 0x3B124925#32

/-- The greatest magnitude of a family. -/
def amax {n : ℕ} (f : Fin n → EReal) : EReal :=
  Finset.fold max (Ideal.ofBits .f32 0xFF800000#32) (fun k => FloatOps.absf (F := Ideal) (φ := .f32) (f k)) Finset.univ

/-- Clipped to `[-448, 448]`. -/
def clip (x : EReal) : EReal := min (Ideal.ofBits .f32 0x43E00000#32) (max (Ideal.ofBits .f32 0xC3E00000#32) x)

/-- A group of 32 of a row of 128. -/
def grp (r : Fin 128 → EReal) (g : Fin 4) : Fin 32 → EReal := fun x => r ⟨g.val * 32 + x.val, by have := g.isLt; have := x.isLt; omega⟩

/-- The group of a channel. -/
def gOf (d : Fin 128) : Fin 4 := ⟨d.val / 32, by have := d.isLt; omega⟩

/-- The greatest magnitude of a group over 448. -/
def y32 (r : Fin 128 → EReal) (g : Fin 4) : EReal := amax (grp r g) * c448
/-- The scale of a group. -/
def s32 (r : Fin 128 → EReal) (g : Fin 4) : EReal := scaleOf (y32 r g)
/-- The code of a channel, the row quantised by groups. -/
def c32 (r : Fin 128 → EReal) (d : Fin 128) : EReal := clip (r d * invOf (y32 r (gOf d)))
/-- The code times its scale. -/
def d32 (r : Fin 128 → EReal) (d : Fin 128) : EReal := c32 r d * s32 r (gOf d)

/-- The greatest magnitude of a row over 448. -/
def y128 (r : Fin 128 → EReal) : EReal := amax r * c448
/-- The scale of a row. -/
def s128 (r : Fin 128 → EReal) : EReal := scaleOf (y128 r)
/-- The code of a channel, the row quantised as one group. -/
def c128 (r : Fin 128 → EReal) (d : Fin 128) : EReal := clip (r d * invOf (y128 r))

/-- The unnormalised weight of a score: `exp2 (tanh (s * t1) * t2)`. -/
def weight (t1 t2 : EReal) (a b : Fin 128 → EReal) : EReal := Ideal.exp2 (Ideal.tanh ((∑ d, a d * b d) * t1) * t2)

end Cert.Proof

end
-- ==== Proof.Attend.lean ====
/- One query row's attention as a formula on extended reals, and the sums and maxima over keys taken block by block. -/
module

public import proofs.«01_k».proof.Proof.Block

@[expose] public section

set_option maxRecDepth 16384

noncomputable section

namespace Cert.Proof

open Idealize.ShloMosaic

/-- The greatest of a family. -/
def top {n : ℕ} (f : Fin n → EReal) : EReal := Finset.fold max (Ideal.ofBits .f32 0xFF800000#32) f Finset.univ

/-- The word of minus infinity is the least extended real. -/
theorem ninf : Ideal.ofBits .f32 0xFF800000#32 = (⊥ : EReal) := by simp [Ideal.ofBits, Ideal.ieee]

/-- The word of 448 is the number 448. -/
theorem b448 : Ideal.ofBits .f32 0x43E00000#32 = ((448 : ℝ) : EReal) := by
  simp [Ideal.ofBits, Ideal.ieee]
  rw [← EReal.coe_mul]
  norm_num

/-- The word of -448 is the number -448. -/
theorem bn448 : Ideal.ofBits .f32 0xC3E00000#32 = ((-448 : ℝ) : EReal) := by
  simp [Ideal.ofBits, Ideal.ieee]
  rw [← EReal.coe_mul]
  norm_num

/-- The greatest of a family is at most `c` when every member is. -/
theorem top_le_iff {n : ℕ} (f : Fin n → EReal) (c : EReal) : top f ≤ c ↔ ∀ k, f k ≤ c := by
  unfold top
  rw [ninf, Finset.fold_max_le]
  simp

/-- The sum of the first `n`. -/
def sumTo (W : ℕ → EReal) (n : ℕ) : EReal := ∑ k ∈ Finset.range n, W k
/-- The greatest of the first `n` and zero. -/
def maxTo (W : ℕ → EReal) (n : ℕ) : EReal := max 0 ((Finset.range n).sup W)

/-- The same for the first `n` members and zero. -/
theorem maxTo_le_iff (W : ℕ → EReal) (n : ℕ) (c : EReal) : maxTo W n ≤ c ↔ 0 ≤ c ∧ ∀ k < n, W k ≤ c := by
  unfold maxTo
  rw [max_le_iff, Finset.sup_le_iff]
  simp

/-- One block of 512 more, the eight residues apart. -/
theorem sum_step (W : ℕ → EReal) (k s : ℕ) :
    sumTo (fun t => W (8 * t + s)) (64 * k) + ∑ x : Fin 64, W (512 * k + (x.val * 8 + s)) = sumTo (fun t => W (8 * t + s)) (64 * (k + 1)) := by
  unfold sumTo
  rw [show 64 * (k + 1) = 64 * k + 64 by ring, Finset.sum_range_add, Finset.sum_range (n := 64)]
  congr 1
  exact Finset.sum_congr rfl fun x _ => by congr 1; ring

/-- Summing the eight residues apart sums everything. -/
theorem sum_res (W : ℕ → EReal) (m : ℕ) : ∑ s : Fin 8, sumTo (fun t => W (8 * t + s.val)) m = sumTo W (8 * m) := by
  unfold sumTo
  rw [Finset.sum_comm]
  induction m with
  | zero => simp
  | succ m ih =>
    rw [Finset.sum_range_succ, ih, show 8 * (m + 1) = 8 * m + 8 by ring, Finset.sum_range_add, Finset.sum_range (n := 8)]

/-- The residues together. -/
theorem sum_all (W : ℕ → EReal) (q : ℕ) :
    ∑ s : Fin 8, (sumTo (fun t => W (8 * t + s.val)) (64 * q) + ∑ x : Fin 64, W (512 * q + (x.val * 8 + s.val))) = sumTo W (512 * (q + 1)) := by
  simp only [sum_step]
  rw [sum_res, show 8 * (64 * (q + 1)) = 512 * (q + 1) by ring]

/-- One block of 512 more, for the greatest of one residue. -/
theorem max_step (W : ℕ → EReal) (k s : ℕ) :
    max (maxTo (fun t => W (8 * t + s)) (64 * k)) (top fun x : Fin 64 => W (512 * k + (x.val * 8 + s))) = maxTo (fun t => W (8 * t + s)) (64 * (k + 1)) := by
  refine eq_of_forall_ge_iff fun c => ?_
  rw [max_le_iff, maxTo_le_iff, maxTo_le_iff, top_le_iff]
  constructor
  · rintro ⟨⟨h0, h1⟩, h2⟩
    refine ⟨h0, fun t ht => ?_⟩
    by_cases h : t < 64 * k
    · exact h1 t h
    · have := h2 ⟨t - 64 * k, by omega⟩
      rwa [show 512 * k + ((t - 64 * k) * 8 + s) = 8 * t + s by omega] at this
  · rintro ⟨h0, h1⟩
    refine ⟨⟨h0, fun t ht => h1 t (by omega)⟩, fun x => ?_⟩
    have := h1 (64 * k + x.val) (by have := x.isLt; omega)
    rwa [show 8 * (64 * k + x.val) + s = 512 * k + (x.val * 8 + s) by omega] at this

/-- The greatest over the residues is the greatest over all keys so far. -/
theorem max_all (W : ℕ → EReal) (q : ℕ) :
    (top fun s : Fin 8 => max (maxTo (fun t => W (8 * t + s.val)) (64 * q)) (top fun x : Fin 64 => W (512 * q + (x.val * 8 + s.val))))
      = maxTo W (512 * (q + 1)) := by
  simp only [max_step]
  refine eq_of_forall_ge_iff fun c => ?_
  rw [top_le_iff, maxTo_le_iff]
  simp only [maxTo_le_iff]
  constructor
  · intro h
    refine ⟨(h 0).1, fun n hn => ?_⟩
    have := (h ⟨n % 8, by omega⟩).2 (n / 8) (by omega)
    rwa [show 8 * (n / 8) + n % 8 = n by omega] at this
  · rintro ⟨h0, h1⟩ s
    exact ⟨h0, fun t ht => h1 _ (by have := s.isLt; omega)⟩

/-- A family over the 6144 keys, on the naturals. -/
def ext (w : Fin 6144 → EReal) : ℕ → EReal := fun n => if h : n < 6144 then w ⟨n, h⟩ else 0

/-- The extension agrees with the family on the keys. -/
theorem ext_of (w : Fin 6144 → EReal) (n : ℕ) (h : n < 6144) : ext w n = w ⟨n, h⟩ := dif_pos h

/-- Terms that vanish from `N` on add nothing. -/
theorem sumTo_ext (w : Fin 6144 → EReal) (N : ℕ) (hN : N ≤ 6144) (h : ∀ n, N ≤ n.val → w n = 0) : sumTo (ext w) N = ∑ n, w n := by
  unfold sumTo
  rw [Finset.sum_subset (s₂ := Finset.range 6144) (Finset.range_subset_range.mpr hN), Finset.sum_range]
  · exact Finset.sum_congr rfl fun n _ => ext_of w n n.isLt
  · intro n hn hn'
    have h1 := Finset.mem_range.mp hn
    rw [ext_of w n h1]
    exact h _ (by simpa using hn')

/-- The greatest of a family and zero. -/
def peak (w : Fin 6144 → EReal) : EReal := max 0 (Finset.univ.sup w)

/-- The peak is at most `c` when zero and every member are. -/
theorem peak_le_iff (w : Fin 6144 → EReal) (c : EReal) : peak w ≤ c ↔ 0 ≤ c ∧ ∀ n, w n ≤ c := by
  unfold peak
  rw [max_le_iff, Finset.sup_le_iff]
  simp

/-- Terms that vanish from `N` on do not change the greatest. -/
theorem maxTo_ext (w : Fin 6144 → EReal) (N : ℕ) (hN : N ≤ 6144) (h : ∀ n, N ≤ n.val → w n = 0) : maxTo (ext w) N = peak w := by
  refine eq_of_forall_ge_iff fun c => ?_
  rw [maxTo_le_iff, peak_le_iff]
  refine and_congr_right fun h0 => ⟨fun h1 n => ?_, fun h1 n hn => ?_⟩
  · by_cases hn : n.val < N
    · have := h1 n hn
      rwa [ext_of w n n.isLt] at this
    · rw [h n (by omega)]; exact h0
  · rw [ext_of w n (by omega)]; exact h1 _

/-- The weight of key `n` for the query at position `pos`, keys after it weighing nothing. -/
def wF (t1 t2 : EReal) (KD : Fin 6144 → Fin 128 → EReal) (Q : Fin 128 → EReal) (pos : ℕ) (n : Fin 6144) : EReal :=
  if n.val ≤ pos then weight t1 t2 (KD n) Q else 0

/-- The reciprocal of the greatest weight. -/
def pinvF (w : Fin 6144 → EReal) : EReal := Ideal.div (Ideal.ofBits .f32 0x3F800000#32) (peak w)
/-- The greatest normalised scaled weight over 448. -/
def yF (w VS : Fin 6144 → EReal) : EReal := peak (fun n => w n * VS n) * pinvF w * c448
/-- The code of key `n`'s scaled weight. -/
def pF (w VS : Fin 6144 → EReal) (n : Fin 6144) : EReal :=
  min (w n * VS n * (pinvF w * invOf (yF w VS))) (Ideal.ofBits .f32 0x43E00000#32)
/-- The attention of one query row in one channel. -/
def attend (w VS : Fin 6144 → EReal) (VT : Fin 6144 → EReal) : EReal :=
  (∑ n, VT n * pF w VS n) * Ideal.div (scaleOf (yF w VS) * peak w) (∑ n, w n)

end Cert.Proof

end
-- ==== Proof.IdealRead.lean ====
/- What each value the kernel computes is, element by element. -/
module

public import proofs.«01_k».proof.Proof.Gen.KernelIdeal.Skeleton
public import proofs.«01_k».proof.Proof.Attend
public import Idealize.ShloMosaic.Lib.Pointwise

@[expose] public section

set_option maxRecDepth 16384
set_option maxHeartbeats 1000000

noncomputable section

namespace Cert.Proof.KernelIdeal

open Cert.KernelIdeal Cert.KernelIdeal.Gen
open Idealize.ShloMosaic Idealize.SL.Sem

/-! ## Keys -/

/-- The greatest magnitude of a group of a key over 448. -/
theorem pay4_at (v : Vec Ideal S1x256x128 .bf16) (j0 : Fin 4) (j1 : Fin 1) (j2 : Fin 256) :
    k0_pay4 (F := Ideal) v (ix3 j0 j1 j2) = y32 (fun d => v (ix3 0 j2 d)) j0 := by
  pointwise [k0_pay4, k0_pay3]
  rfl

/-- The scale is computed entry by entry. -/
theorem pay8_eq (v : Vec Ideal S1x256x128 .bf16) (j : S4x1x256.Idx) :
    k0_pay8 (F := Ideal) (k0_pay4 v) (k0_pay5 v) (k0_pay6 v) j = scaleOf (k0_pay4 (F := Ideal) v j) := rfl

/-- The exponent is computed entry by entry. -/
theorem pay7_eq (v : Vec Ideal S1x256x128 .bf16) (j : S4x1x256.Idx) :
    k0_pay7 (F := Ideal) (k0_pay4 v) (k0_pay5 v) (k0_pay6 v) j = expoOf (field (k0_pay4 (F := Ideal) v j)) := rfl

/-- The scale of a group of a key. -/
theorem pay8_at (v : Vec Ideal S1x256x128 .bf16) (j0 : Fin 4) (j1 : Fin 1) (j2 : Fin 256) :
    k0_pay8 (F := Ideal) (k0_pay4 v) (k0_pay5 v) (k0_pay6 v) (ix3 j0 j1 j2) = s32 (fun d => v (ix3 0 j2 d)) j0 := by
  rw [pay8_eq, pay4_at]; rfl

/-- A key channel times the inverse scale. -/
theorem pay9_at (v : Vec Ideal S1x256x128 .bf16) (d : Fin 128) (n : Fin 256) :
    k0_pay9 (F := Ideal) (k0_pay3 v) (k0_pay4 v) (k0_pay5 v) (k0_pay6 v) (ix2 d n)
      = v (ix3 0 n d) * invOf (y32 (fun d => v (ix3 0 n d)) (gOf d)) := by
  have h := fun j => pay7_eq v j
  unfold k0_pay9
  generalize hE : k0_pay7 (F := Ideal) (k0_pay4 v) (k0_pay5 v) (k0_pay6 v) = e at *
  pointwise [k0_pay3]
  rw [h, pay4_at]
  rfl

/-- A key code. -/
theorem pay11_at (v : Vec Ideal S1x256x128 .bf16) (n : Fin 256) (d : Fin 128) :
    k0_pay11 (F := Ideal) (k0_pay9 (k0_pay3 v) (k0_pay4 v) (k0_pay5 v) (k0_pay6 v)) (FloatOps.ofBits .f32 0xC3E00000#32) (ix3 0 n d)
      = c32 (fun d => v (ix3 0 n d)) d := by
  have h := fun j l => pay9_at v j l
  generalize hE : k0_pay9 (F := Ideal) (k0_pay3 v) (k0_pay4 v) (k0_pay5 v) (k0_pay6 v) = e at *
  pointwise [k0_pay11, k0_pay10]
  rw [h]
  rfl

/-- A key scale as stored. -/
theorem pay12_at (v : Vec Ideal S1x256x128 .bf16) (g : Fin 4) (n : Fin 256) :
    k0_pay12 (F := Ideal) (k0_pay8 (k0_pay4 v) (k0_pay5 v) (k0_pay6 v)) (ix4 0 0 g n) = s32 (fun d => v (ix3 0 n d)) g := by
  have h := fun a b c => pay8_at v a b c
  generalize hE : k0_pay8 (F := Ideal) (k0_pay4 v) (k0_pay5 v) (k0_pay6 v) = e at *
  pointwise [k0_pay12]
  rw [h]

/-- A dequantised key channel. -/
theorem pay13_at (v : Vec Ideal S1x256x128 .bf16) (n : Fin 256) (d : Fin 128) :
    k0_pay13 (F := Ideal) (k0_pay8 (k0_pay4 v) (k0_pay5 v) (k0_pay6 v)) (k0_pay9 (k0_pay3 v) (k0_pay4 v) (k0_pay5 v) (k0_pay6 v))
        (FloatOps.ofBits .f32 0xC3E00000#32) (ix2 n d)
      = d32 (fun d => v (ix3 0 n d)) d := by
  have h := fun a b c => pay8_at v a b c
  have h' := fun j l => pay9_at v j l
  generalize hE : k0_pay8 (F := Ideal) (k0_pay4 v) (k0_pay5 v) (k0_pay6 v) = e at *
  generalize hE' : k0_pay9 (F := Ideal) (k0_pay3 v) (k0_pay4 v) (k0_pay5 v) (k0_pay6 v) = e' at *
  pointwise [k0_pay13, k0_pay10]
  rw [h, h']
  rfl

/-! ## Values -/

/-- A value channel. -/
theorem pay14_at (v : Vec Ideal S1x256x128 .bf16) (n : Fin 256) (d : Fin 128) :
    k0_pay14 (F := Ideal) v (ix2 n d) = v (ix3 0 n d) := by
  pointwise [k0_pay14]

/-- The greatest magnitude of a value row over 448. -/
theorem pay15_at (v : Vec Ideal S1x256x128 .bf16) (n : Fin 256) (j : Fin 1) :
    k0_pay15 (F := Ideal) v (ix2 n j) = y128 (fun d => v (ix3 0 n d)) := by
  pointwise [k0_pay15, k0_pay14]
  rfl

/-- The exponent of a value row is computed entry by entry. -/
theorem pay21_eq (y : FVec Ideal S256x1 .f32) (j : S256x1.Idx) :
    k0_pay21 (F := Ideal) y (k0_pay19 y k0_pay16 k0_pay17 k0_pay18) k0_pay20 j = expoOf (field (y j)) := rfl

/-- A value code. -/
theorem pay22_at (v : Vec Ideal S1x256x128 .bf16) (n : Fin 256) (d : Fin 128) :
    k0_pay22 (F := Ideal) (k0_pay14 v) (k0_pay15 v) (k0_pay19 (k0_pay15 v) k0_pay16 k0_pay17 k0_pay18) k0_pay20 (ix3 0 n d)
      = c128 (fun d => v (ix3 0 n d)) d := by
  have h := fun j => pay21_eq (k0_pay15 (F := Ideal) v) j
  unfold k0_pay22
  generalize hE : k0_pay21 (F := Ideal) (k0_pay15 v) (k0_pay19 (k0_pay15 v) k0_pay16 k0_pay17 k0_pay18) k0_pay20 = e at *
  pointwise [k0_pay14]
  rw [h, pay15_at]
  rfl

/-- A value scale, repeated along a row. -/
theorem pay23_at (v : Vec Ideal S1x256x128 .bf16) (n : Fin 256) (d : Fin 128) :
    k0_pay23 (F := Ideal) (k0_pay15 v) (k0_pay19 (k0_pay15 v) k0_pay16 k0_pay17 k0_pay18) k0_pay20 (ix2 n d)
      = s128 (fun d => v (ix3 0 n d)) := by
  have h := fun j => pay21_eq (k0_pay15 (F := Ideal) v) j
  unfold k0_pay23
  generalize hE : k0_pay21 (F := Ideal) (k0_pay15 v) (k0_pay19 (k0_pay15 v) k0_pay16 k0_pay17 k0_pay18) k0_pay20 = e at *
  pointwise []
  rw [h, pay15_at]
  rfl

/-- The column-wise form of the value quantiser's magnitudes. -/
abbrev vcolY (v : Vec Ideal S1x256x128 .bf16) : FVec Ideal S1x256 .f32 :=
  k0_pay26 (F := Ideal) (k0_pay25 (k0_pay14 v)) (FloatOps.ofBits .f32 0x3B124925#32)

/-- The column-wise magnitude is the row-wise one. -/
theorem pay26_at (v : Vec Ideal S1x256x128 .bf16) (j : Fin 1) (n : Fin 256) :
    vcolY v (ix2 j n) = y128 (fun d => v (ix3 0 n d)) := by
  unfold vcolY
  pointwise [k0_pay26, k0_pay25, k0_pay24, k0_pay14]
  rfl

/-- The column-wise exponent is computed entry by entry. -/
theorem pay29_eq (y : FVec Ideal S1x256 .f32) (c : Ideal .f32) (j : S1x256.Idx) :
    k0_pay29 (F := Ideal) (k0_pay26 y c) (k0_pay27 y c) k0_pay28 j = expoOf (field (k0_pay26 (F := Ideal) y c j)) := rfl

/-- A value scale as stored. -/
theorem pay30_at (v : Vec Ideal S1x256x128 .bf16) (j0 j1 j2 : Fin 1) (n : Fin 256) :
    k0_pay30 (F := Ideal) (vcolY v) (k0_pay27 (k0_pay25 (k0_pay14 v)) (FloatOps.ofBits .f32 0x3B124925#32)) k0_pay28 (ix4 j0 j1 j2 n)
      = s128 (fun d => v (ix3 0 n d)) := by
  have h := fun j => pay29_eq (k0_pay25 (k0_pay14 v)) (FloatOps.ofBits .f32 0x3B124925#32) j
  have h' := fun j n => pay26_at v j n
  unfold k0_pay30
  unfold vcolY at *
  generalize hE : k0_pay29 (F := Ideal) (k0_pay26 (k0_pay25 (k0_pay14 v)) (FloatOps.ofBits .f32 0x3B124925#32)) (k0_pay27 (k0_pay25 (k0_pay14 v)) (FloatOps.ofBits .f32 0x3B124925#32)) k0_pay28 = e at *
  pointwise []
  rw [h, h']
  rfl

/-- A value code, transposed. -/
theorem pay31_at (v : Vec Ideal S1x256x128 .bf16) (d : Fin 128) (n : Fin 256) :
    k0_pay1 (F := Ideal) (k0_pay31 (k0_pay24 (k0_pay14 v)) (vcolY v) (k0_pay27 (k0_pay25 (k0_pay14 v)) (FloatOps.ofBits .f32 0x3B124925#32)) k0_pay28) (ix2 d n)
      = c128 (fun d => v (ix3 0 n d)) d := by
  have h := fun j => pay29_eq (k0_pay25 (k0_pay14 v)) (FloatOps.ofBits .f32 0x3B124925#32) j
  have h' := fun j n => pay26_at v j n
  unfold k0_pay31
  unfold vcolY at *
  generalize hE : k0_pay29 (F := Ideal) (k0_pay26 (k0_pay25 (k0_pay14 v)) (FloatOps.ofBits .f32 0x3B124925#32)) (k0_pay27 (k0_pay25 (k0_pay14 v)) (FloatOps.ofBits .f32 0x3B124925#32)) k0_pay28 = e at *
  pointwise [k0_pay1, k0_pay24, k0_pay14]
  rw [h, h']
  rfl

/-! ## Queries -/

/-- The greatest magnitude of a group of a query over 448. -/
theorem pay33_at (v : Vec Ideal S1x512x128 .bf16) (j0 : Fin 4) (j1 : Fin 1) (j2 : Fin 512) :
    k0_pay33 (F := Ideal) v (ix3 j0 j1 j2) = y32 (fun d => v (ix3 0 j2 d)) j0 := by
  pointwise [k0_pay33, k0_pay32]
  rfl

/-- The query scale is computed entry by entry. -/
theorem pay37_eq (v : Vec Ideal S1x512x128 .bf16) (j : S4x1x512.Idx) :
    k0_pay37 (F := Ideal) (k0_pay33 v) (k0_pay34 v) (k0_pay35 v) j = scaleOf (k0_pay33 (F := Ideal) v j) := rfl

/-- The query exponent is computed entry by entry. -/
theorem pay36_eq (v : Vec Ideal S1x512x128 .bf16) (j : S4x1x512.Idx) :
    k0_pay36 (F := Ideal) (k0_pay33 v) (k0_pay34 v) (k0_pay35 v) j = expoOf (field (k0_pay33 (F := Ideal) v j)) := rfl

/-- The scale of a group of a query. -/
theorem pay37_at (v : Vec Ideal S1x512x128 .bf16) (j0 : Fin 4) (j1 : Fin 1) (j2 : Fin 512) :
    k0_pay37 (F := Ideal) (k0_pay33 v) (k0_pay34 v) (k0_pay35 v) (ix3 j0 j1 j2) = s32 (fun d => v (ix3 0 j2 d)) j0 := by
  rw [pay37_eq, pay33_at]; rfl

/-- A query channel times the inverse scale. -/
theorem pay38_at (v : Vec Ideal S1x512x128 .bf16) (d : Fin 128) (n : Fin 512) :
    k0_pay38 (F := Ideal) (k0_pay32 v) (k0_pay33 v) (k0_pay34 v) (k0_pay35 v) (ix2 d n)
      = v (ix3 0 n d) * invOf (y32 (fun d => v (ix3 0 n d)) (gOf d)) := by
  have h := fun j => pay36_eq v j
  unfold k0_pay38
  generalize hE : k0_pay36 (F := Ideal) (k0_pay33 v) (k0_pay34 v) (k0_pay35 v) = e at *
  pointwise [k0_pay32]
  rw [h, pay33_at]
  rfl

/-- A query code. -/
theorem pay40_at (v : Vec Ideal S1x512x128 .bf16) (j0 : Fin 1) (n : Fin 512) (d : Fin 128) :
    k0_pay40 (F := Ideal) (k0_pay38 (k0_pay32 v) (k0_pay33 v) (k0_pay34 v) (k0_pay35 v)) (FloatOps.ofBits .f32 0xC3E00000#32) (ix3 j0 n d)
      = c32 (fun d => v (ix3 0 n d)) d := by
  have h := fun j l => pay38_at v j l
  generalize hE : k0_pay38 (F := Ideal) (k0_pay32 v) (k0_pay33 v) (k0_pay34 v) (k0_pay35 v) = e at *
  pointwise [k0_pay40, k0_pay39]
  rw [h]
  rfl

/-- A query scale as stored. -/
theorem pay41_at (v : Vec Ideal S1x512x128 .bf16) (j0 j1 j2 : Fin 1) (g : Fin 4) (n : Fin 512) :
    k0_pay41 (F := Ideal) (k0_pay37 (k0_pay33 v) (k0_pay34 v) (k0_pay35 v)) (ix5 j0 j1 j2 g n) = s32 (fun d => v (ix3 0 n d)) g := by
  have h := fun a b c => pay37_at v a b c
  generalize hE : k0_pay37 (F := Ideal) (k0_pay33 v) (k0_pay34 v) (k0_pay35 v) = e at *
  pointwise [k0_pay41]
  rw [h]

/-- A dequantised query channel. -/
theorem pay42_at (v : Vec Ideal S1x512x128 .bf16) (d : Fin 128) (n : Fin 512) :
    k0_pay42 (F := Ideal) (k0_pay37 (k0_pay33 v) (k0_pay34 v) (k0_pay35 v)) (k0_pay38 (k0_pay32 v) (k0_pay33 v) (k0_pay34 v) (k0_pay35 v))
        (FloatOps.ofBits .f32 0xC3E00000#32) (ix2 d n)
      = d32 (fun d => v (ix3 0 n d)) d := by
  have h := fun a b c => pay37_at v a b c
  have h' := fun j l => pay38_at v j l
  generalize hE : k0_pay37 (F := Ideal) (k0_pay33 v) (k0_pay34 v) (k0_pay35 v) = e at *
  generalize hE' : k0_pay38 (F := Ideal) (k0_pay32 v) (k0_pay33 v) (k0_pay34 v) (k0_pay35 v) = e' at *
  pointwise [k0_pay42, k0_pay39]
  rw [h, h']
  rfl

/-! ## Scores -/

/-- The first constant of the weights. -/
abbrev t1 : EReal := Named.named (F := Ideal) κ "tanh_scale" (φ := .f32) 0x3AE7B46A#32
/-- The second. -/
abbrev t2 : EReal := Named.named (F := Ideal) κ "exp2_scale" (φ := .f32) 0x429044FE#32

/-- The running sums and maxima start at zero. -/
theorem pay43_at (a : Fin 8) (b : Fin 512) : k0_pay43 (F := Ideal) (ix2 a b) = 0 := by
  pointwise [k0_pay43]

/-- An entry of a block of weights. -/
theorem pay44_at (kt : Vec Ideal S512x128 .bf16) (qt : Vec Ideal S128x512 .bf16) (a b : Fin 512) :
    k0_pay44 (F := Ideal) kt qt (ix2 a b) = weight t1 t2 (fun d => kt (ix2 a d)) (fun d => qt (ix2 d b)) := by
  pointwise [k0_pay44]
  rfl

/-- An entry of a block of scaled weights. -/
theorem pay45_at (kt : Vec Ideal S512x128 .bf16) (qt : Vec Ideal S128x512 .bf16) (s : Vec Ideal S512x128 .f32)
    (f : Fin 512 → EReal) (hs : ∀ n d, s (ix2 n d) = f n) (a b : Fin 512) :
    k0_pay45 (F := Ideal) kt qt s (ix2 a b) = weight t1 t2 (fun d => kt (ix2 a d)) (fun d => qt (ix2 d b)) * f a := by
  pointwise [k0_pay45, k0_pay44]
  simp only [hs]
  split_ifs <;> rfl

/-- An entry of a block of scaled weights as stored. -/
theorem pay46_at (kt : Vec Ideal S512x128 .bf16) (qt : Vec Ideal S128x512 .bf16) (s : Vec Ideal S512x128 .f32)
    (f : Fin 512 → EReal) (hs : ∀ n d, s (ix2 n d) = f n) (a b : Fin 512) :
    k0_pay46 (F := Ideal) kt qt s (ix2 a b) = weight t1 t2 (fun d => kt (ix2 a d)) (fun d => qt (ix2 d b)) * f a := by
  have h := pay45_at kt qt s f hs
  unfold k0_pay46
  generalize k0_pay45 (F := Ideal) kt qt s = e at *
  pointwise []
  exact h a b

/-- Row `8 x + s` of a tile of 512 rows. -/
def row8 (x : Fin 64) (s : Fin 8) : Fin 512 := ⟨x.val * 8 + s.val, by have := x.isLt; have := s.isLt; omega⟩

/-- One block more in the running sums. -/
theorem pay47_at (l : FVec Ideal S8x512 .f32) (kt : Vec Ideal S512x128 .bf16) (qt : Vec Ideal S128x512 .bf16) (a : Fin 8) (b : Fin 512) :
    k0_pay47 (F := Ideal) l kt qt (ix2 a b) = l (ix2 a b) + ∑ x : Fin 64, k0_pay44 (F := Ideal) kt qt (ix2 (row8 x a) b) := by
  unfold k0_pay47
  generalize k0_pay44 (F := Ideal) kt qt = e
  pointwise []
  rfl

/-- One block more in the running maxima of the weights. -/
theorem pay48_at (l : FVec Ideal S8x512 .f32) (kt : Vec Ideal S512x128 .bf16) (qt : Vec Ideal S128x512 .bf16) (a : Fin 8) (b : Fin 512) :
    k0_pay48 (F := Ideal) l kt qt (ix2 a b) = max (l (ix2 a b)) (top fun x : Fin 64 => k0_pay44 (F := Ideal) kt qt (ix2 (row8 x a) b)) := by
  unfold k0_pay48
  generalize k0_pay44 (F := Ideal) kt qt = e
  pointwise []
  rfl

/-- One block more in the running maxima of the scaled weights. -/
theorem pay49_at (l : FVec Ideal S8x512 .f32) (kt : Vec Ideal S512x128 .bf16) (qt : Vec Ideal S128x512 .bf16) (s : Vec Ideal S512x128 .f32)
    (a : Fin 8) (b : Fin 512) :
    k0_pay49 (F := Ideal) l kt qt s (ix2 a b)
      = max (l (ix2 a b)) (top fun x : Fin 64 => k0_pay45 (F := Ideal) kt qt s (ix2 (row8 x a) b)) := by
  unfold k0_pay49
  generalize k0_pay45 (F := Ideal) kt qt s = e
  pointwise []
  rfl

/-! ## The diagonal block -/

/-- An entry of the diagonal block of weights, later keys weighing nothing. -/
theorem pay56_at (kt : Vec Ideal S512x128 .bf16) (qt : Vec Ideal S128x512 .bf16) (a b : Fin 512) :
    k0_pay56 (F := Ideal) kt qt (ix2 a b)
      = if a.val ≤ b.val then weight t1 t2 (fun d => kt (ix2 a d)) (fun d => qt (ix2 d b)) else 0 := by
  pointwise [k0_pay56]
  have h : IntOp.cmpi .sle (BitVec.ofNat 32 (a : ℕ)) (BitVec.ofNat 32 (b : ℕ)) = BitVec.ofBool (decide (a.val ≤ b.val)) := by
    have ha := a.isLt
    have hb := b.isLt
    simp only [IntOp.cmpi, BitVec.sle]
    congr 1
    have e1 : (BitVec.ofNat 32 (a : ℕ)).toInt = (a : ℕ) := by
      rw [BitVec.toInt_eq_toNat_of_lt (by simp only [BitVec.toNat_ofNat]; omega)]
      simp only [BitVec.toNat_ofNat]; omega
    have e2 : (BitVec.ofNat 32 (b : ℕ)).toInt = (b : ℕ) := by
      rw [BitVec.toInt_eq_toNat_of_lt (by simp only [BitVec.toNat_ofNat]; omega)]
      simp only [BitVec.toNat_ofNat]; omega
    rw [e1, e2]
    simp
  rw [h]
  by_cases hc : a.val ≤ b.val
  · rw [if_pos hc, decide_eq_true hc]; rfl
  · rw [if_neg hc, decide_eq_false hc]; rfl

/-- An entry of the diagonal block of scaled weights. -/
theorem pay57_at (kt : Vec Ideal S512x128 .bf16) (qt : Vec Ideal S128x512 .bf16) (s : Vec Ideal S512x128 .f32)
    (f : Fin 512 → EReal) (hs : ∀ n d, s (ix2 n d) = f n) (a b : Fin 512) :
    k0_pay57 (F := Ideal) kt qt s (ix2 a b) = k0_pay56 (F := Ideal) kt qt (ix2 a b) * f a := by
  unfold k0_pay57
  generalize k0_pay56 (F := Ideal) kt qt = e
  pointwise []
  simp only [hs]
  split_ifs <;> rfl

/-- The same as stored. -/
theorem pay58_at (kt : Vec Ideal S512x128 .bf16) (qt : Vec Ideal S128x512 .bf16) (s : Vec Ideal S512x128 .f32)
    (f : Fin 512 → EReal) (hs : ∀ n d, s (ix2 n d) = f n) (a b : Fin 512) :
    k0_pay58 (F := Ideal) kt qt s (ix2 a b) = k0_pay56 (F := Ideal) kt qt (ix2 a b) * f a := by
  have h := pay57_at kt qt s f hs
  unfold k0_pay58
  generalize k0_pay57 (F := Ideal) kt qt s = e at *
  pointwise []
  exact h a b

/-- The denominator. -/
theorem pay59_at (l : FVec Ideal S8x512 .f32) (kt : Vec Ideal S512x128 .bf16) (qt : Vec Ideal S128x512 .bf16) (a : Fin 1) (b : Fin 512) :
    k0_pay59 (F := Ideal) l kt qt (ix2 a b)
      = ∑ s : Fin 8, (l (ix2 s b) + ∑ x : Fin 64, k0_pay56 (F := Ideal) kt qt (ix2 (row8 x s) b)) := by
  unfold k0_pay59
  generalize k0_pay56 (F := Ideal) kt qt = e
  pointwise []
  rfl

/-- The greatest weight. -/
theorem pay60_at (l : FVec Ideal S8x512 .f32) (kt : Vec Ideal S512x128 .bf16) (qt : Vec Ideal S128x512 .bf16) (a : Fin 1) (b : Fin 512) :
    k0_pay60 (F := Ideal) l kt qt (ix2 a b)
      = top fun s : Fin 8 => max (l (ix2 s b)) (top fun x : Fin 64 => k0_pay56 (F := Ideal) kt qt (ix2 (row8 x s) b)) := by
  unfold k0_pay60
  generalize k0_pay56 (F := Ideal) kt qt = e
  pointwise []
  rfl

/-- Its reciprocal. -/
theorem pay61_at (l : FVec Ideal S8x512 .f32) (kt : Vec Ideal S512x128 .bf16) (qt : Vec Ideal S128x512 .bf16) (a : Fin 1) (b : Fin 512) :
    k0_pay61 (F := Ideal) l kt qt (ix2 a b)
      = Ideal.div (Ideal.ofBits .f32 0x3F800000#32) (k0_pay60 (F := Ideal) l kt qt (ix2 a b)) := by
  unfold k0_pay61
  generalize k0_pay60 (F := Ideal) l kt qt = e
  pointwise []

/-- The greatest scaled weight times that, over 448. -/
theorem pay62_at (l l2 : FVec Ideal S8x512 .f32) (kt : Vec Ideal S512x128 .bf16) (qt : Vec Ideal S128x512 .bf16) (s : Vec Ideal S512x128 .f32)
    (a : Fin 1) (b : Fin 512) :
    k0_pay62 (F := Ideal) l l2 kt qt s (ix2 a b)
      = (top fun u : Fin 8 => max (l2 (ix2 u b)) (top fun x : Fin 64 => k0_pay57 (F := Ideal) kt qt s (ix2 (row8 x u) b)))
        * k0_pay61 (F := Ideal) l kt qt (ix2 a b) * c448 := by
  unfold k0_pay62
  generalize k0_pay57 (F := Ideal) kt qt s = e
  generalize k0_pay61 (F := Ideal) l kt qt = e'
  pointwise []
  rfl

/-- The exponent of the weights is computed entry by entry. -/
theorem pay66_eq (y : FVec Ideal S1x512 .f32) (j : S1x512.Idx) :
    k0_pay66 (F := Ideal) y (k0_pay65 y k0_pay63 k0_pay64) j = expoOf (field (y j)) := rfl

/-! ## The output -/

/-- The factor that turns scaled weights into codes before the clip. -/
theorem pay67_at (pinv y : FVec Ideal S1x512 .f32) (a : Fin 1) (b : Fin 512) :
    k0_pay67 (F := Ideal) pinv y (k0_pay65 y k0_pay63 k0_pay64) (ix2 a b) = pinv (ix2 a b) * invOf (y (ix2 a b)) := by
  have h := fun j => pay66_eq y j
  unfold k0_pay67
  generalize k0_pay66 (F := Ideal) y (k0_pay65 y k0_pay63 k0_pay64) = e at *
  pointwise []
  rw [h]
  rfl

/-- The accumulator starts at zero. -/
theorem pay68_at (a : Fin 128) (b : Fin 512) : k0_pay68 (F := Ideal) (ix2 a b) = 0 := by
  pointwise [k0_pay68]

/-- One block more in the accumulator. -/
theorem pay69_at (pinv y : FVec Ideal S1x512 .f32) (s : Vec Ideal S512x512 .f32) (acc : Vec Ideal S128x512 .f32)
    (vt : Vec Ideal S128x512 .fp8e4m3) (d : Fin 128) (b : Fin 512) :
    k0_pay69 (F := Ideal) pinv y (k0_pay65 y k0_pay63 k0_pay64) s acc vt (ix2 d b)
      = acc (ix2 d b) + ∑ n : Fin 512, vt (ix2 d n)
          * min (s (ix2 n b) * (pinv (ix2 0 b) * invOf (y (ix2 0 b)))) (Ideal.ofBits .f32 0x43E00000#32) := by
  have h := fun a b => pay67_at pinv y a b
  unfold k0_pay69
  generalize k0_pay67 (F := Ideal) pinv y (k0_pay65 y k0_pay63 k0_pay64) = e at *
  pointwise []
  simp only [h]

/-- The factor of the accumulator. -/
theorem pay71_at (l pm y : FVec Ideal S1x512 .f32) (a : Fin 1) (b : Fin 512) :
    k0_pay71 (F := Ideal) l pm y (k0_pay65 y k0_pay63 k0_pay64) (ix2 a b)
      = Ideal.div (scaleOf (y (ix2 a b)) * pm (ix2 a b)) (l (ix2 a b)) := by
  have h := fun j => pay66_eq y j
  unfold k0_pay71
  generalize k0_pay66 (F := Ideal) y (k0_pay65 y k0_pay63 k0_pay64) = e at *
  pointwise []
  rw [h]
  rfl

/-- An entry of the attention as stored. -/
theorem pay2_at (o : Vec Ideal S128x512 .f32) (r : FVec Ideal S1x512 .f32) (a : Fin 1) (n : Fin 512) (d : Fin 128) :
    k0_pay2 (F := Ideal) o r (ix3 a n d) = o (ix2 d n) * r (ix2 0 n) := by
  pointwise [k0_pay2]

end Cert.Proof.KernelIdeal

end
-- ==== Proof.IdealPrep.lean ====
/- What the preparation loop leaves: the codes, scales and working copies of one key and value block, as functions of the block. -/
module

public import proofs.«01_k».proof.Proof.IdealHead
public import proofs.«01_k».proof.Proof.IdealRead
public import Idealize.ShloMosaic.Lib.Pipeline.ValueKit.Tiles

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Where a unit-stride rectangle puts its local index, its offset in closed form. -/
theorem emb_of {s : Shape} {off off' size : Fin s.rank → ℕ} (inb : ∀ a, off a + size a ≤ s.size a) (h : off = off')
    (x : (Rect.unit (s := s) off size inb).shape.Idx) (y : s.Idx) (hy : ∀ b, (y b).val = off' b + (x b).val) :
    (Rect.unit (s := s) off size inb).emb x = y := by
  subst h
  exact funext fun b => Fin.ext ((Rect.idx_unit_val _ _ _ _ _).trans (hy b).symm)

/-- What a load through such a rectangle reads. -/
theorem ld_of {s : Shape} {e : EltTy} {Val : EltTy → Type} {off off' size : Fin s.rank → ℕ} (X : s.Idx → Val e)
    (inb : ∀ a, off a + size a ≤ s.size a) (h : off = off')
    (x : (Rect.unit (s := s) off size inb).shape.Idx) (y : s.Idx) (hy : ∀ b, (y b).val = off' b + (x b).val) :
    View.ld X (Rect.unit (s := s) off size inb) x = X y := congrArg X (emb_of inb h x y hy)

/-- An index of such a rectangle. -/
theorem mem_of {s : Shape} {off off' size : Fin s.rank → ℕ} (inb : ∀ a, off a + size a ≤ s.size a) (h : off = off')
    (y : s.Idx) (hy : ∀ b, off' b ≤ (y b).val ∧ (y b).val < off' b + size b) : y ∈ (Rect.unit (s := s) off size inb).set := by
  subst h
  exact Rect.mem_set_unit.mpr hy

/-- Pieces added trip by trip: what holds of each trip's pieces holds of all of them, and an index one trip covers is
    covered. -/
theorem pieces_fold {s : Shape} {e : EltTy} {Val : EltTy → Type} (L : ℕ → List (View.Piece Val s e)) (n : ℕ) (G : s.Idx → Val e)
    (T : Fin n → List (View.Piece Val s e)) (h0 : L 0 = []) (hs : ∀ k : Fin n, L (k.val + 1) = T k ++ L k.val)
    (hG : ∀ k, ∀ p ∈ T k, ∀ x : p.1.shape.Idx, p.2 x = G (p.1.emb x)) :
    ∀ j ≤ n, (∀ p ∈ L j, ∀ x : p.1.shape.Idx, p.2 x = G (p.1.emb x))
      ∧ ∀ k : Fin n, k.val < j → ∀ p ∈ T k, p ∈ L j := by
  intro j
  induction j with
  | zero => intro _; rw [h0]; exact ⟨fun p hp => absurd hp List.not_mem_nil, fun k hk => absurd hk (by omega)⟩
  | succ j ih =>
    intro hj
    obtain ⟨ih1, ih2⟩ := ih (by omega)
    rw [hs ⟨j, hj⟩]
    refine ⟨fun p hp => ?_, fun k hk p hp => ?_⟩
    · rcases List.mem_append.mp hp with h | h
      · exact hG _ p h
      · exact ih1 p h
    · by_cases hkj : k.val = j
      · have : k = ⟨j, hj⟩ := Fin.ext hkj
        subst this
        exact List.mem_append.mpr (.inl hp)
      · exact List.mem_append.mpr (.inr (ih2 k (by omega) p hp))

/-- So a view they were all written through reads as `G` wherever some trip's piece reaches. -/
theorem read_fold {s : Shape} {e : EltTy} {κ : Kind} {sp : Space} {Val : EltTy → Type} (v : View sig κ sp s e) (f : v.ty.Contents Val)
    (L : ℕ → List (View.Piece Val s e)) (n : ℕ) (G : s.Idx → Val e)
    (T : Fin n → List (View.Piece Val s e)) (h0 : L 0 = []) (hs : ∀ k : Fin n, L (k.val + 1) = T k ++ L k.val)
    (hG : ∀ k, ∀ p ∈ T k, ∀ x : p.1.shape.Idx, p.2 x = G (p.1.emb x)) (y : s.Idx) (hc : ∃ k, ∃ p ∈ T k, y ∈ p.1.set) :
    v.read Val (v.writes Val f (L n)) y = G y := by
  obtain ⟨h1, h2⟩ := pieces_fold L n G T h0 hs hG n le_rfl
  obtain ⟨k, p, hp, hy⟩ := hc
  exact View.read_writes_apply_of_pieces v f G (L n) h1 y ⟨p, h2 k k.isLt p hp, hy⟩

/-- One row of a block of keys or values. -/
def rowK (B : S1x6144x128.Idx → EReal) (n : Fin 6144) : Fin 128 → EReal := fun d => B (ix3 0 n d)

/-- The key codes of a block. -/
def kcG (B : S1x6144x128.Idx → EReal) : S1x6144x128.Idx → EReal := fun y => c32 (rowK B (y 1)) (y 2)
/-- The key scales. -/
def ksG (B : S1x6144x128.Idx → EReal) : S1x1x4x6144.Idx → EReal := fun y => s32 (rowK B (y 3)) (y 2)
/-- The keys as the scores use them: codes times scales. -/
def kdG (B : S1x6144x128.Idx → EReal) : S6144x128.Idx → EReal := fun y => d32 (rowK B (y 0)) (y 1)
/-- The value codes. -/
def vcG (B : S1x6144x128.Idx → EReal) : S1x6144x128.Idx → EReal := fun y => c128 (rowK B (y 1)) (y 2)
/-- The value scales. -/
def vsG (B : S1x6144x128.Idx → EReal) : S1x1x1x6144.Idx → EReal := fun y => s128 (rowK B (y 3))
/-- The value scales, one row a key. -/
def vsrG (B : S1x6144x128.Idx → EReal) : S6144x128.Idx → EReal := fun y => s128 (rowK B (y 0))
/-- The value codes, one column a key. -/
def vtG (B : S1x6144x128.Idx → EReal) : S128x6144.Idx → EReal := fun y => c128 (rowK B (y 1)) (y 0)

variable (𝒱 : Variants) (c : Dev nD) (bd : Option 𝒱.V) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)
    (h1 : k0_cond1 i = 1#1)
    (X4 : BufTy.Contents (Elt Ideal) arg4.view.ty) (X5 : BufTy.Contents (Elt Ideal) arg5.view.ty)

/-- The preparation takes 24 steps. -/
theorem trips1 : k0_t1_loop.trips = 24 := by decide +kernel

/-- The tile of keys one trip loads. -/
abbrev ldK (k : Fin k0_t1_loop.trips) : Vec Ideal S1x256x128 .bf16 :=
  View.readAt (Elt Ideal) arg4.view (Rect.unit (s := S1x6144x128) (k0_off1 k) S1x256x128.size (k0_off1_inb i k h1)).toLoadRect X4

/-- The tile of values one trip loads. -/
abbrev ldV (k : Fin k0_t1_loop.trips) : Vec Ideal S1x256x128 .bf16 :=
  View.readAt (Elt Ideal) arg5.view (Rect.unit (s := S1x6144x128) (k0_off1 k) S1x256x128.size (k0_off1_inb i k h1)).toLoadRect X5

/-- A step is one of the 24. -/
theorem lt1 (k : Fin k0_t1_loop.trips) : k.val < 24 := k.isLt.trans_eq trips1

/-- An entry of the keys loaded in a step. -/
theorem ldK_at (k : Fin k0_t1_loop.trips) (a : Fin 1) (n : Fin 256) (d : Fin 128) :
    ldK i arg4 h1 X4 k (ix3 a n d) = arg4.view.read (Elt Ideal) X4 (ix3 0 ⟨256 * k.val + n.val, by have := lt1 k; have := n.isLt; omega⟩ d) := by
  have ha : a.val = 0 := by have := a.isLt; omega
  refine ld_of (arg4.view.read (Elt Ideal) X4) (k0_off1_inb i k h1) (k0_off1_eq k) _ _ fun b => ?_
  match b with
  | 0 => simp [ix3, ha]
  | 1 => simp [ix3]
  | 2 => simp [ix3]

/-- An entry of the values loaded in a step. -/
theorem ldV_at (k : Fin k0_t1_loop.trips) (a : Fin 1) (n : Fin 256) (d : Fin 128) :
    ldV i arg5 h1 X5 k (ix3 a n d) = arg5.view.read (Elt Ideal) X5 (ix3 0 ⟨256 * k.val + n.val, by have := lt1 k; have := n.isLt; omega⟩ d) := by
  have ha : a.val = 0 := by have := a.isLt; omega
  refine ld_of (arg5.view.read (Elt Ideal) X5) (k0_off1_inb i k h1) (k0_off1_eq k) _ _ fun b => ?_
  match b with
  | 0 => simp [ix3, ha]
  | 1 => simp [ix3]
  | 2 => simp [ix3]

/-- What a step writes to the key codes. -/
theorem trip_9 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).1
      = [⟨Rect.unit (s := S1x6144x128) (k0_off1 k) S1x256x128.size (k0_off1_inb i k h1),
        k0_pay11 (k0_pay9 (k0_pay3 (ldK i arg4 h1 X4 k)) (k0_pay4 (ldK i arg4 h1 X4 k)) (k0_pay5 (ldK i arg4 h1 X4 k)) (k0_pay6 (ldK i arg4 h1 X4 k))) (FloatOps.ofBits .f32 0xC3E00000#32)⟩] := by
  unfold trip_k0_t1
  rfl

/-- The key codes after all steps. -/
theorem fin_9 (f : BufTy.Contents (Elt Ideal) arg9.view.ty) :
    arg9.view.read (Elt Ideal) (arg9.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).1)
      = kcG (arg4.view.read (Elt Ideal) X4) := by
  funext y
  refine read_fold arg9.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).1) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).1) rfl
    (fun k => by simp only [pb_k0_t1_succ]) (fun k q hq x => ?_) y ?_
  · rw [trip_9] at hq
    obtain rfl := List.mem_singleton.mp hq
    change S1x256x128.Idx at x
    idx_vars x
    obtain rfl : x0 = 0 := Subsingleton.elim _ _
    have he : (Rect.unit (s := S1x6144x128) (k0_off1 k) S1x256x128.size (k0_off1_inb i k h1)).emb (ix3 0 x1 x2)
        = ix3 0 ⟨256 * k.val + x1.val, by have := lt1 k; have := x1.isLt; omega⟩ x2 := by
      refine emb_of _ (k0_off1_eq k) _ _ fun b => ?_
      match b with
      | 0 => simp [ix3]
      | 1 => simp [ix3]
      | 2 => simp [ix3]
    show k0_pay11 (k0_pay9 (k0_pay3 (ldK i arg4 h1 X4 k)) (k0_pay4 (ldK i arg4 h1 X4 k)) (k0_pay5 (ldK i arg4 h1 X4 k)) (k0_pay6 (ldK i arg4 h1 X4 k))) (FloatOps.ofBits .f32 0xC3E00000#32) (ix3 0 x1 x2) = kcG (arg4.view.read (Elt Ideal) X4) ((Rect.unit (s := S1x6144x128) (k0_off1 k) S1x256x128.size (k0_off1_inb i k h1)).emb (ix3 0 x1 x2))
    rw [he, pay11_at]
    simp only [ldK_at]
    rfl
  · have hy := (y 1).isLt
    have hlt : (y 1).val / 256 < k0_t1_loop.trips := by
      rw [trips1]
      have : (y 1).val < 6144 := hy
      omega
    refine ⟨⟨(y 1).val / 256, hlt⟩, _, by rw [trip_9]; exact List.mem_singleton.mpr rfl, ?_⟩
    refine mem_of (k0_off1_inb i _ h1) (k0_off1_eq _) _ fun b => ?_
    match b with
    | 0 => exact ⟨Nat.zero_le _, (Nat.zero_add _).symm ▸ (y 0).isLt⟩
    | 1 => show 256 * ((y 1).val / 256) ≤ (y 1).val ∧ (y 1).val < 256 * ((y 1).val / 256) + 256; omega
    | 2 => exact ⟨Nat.zero_le _, (Nat.zero_add _).symm ▸ (y 2).isLt⟩

/-- What a step writes to the key scales. -/
theorem trip_10 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.1
      = [⟨Rect.unit (s := S1x1x4x6144) (k0_off2 k) S1x1x4x256.size (k0_off2_inb i k h1),
        k0_pay12 (k0_pay8 (k0_pay4 (ldK i arg4 h1 X4 k)) (k0_pay5 (ldK i arg4 h1 X4 k)) (k0_pay6 (ldK i arg4 h1 X4 k)))⟩] := by
  unfold trip_k0_t1
  rfl

/-- The key scales after all steps. -/
theorem fin_10 (f : BufTy.Contents (Elt Ideal) arg10.view.ty) :
    arg10.view.read (Elt Ideal) (arg10.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.1)
      = ksG (arg4.view.read (Elt Ideal) X4) := by
  funext y
  refine read_fold arg10.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.1) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.1) rfl
    (fun k => by simp only [pb_k0_t1_succ]) (fun k q hq x => ?_) y ?_
  · rw [trip_10] at hq
    obtain rfl := List.mem_singleton.mp hq
    change S1x1x4x256.Idx at x
    idx_vars x
    obtain rfl : x0 = 0 := Subsingleton.elim _ _
    obtain rfl : x1 = 0 := Subsingleton.elim _ _
    have he : (Rect.unit (s := S1x1x4x6144) (k0_off2 k) S1x1x4x256.size (k0_off2_inb i k h1)).emb (ix4 0 0 x2 x3)
        = ix4 0 0 x2 ⟨256 * k.val + x3.val, by have := lt1 k; have := x3.isLt; omega⟩ := by
      refine emb_of _ (k0_off2_eq k) _ _ fun b => ?_
      match b with
      | 0 => simp [ix4]
      | 1 => simp [ix4]
      | 2 => simp [ix4]
      | 3 => simp [ix4]
    show k0_pay12 (k0_pay8 (k0_pay4 (ldK i arg4 h1 X4 k)) (k0_pay5 (ldK i arg4 h1 X4 k)) (k0_pay6 (ldK i arg4 h1 X4 k))) (ix4 0 0 x2 x3) = ksG (arg4.view.read (Elt Ideal) X4) ((Rect.unit (s := S1x1x4x6144) (k0_off2 k) S1x1x4x256.size (k0_off2_inb i k h1)).emb (ix4 0 0 x2 x3))
    rw [he, pay12_at]
    simp only [ldK_at]
    rfl
  · have hy := (y 3).isLt
    have hlt : (y 3).val / 256 < k0_t1_loop.trips := by
      rw [trips1]
      have : (y 3).val < 6144 := hy
      omega
    refine ⟨⟨(y 3).val / 256, hlt⟩, _, by rw [trip_10]; exact List.mem_singleton.mpr rfl, ?_⟩
    refine mem_of (k0_off2_inb i _ h1) (k0_off2_eq _) _ fun b => ?_
    match b with
    | 0 => exact ⟨Nat.zero_le _, (Nat.zero_add _).symm ▸ (y 0).isLt⟩
    | 1 => exact ⟨Nat.zero_le _, (Nat.zero_add _).symm ▸ (y 1).isLt⟩
    | 2 => exact ⟨Nat.zero_le _, (Nat.zero_add _).symm ▸ (y 2).isLt⟩
    | 3 => show 256 * ((y 3).val / 256) ≤ (y 3).val ∧ (y 3).val < 256 * ((y 3).val / 256) + 256; omega

/-- What a step writes to the value codes. -/
theorem trip_11 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.1
      = [⟨Rect.unit (s := S1x6144x128) (k0_off1 k) S1x256x128.size (k0_off1_inb i k h1),
        k0_pay22 (k0_pay14 (ldV i arg5 h1 X5 k)) (k0_pay15 (ldV i arg5 h1 X5 k)) (k0_pay19 (k0_pay15 (ldV i arg5 h1 X5 k)) k0_pay16 k0_pay17 k0_pay18) k0_pay20⟩] := by
  unfold trip_k0_t1
  rfl

/-- The value codes after all steps. -/
theorem fin_11 (f : BufTy.Contents (Elt Ideal) arg11.view.ty) :
    arg11.view.read (Elt Ideal) (arg11.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.1)
      = vcG (arg5.view.read (Elt Ideal) X5) := by
  funext y
  refine read_fold arg11.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.1) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.1) rfl
    (fun k => by simp only [pb_k0_t1_succ]) (fun k q hq x => ?_) y ?_
  · rw [trip_11] at hq
    obtain rfl := List.mem_singleton.mp hq
    change S1x256x128.Idx at x
    idx_vars x
    obtain rfl : x0 = 0 := Subsingleton.elim _ _
    have he : (Rect.unit (s := S1x6144x128) (k0_off1 k) S1x256x128.size (k0_off1_inb i k h1)).emb (ix3 0 x1 x2)
        = ix3 0 ⟨256 * k.val + x1.val, by have := lt1 k; have := x1.isLt; omega⟩ x2 := by
      refine emb_of _ (k0_off1_eq k) _ _ fun b => ?_
      match b with
      | 0 => simp [ix3]
      | 1 => simp [ix3]
      | 2 => simp [ix3]
    show k0_pay22 (k0_pay14 (ldV i arg5 h1 X5 k)) (k0_pay15 (ldV i arg5 h1 X5 k)) (k0_pay19 (k0_pay15 (ldV i arg5 h1 X5 k)) k0_pay16 k0_pay17 k0_pay18) k0_pay20 (ix3 0 x1 x2) = vcG (arg5.view.read (Elt Ideal) X5) ((Rect.unit (s := S1x6144x128) (k0_off1 k) S1x256x128.size (k0_off1_inb i k h1)).emb (ix3 0 x1 x2))
    rw [he, pay22_at]
    simp only [ldV_at]
    rfl
  · have hy := (y 1).isLt
    have hlt : (y 1).val / 256 < k0_t1_loop.trips := by
      rw [trips1]
      have : (y 1).val < 6144 := hy
      omega
    refine ⟨⟨(y 1).val / 256, hlt⟩, _, by rw [trip_11]; exact List.mem_singleton.mpr rfl, ?_⟩
    refine mem_of (k0_off1_inb i _ h1) (k0_off1_eq _) _ fun b => ?_
    match b with
    | 0 => exact ⟨Nat.zero_le _, (Nat.zero_add _).symm ▸ (y 0).isLt⟩
    | 1 => show 256 * ((y 1).val / 256) ≤ (y 1).val ∧ (y 1).val < 256 * ((y 1).val / 256) + 256; omega
    | 2 => exact ⟨Nat.zero_le _, (Nat.zero_add _).symm ▸ (y 2).isLt⟩

/-- What a step writes to the value scales. -/
theorem trip_12 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.1
      = [⟨Rect.unit (s := S1x1x1x6144) (k0_off4 k) S1x1x1x256.size (k0_off4_inb i k h1),
        k0_pay30 (vcolY (ldV i arg5 h1 X5 k)) (k0_pay27 (k0_pay25 (k0_pay14 (ldV i arg5 h1 X5 k))) (FloatOps.ofBits .f32 0x3B124925#32)) k0_pay28⟩] := by
  unfold trip_k0_t1
  rfl

/-- The value scales after all steps. -/
theorem fin_12 (f : BufTy.Contents (Elt Ideal) arg12.view.ty) :
    arg12.view.read (Elt Ideal) (arg12.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.1)
      = vsG (arg5.view.read (Elt Ideal) X5) := by
  funext y
  refine read_fold arg12.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.1) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.1) rfl
    (fun k => by simp only [pb_k0_t1_succ]) (fun k q hq x => ?_) y ?_
  · rw [trip_12] at hq
    obtain rfl := List.mem_singleton.mp hq
    change S1x1x1x256.Idx at x
    idx_vars x
    obtain rfl : x0 = 0 := Subsingleton.elim _ _
    obtain rfl : x1 = 0 := Subsingleton.elim _ _
    obtain rfl : x2 = 0 := Subsingleton.elim _ _
    have he : (Rect.unit (s := S1x1x1x6144) (k0_off4 k) S1x1x1x256.size (k0_off4_inb i k h1)).emb (ix4 0 0 0 x3)
        = ix4 0 0 0 ⟨256 * k.val + x3.val, by have := lt1 k; have := x3.isLt; omega⟩ := by
      refine emb_of _ (k0_off4_eq k) _ _ fun b => ?_
      match b with
      | 0 => simp [ix4]
      | 1 => simp [ix4]
      | 2 => simp [ix4]
      | 3 => simp [ix4]
    show k0_pay30 (vcolY (ldV i arg5 h1 X5 k)) (k0_pay27 (k0_pay25 (k0_pay14 (ldV i arg5 h1 X5 k))) (FloatOps.ofBits .f32 0x3B124925#32)) k0_pay28 (ix4 0 0 0 x3) = vsG (arg5.view.read (Elt Ideal) X5) ((Rect.unit (s := S1x1x1x6144) (k0_off4 k) S1x1x1x256.size (k0_off4_inb i k h1)).emb (ix4 0 0 0 x3))
    rw [he, pay30_at]
    simp only [ldV_at]
    rfl
  · have hy := (y 3).isLt
    have hlt : (y 3).val / 256 < k0_t1_loop.trips := by
      rw [trips1]
      have : (y 3).val < 6144 := hy
      omega
    refine ⟨⟨(y 3).val / 256, hlt⟩, _, by rw [trip_12]; exact List.mem_singleton.mpr rfl, ?_⟩
    refine mem_of (k0_off4_inb i _ h1) (k0_off4_eq _) _ fun b => ?_
    match b with
    | 0 => exact ⟨Nat.zero_le _, (Nat.zero_add _).symm ▸ (y 0).isLt⟩
    | 1 => exact ⟨Nat.zero_le _, (Nat.zero_add _).symm ▸ (y 1).isLt⟩
    | 2 => exact ⟨Nat.zero_le _, (Nat.zero_add _).symm ▸ (y 2).isLt⟩
    | 3 => show 256 * ((y 3).val / 256) ≤ (y 3).val ∧ (y 3).val < 256 * ((y 3).val / 256) + 256; omega

/-- What a step writes to the dequantised keys. -/
theorem trip_13 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.1
      = [⟨Rect.unit (s := S6144x128) (k0_off3 k) S256x128.size (k0_off3_inb i k h1),
        k0_pay13 (k0_pay8 (k0_pay4 (ldK i arg4 h1 X4 k)) (k0_pay5 (ldK i arg4 h1 X4 k)) (k0_pay6 (ldK i arg4 h1 X4 k))) (k0_pay9 (k0_pay3 (ldK i arg4 h1 X4 k)) (k0_pay4 (ldK i arg4 h1 X4 k)) (k0_pay5 (ldK i arg4 h1 X4 k)) (k0_pay6 (ldK i arg4 h1 X4 k))) (FloatOps.ofBits .f32 0xC3E00000#32)⟩] := by
  unfold trip_k0_t1
  rfl

/-- The dequantised keys after all steps. -/
theorem fin_13 (f : BufTy.Contents (Elt Ideal) arg13.view.ty) :
    arg13.view.read (Elt Ideal) (arg13.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.1)
      = kdG (arg4.view.read (Elt Ideal) X4) := by
  funext y
  refine read_fold arg13.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.1) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.1) rfl
    (fun k => by simp only [pb_k0_t1_succ]) (fun k q hq x => ?_) y ?_
  · rw [trip_13] at hq
    obtain rfl := List.mem_singleton.mp hq
    change S256x128.Idx at x
    idx_vars x
    have he : (Rect.unit (s := S6144x128) (k0_off3 k) S256x128.size (k0_off3_inb i k h1)).emb (ix2 x0 x1)
        = ix2 ⟨256 * k.val + x0.val, by have := lt1 k; have := x0.isLt; omega⟩ x1 := by
      refine emb_of _ (k0_off3_eq k) _ _ fun b => ?_
      match b with
      | 0 => simp [ix2]
      | 1 => simp [ix2]
    show k0_pay13 (k0_pay8 (k0_pay4 (ldK i arg4 h1 X4 k)) (k0_pay5 (ldK i arg4 h1 X4 k)) (k0_pay6 (ldK i arg4 h1 X4 k))) (k0_pay9 (k0_pay3 (ldK i arg4 h1 X4 k)) (k0_pay4 (ldK i arg4 h1 X4 k)) (k0_pay5 (ldK i arg4 h1 X4 k)) (k0_pay6 (ldK i arg4 h1 X4 k))) (FloatOps.ofBits .f32 0xC3E00000#32) (ix2 x0 x1) = kdG (arg4.view.read (Elt Ideal) X4) ((Rect.unit (s := S6144x128) (k0_off3 k) S256x128.size (k0_off3_inb i k h1)).emb (ix2 x0 x1))
    rw [he, pay13_at]
    simp only [ldK_at]
    rfl
  · have hy := (y 0).isLt
    have hlt : (y 0).val / 256 < k0_t1_loop.trips := by
      rw [trips1]
      have : (y 0).val < 6144 := hy
      omega
    refine ⟨⟨(y 0).val / 256, hlt⟩, _, by rw [trip_13]; exact List.mem_singleton.mpr rfl, ?_⟩
    refine mem_of (k0_off3_inb i _ h1) (k0_off3_eq _) _ fun b => ?_
    match b with
    | 0 => show 256 * ((y 0).val / 256) ≤ (y 0).val ∧ (y 0).val < 256 * ((y 0).val / 256) + 256; omega
    | 1 => exact ⟨Nat.zero_le _, (Nat.zero_add _).symm ▸ (y 1).isLt⟩

/-- What a step writes to the transposed value codes. -/
theorem trip_14 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.2.1
      = [⟨Rect.unit (s := S128x6144) (k0_off5 k) S128x256.size (k0_off5_inb i k h1),
        k0_pay1 (k0_pay31 (k0_pay24 (k0_pay14 (ldV i arg5 h1 X5 k))) (vcolY (ldV i arg5 h1 X5 k)) (k0_pay27 (k0_pay25 (k0_pay14 (ldV i arg5 h1 X5 k))) (FloatOps.ofBits .f32 0x3B124925#32)) k0_pay28)⟩] := by
  unfold trip_k0_t1
  rfl

/-- The transposed value codes after all steps. -/
theorem fin_14 (f : BufTy.Contents (Elt Ideal) arg14.view.ty) :
    arg14.view.read (Elt Ideal) (arg14.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.1)
      = vtG (arg5.view.read (Elt Ideal) X5) := by
  funext y
  refine read_fold arg14.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.2.1) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.2.1) rfl
    (fun k => by simp only [pb_k0_t1_succ]) (fun k q hq x => ?_) y ?_
  · rw [trip_14] at hq
    obtain rfl := List.mem_singleton.mp hq
    change S128x256.Idx at x
    idx_vars x
    have he : (Rect.unit (s := S128x6144) (k0_off5 k) S128x256.size (k0_off5_inb i k h1)).emb (ix2 x0 x1)
        = ix2 x0 ⟨256 * k.val + x1.val, by have := lt1 k; have := x1.isLt; omega⟩ := by
      refine emb_of _ (k0_off5_eq k) _ _ fun b => ?_
      match b with
      | 0 => simp [ix2]
      | 1 => simp [ix2]
    show k0_pay1 (k0_pay31 (k0_pay24 (k0_pay14 (ldV i arg5 h1 X5 k))) (vcolY (ldV i arg5 h1 X5 k)) (k0_pay27 (k0_pay25 (k0_pay14 (ldV i arg5 h1 X5 k))) (FloatOps.ofBits .f32 0x3B124925#32)) k0_pay28) (ix2 x0 x1) = vtG (arg5.view.read (Elt Ideal) X5) ((Rect.unit (s := S128x6144) (k0_off5 k) S128x256.size (k0_off5_inb i k h1)).emb (ix2 x0 x1))
    rw [he, pay31_at]
    simp only [ldV_at]
    rfl
  · have hy := (y 1).isLt
    have hlt : (y 1).val / 256 < k0_t1_loop.trips := by
      rw [trips1]
      have : (y 1).val < 6144 := hy
      omega
    refine ⟨⟨(y 1).val / 256, hlt⟩, _, by rw [trip_14]; exact List.mem_singleton.mpr rfl, ?_⟩
    refine mem_of (k0_off5_inb i _ h1) (k0_off5_eq _) _ fun b => ?_
    match b with
    | 0 => exact ⟨Nat.zero_le _, (Nat.zero_add _).symm ▸ (y 0).isLt⟩
    | 1 => show 256 * ((y 1).val / 256) ≤ (y 1).val ∧ (y 1).val < 256 * ((y 1).val / 256) + 256; omega

/-- What a step writes to the repeated value scales. -/
theorem trip_15 (k : Fin k0_t1_loop.trips) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.2.2.1
      = [⟨Rect.unit (s := S6144x128) (k0_off3 k) S256x128.size (k0_off3_inb i k h1),
        k0_pay23 (k0_pay15 (ldV i arg5 h1 X5 k)) (k0_pay19 (k0_pay15 (ldV i arg5 h1 X5 k)) k0_pay16 k0_pay17 k0_pay18) k0_pay20⟩] := by
  unfold trip_k0_t1
  rfl

/-- The repeated value scales after all steps. -/
theorem fin_15 (f : BufTy.Contents (Elt Ideal) arg15.view.ty) :
    arg15.view.read (Elt Ideal) (arg15.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k0_t1_loop.trips).2.2.2.2.2.2)
      = vsrG (arg5.view.read (Elt Ideal) X5) := by
  funext y
  refine read_fold arg15.view f (fun k => (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.2.2) _ _
    (fun k => (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 X4 X5 k).2.2.2.2.2.2.1) rfl
    (fun k => by simp only [pb_k0_t1_succ]) (fun k q hq x => ?_) y ?_
  · rw [trip_15] at hq
    obtain rfl := List.mem_singleton.mp hq
    change S256x128.Idx at x
    idx_vars x
    have he : (Rect.unit (s := S6144x128) (k0_off3 k) S256x128.size (k0_off3_inb i k h1)).emb (ix2 x0 x1)
        = ix2 ⟨256 * k.val + x0.val, by have := lt1 k; have := x0.isLt; omega⟩ x1 := by
      refine emb_of _ (k0_off3_eq k) _ _ fun b => ?_
      match b with
      | 0 => simp [ix2]
      | 1 => simp [ix2]
    show k0_pay23 (k0_pay15 (ldV i arg5 h1 X5 k)) (k0_pay19 (k0_pay15 (ldV i arg5 h1 X5 k)) k0_pay16 k0_pay17 k0_pay18) k0_pay20 (ix2 x0 x1) = vsrG (arg5.view.read (Elt Ideal) X5) ((Rect.unit (s := S6144x128) (k0_off3 k) S256x128.size (k0_off3_inb i k h1)).emb (ix2 x0 x1))
    rw [he, pay23_at]
    simp only [ldV_at]
    rfl
  · have hy := (y 0).isLt
    have hlt : (y 0).val / 256 < k0_t1_loop.trips := by
      rw [trips1]
      have : (y 0).val < 6144 := hy
      omega
    refine ⟨⟨(y 0).val / 256, hlt⟩, _, by rw [trip_15]; exact List.mem_singleton.mpr rfl, ?_⟩
    refine mem_of (k0_off3_inb i _ h1) (k0_off3_eq _) _ fun b => ?_
    match b with
    | 0 => show 256 * ((y 0).val / 256) ≤ (y 0).val ∧ (y 0).val < 256 * ((y 0).val / 256) + 256; omega
    | 1 => exact ⟨Nat.zero_le _, (Nat.zero_add _).symm ▸ (y 1).isLt⟩

end Cert.Proof.KernelIdeal

end
-- ==== Proof.IdealScore.lean ====
/- The inner loops of a head: what one trip carries on and stores. -/
module

public import proofs.«01_k».proof.Proof.IdealPrep

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)
    (arg2 : BitVec 32) (k2 : Fin k0_t2_loop.trips) (a19 v5 : BitVec 32) (v84 : FVec Ideal S4x1x512 .f32) (v92 : FVec Ideal S128x512 .f32)
    (cst : Ideal .f32) (X13 : BufTy.Contents (Elt Ideal) arg13.view.ty) (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (v162 v164 v168 v171 : FVec Ideal S1x512 .f32) (v221 : IVec S1x512 32)

/-- As many full blocks of keys as query blocks before this one. -/
theorem trips3 : ∀ i : grid0.Coords, (k0_t3_loop i).trips = (i 2).val := by decide +kernel
/-- The remainder loop of the scores takes no step. -/
theorem trips4 : ∀ i : grid0.Coords, (k0_t4_loop i).trips = 0 := by decide +kernel
/-- One block more in the value loop. -/
theorem trips5 : ∀ i : grid0.Coords, (k0_t5_loop i).trips = (i 2).val + 1 := by decide +kernel
/-- The remainder loop of the values takes no step. -/
theorem trips6 : ∀ i : grid0.Coords, (k0_t6_loop i).trips = 0 := by decide +kernel
/-- Seven heads. -/
theorem trips2 : k0_t2_loop.trips = 7 := by decide +kernel

/-- The tile of prepared keys a trip of the score loop loads. -/
abbrev ldKd (k : Fin (k0_t3_loop i).trips) : Vec Ideal S512x128 .bf16 :=
  View.readAt (Elt Ideal) arg13.view (Rect.unit (s := S6144x128) (k0_off8 i k) S512x128.size (k0_off8_inb i k)).toLoadRect X13
/-- The tile of value scales it loads. -/
abbrev ldVs (k : Fin (k0_t3_loop i).trips) : Vec Ideal S512x128 .f32 :=
  View.readAt (Elt Ideal) arg15.view (Rect.unit (s := S6144x128) (k0_off8 i k) S512x128.size (k0_off8_inb i k)).toLoadRect X15
/-- The queries it loads. -/
abbrev ldQ : Vec Ideal S128x512 .bf16 :=
  View.readAt (Elt Ideal) arg16.view (Rect.unit (s := S128x512) ![0, 0] S128x512.size (by decide)).toLoadRect X16

/-- What a step of the score loop carries on. -/
theorem trip3_R (k : Fin (k0_t3_loop i).trips) (acc : FVec Ideal S8x512 .f32 × FVec Ideal S8x512 .f32 × FVec Ideal S8x512 .f32) :
    tripR_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 k acc
      = (k0_pay47 acc.1 (ldKd i arg13 X13 k) (ldQ arg16 X16), k0_pay48 acc.2.1 (ldKd i arg13 X13 k) (ldQ arg16 X16),
        k0_pay49 acc.2.2 (ldKd i arg13 X13 k) (ldQ arg16 X16) (ldVs i arg15 X15 k)) := by
  unfold tripR_k0_t3 trip_k0_t3
  rfl

/-- What a step of the score loop writes. -/
theorem trip3_L (k : Fin (k0_t3_loop i).trips) (acc : FVec Ideal S8x512 .f32 × FVec Ideal S8x512 .f32 × FVec Ideal S8x512 .f32) :
    tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 k acc
      = [⟨Rect.unit (s := S6144x512) (k0_off9 i k) S512x512.size (k0_off9_inb i k),
        k0_pay46 (ldKd i arg13 X13 k) (ldQ arg16 X16) (ldVs i arg15 X15 k)⟩] := by
  unfold tripL_k0_t3 trip_k0_t3
  rfl

/-- What a step of the value loop writes. -/
theorem trip5_L (k : Fin (k0_t5_loop i).trips) (f : BufTy.Contents (Elt Ideal) arg18.view.ty) :
    tripL_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v162 v164 v168 v171 v221 X14 X17 k f
      = [⟨Rect.unit (s := S128x512) ![0, 0] S128x512.size (by decide),
        k0_pay69 v168 v171 v221
          (View.readAt (Elt Ideal) arg17.view (Rect.unit (s := S6144x512) (k0_off14 i k) S512x512.size (k0_off14_inb i k)).toLoadRect X17)
          (View.readAt (Elt Ideal) arg18.view (Rect.unit (s := S128x512) ![0, 0] S128x512.size (by decide)).toLoadRect f)
          (View.readAt (Elt Ideal) arg14.view (Rect.unit (s := S128x6144) (k0_off15 i k) S128x512.size (k0_off15_inb i k)).toLoadRect X14)⟩] := by
  unfold tripL_k0_t5 trip_k0_t5
  rfl

/-- The remainder loop of the scores changes nothing. -/
theorem st4_trips (init : FVec Ideal S8x512 .f32 × FVec Ideal S8x512 .f32 × FVec Ideal S8x512 .f32) :
    st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 init (k0_t4_loop i).trips = (init, []) := by
  rw [trips4]; rfl

/-- The remainder loop of the values writes nothing. -/
theorem pb6_trips (G : BufTy.Contents (Elt Ideal) arg18.view.ty) :
    pb_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v162 v164 v168 v171 v221 X14 X17 G (k0_t6_loop i).trips = [] := by
  rw [trips6]; rfl

variable (X3 : BufTy.Contents (Elt Ideal) arg3.view.ty)

/-- The queries one head loads. -/
abbrev ldX : Vec Ideal S1x512x128 .bf16 :=
  View.readAt (Elt Ideal) arg3.view (Rect.unit (s := S1x512x896) (k0_off6 k2) S1x512x128.size (k0_off6_inb k2)).toLoadRect X3
/-- The query scales of a head. -/
abbrev hScale : FVec Ideal S4x1x512 .f32 := k0_pay37 (k0_pay33 (ldX arg3 k2 X3)) (k0_pay34 (ldX arg3 k2 X3)) (k0_pay35 (ldX arg3 k2 X3))
/-- The queries of a head times their inverse scales. -/
abbrev hScaled : FVec Ideal S128x512 .f32 := k0_pay38 (k0_pay32 (ldX arg3 k2 X3)) (k0_pay33 (ldX arg3 k2 X3)) (k0_pay34 (ldX arg3 k2 X3)) (k0_pay35 (ldX arg3 k2 X3))
/-- The lower bound of the clip. -/
abbrev hLow : Ideal .f32 := FloatOps.ofBits (F := Ideal) .f32 0xC3E00000#32
/-- The queries as the scores use them. -/
abbrev hQt : FVec Ideal S128x512 .bf16 := k0_pay42 (hScale arg3 k2 X3) (hScaled arg3 k2 X3) hLow
/-- What the query scratch holds once they are stored. -/
abbrev hX16 : BufTy.Contents (Elt Ideal) arg16.view.ty :=
  arg16.view.writes (Elt Ideal) arg16.view.junk [⟨Rect.unit (s := S128x512) ![0, 0] S128x512.size (by decide), hQt arg3 k2 X3⟩]
/-- The state after the score loop. -/
def hSt3 : (FVec Ideal S8x512 .f32 × FVec Ideal S8x512 .f32 × FVec Ideal S8x512 .f32) × List (View.Piece (Elt Ideal) S6144x512 .f32) :=
  st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15
    (hX16 arg3 arg16 k2 X3) (k0_pay43, k0_pay43, k0_pay43) (k0_t3_loop i).trips
/-- The state after the score loop's second part, which never runs. -/
def hSt : (FVec Ideal S8x512 .f32 × FVec Ideal S8x512 .f32 × FVec Ideal S8x512 .f32) × List (View.Piece (Elt Ideal) S6144x512 .f32) :=
  ((st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15
    (hX16 arg3 arg16 k2 X3) (hSt3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1 (k0_t4_loop i).trips).1,
   (st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15
    (hX16 arg3 arg16 k2 X3) (hSt3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1 (k0_t4_loop i).trips).2 ++ (hSt3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).2)

/-- The state after both score loops is the state after the first. -/
theorem hSt_eq : hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 = hSt3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 := by
  unfold hSt
  rw [st4_trips]
  rfl

/-- The prepared keys of the diagonal block. -/
abbrev dKd : Vec Ideal S512x128 .bf16 :=
  View.readAt (Elt Ideal) arg13.view (Rect.unit (s := S6144x128) (k0_off12 i) S512x128.size (k0_off12_inb i)).toLoadRect X13
/-- The value scales of the diagonal block. -/
abbrev dVs : Vec Ideal S512x128 .f32 :=
  View.readAt (Elt Ideal) arg15.view (Rect.unit (s := S6144x128) (k0_off12 i) S512x128.size (k0_off12_inb i)).toLoadRect X15
/-- The queries loaded for the diagonal block. -/
abbrev dQ : Vec Ideal S128x512 .bf16 := ldQ arg16 (hX16 arg3 arg16 k2 X3)
/-- The denominator. -/
def hL : FVec Ideal S1x512 .f32 := k0_pay59 (hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1.1 (dKd i arg13 X13) (dQ arg3 arg16 k2 X3)
/-- The greatest weight. -/
def hM : FVec Ideal S1x512 .f32 := k0_pay60 (hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1.2.1 (dKd i arg13 X13) (dQ arg3 arg16 k2 X3)
/-- The reciprocal of the greatest weight. -/
def hMi : FVec Ideal S1x512 .f32 := k0_pay61 (hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1.2.1 (dKd i arg13 X13) (dQ arg3 arg16 k2 X3)
/-- The greatest scaled weight over 448. -/
def hY : FVec Ideal S1x512 .f32 := k0_pay62 (hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1.2.1 (hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).1.2.2 (dKd i arg13 X13) (dQ arg3 arg16 k2 X3) (dVs i arg15 X15)
/-- What the score scratch holds. -/
def hX17 (f17 : BufTy.Contents (Elt Ideal) arg17.view.ty) : BufTy.Contents (Elt Ideal) arg17.view.ty :=
  arg17.view.writes (Elt Ideal) f17 (⟨Rect.unit (s := S6144x512) (k0_off13 i) S512x512.size (k0_off13_inb i), k0_pay58 (dKd i arg13 X13) (dQ arg3 arg16 k2 X3) (dVs i arg15 X15)⟩
    :: (hSt 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3).2)
/-- The accumulator zeroed. -/
abbrev hZ : List (View.Piece (Elt Ideal) S128x512 .f32) := [⟨Rect.unit (s := S128x512) ![0, 0] S128x512.size (by decide), k0_pay68 (F := Ideal)⟩]
/-- The pieces of the value loop. -/
def hP (f17 : BufTy.Contents (Elt Ideal) arg17.view.ty) : List (View.Piece (Elt Ideal) S128x512 .f32) :=
  pb_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hMi 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3)
    (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64) X14 (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17)
    (arg18.view.writes (Elt Ideal) arg18.view.junk hZ) (k0_t5_loop i).trips ++ hZ
/-- The accumulator after the value loop. -/
def hAcc (f17 : BufTy.Contents (Elt Ideal) arg17.view.ty) : Vec Ideal S128x512 .f32 :=
  View.readAt (Elt Ideal) arg18.view (Rect.unit (s := S128x512) ![0, 0] S128x512.size (by decide)).toLoadRect
    (arg18.view.writes (Elt Ideal) arg18.view.junk
      (pb_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hMi 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3)
    (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64) X14 (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17)
        (arg18.view.writes (Elt Ideal) arg18.view.junk (hP 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17)) (k0_t6_loop i).trips ++ hP 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17))

/-- The accumulator is what the value loop leaves in its scratch. -/
theorem hAcc_eq (f17 : BufTy.Contents (Elt Ideal) arg17.view.ty) :
    hAcc 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17 = arg18.view.read (Elt Ideal) (arg18.view.writes (Elt Ideal) arg18.view.junk (hP 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17)) := by
  unfold hAcc
  rw [pb6_trips, List.nil_append]
  funext y
  refine ld_of (off' := ![0, 0]) _ _ rfl y y fun b => ?_
  match b with
  | 0 => exact (Nat.zero_add _).symm
  | 1 => exact (Nat.zero_add _).symm

/-- What a head writes to the attention. -/
theorem head_6 (f16 : BufTy.Contents (Elt Ideal) arg16.view.ty) (f17 : BufTy.Contents (Elt Ideal) arg17.view.ty) (f18 : BufTy.Contents (Elt Ideal) arg18.view.ty) :
    (tripHead (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k2).1 f16 f17 f18
      = [⟨Rect.unit (s := S1x512x896) (k0_off6 k2) S1x512x128.size (k0_off6_inb k2),
        k0_pay2 (hAcc 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17) (k0_pay71 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3)
          (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64))⟩] := by
  unfold tripHead
  rfl

/-- What a head writes to the query codes. -/
theorem head_7 (f16 : BufTy.Contents (Elt Ideal) arg16.view.ty) (f17 : BufTy.Contents (Elt Ideal) arg17.view.ty) (f18 : BufTy.Contents (Elt Ideal) arg18.view.ty) :
    (tripHead (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k2).2.1 f16 f17 f18
      = [⟨Rect.unit (s := S1x512x896) (k0_off6 k2) S1x512x128.size (k0_off6_inb k2),
        k0_pay40 (hScaled arg3 k2 X3) hLow⟩] := by
  unfold tripHead
  rfl

/-- What a head writes to the query scales. -/
theorem head_8 (f16 : BufTy.Contents (Elt Ideal) arg16.view.ty) (f17 : BufTy.Contents (Elt Ideal) arg17.view.ty) (f18 : BufTy.Contents (Elt Ideal) arg18.view.ty) :
    (tripHead (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 k2).2.2.1 f16 f17 f18
      = [⟨Rect.unit (s := S1x1x7x4x512) (k0_off7 k2) S1x1x1x4x512.size (k0_off7_inb k2),
        k0_pay41 (hScale arg3 k2 X3)⟩] := by
  unfold tripHead
  rfl

end Cert.Proof.KernelIdeal

end
-- ==== Proof.IdealAttend.lean ====
/- What one head of one query block leaves: its codes, its scales and its attention, as functions of the blocks it reads. -/
module

public import proofs.«01_k».proof.Proof.IdealScore
public import Idealize.ShloMosaic.Lib.VecWindow

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)
    (arg2 : BitVec 32) (k2 : Fin k0_t2_loop.trips) (a19 v5 : BitVec 32) (v84 : FVec Ideal S4x1x512 .f32) (v92 : FVec Ideal S128x512 .f32)
    (cst : Ideal .f32) (X13 : BufTy.Contents (Elt Ideal) arg13.view.ty) (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (v162 v164 v168 v171 : FVec Ideal S1x512 .f32) (v221 : IVec S1x512 32)
    (X3 : BufTy.Contents (Elt Ideal) arg3.view.ty)
    (KD : Fin 6144 → Fin 128 → EReal) (VS : Fin 6144 → EReal) (VT : Fin 6144 → Fin 128 → EReal) (QD : Fin 512 → Fin 128 → EReal)
    (h13 : ∀ n d, arg13.view.read (Elt Ideal) X13 (ix2 n d) = KD n d)
    (h14 : ∀ d n, arg14.view.read (Elt Ideal) X14 (ix2 d n) = VT n d)
    (h15 : ∀ n d, arg15.view.read (Elt Ideal) X15 (ix2 n d) = VS n)

/-- There are seven heads. -/
theorem lt2 (k2 : Fin k0_t2_loop.trips) : k2.val < 7 := k2.isLt.trans_eq trips2
/-- A full block of keys comes before the diagonal one. -/
theorem lt3 (k : Fin (k0_t3_loop i).trips) : k.val < (i 2).val := k.isLt.trans_eq (trips3 i)
/-- A block of the value loop comes no later than the diagonal one. -/
theorem lt5 (k : Fin (k0_t5_loop i).trips) : k.val < (i 2).val + 1 := k.isLt.trans_eq (trips5 i)
/-- There are twelve blocks of queries. -/
theorem ltq : (i 2).val < 12 := (i 2).isLt

/-- The weight of key `n` for query `b` of the block. -/
def W (b : Fin 512) : Fin 6144 → EReal := wF t1 t2 KD (QD b) (512 * (i 2).val + b.val)
/-- It times the key's value scale. -/
def WV (b : Fin 512) : Fin 6144 → EReal := fun n => W i KD QD b n * VS n

/-- Keys after the diagonal block weigh nothing. -/
theorem W_zero (b : Fin 512) (n : Fin 6144) (h : 512 * ((i 2).val + 1) ≤ n.val) : W i KD QD b n = 0 := by
  unfold W wF
  rw [if_neg (by have := b.isLt; omega)]

/-- Nor do they once scaled. -/
theorem WV_zero (b : Fin 512) (n : Fin 6144) (h : 512 * ((i 2).val + 1) ≤ n.val) : WV i KD VS QD b n = 0 := by
  unfold WV
  rw [W_zero i KD QD b n h, zero_mul]

include h13 in
/-- An entry of a loaded block of dequantised keys. -/
theorem ldKd_at (k : Fin (k0_t3_loop i).trips) (a : Fin 512) (d : Fin 128) :
    ldKd i arg13 X13 k (ix2 a d) = KD ⟨512 * k.val + a.val, by have := lt3 i k; have := ltq i; have := a.isLt; omega⟩ d := by
  refine (ld_of (arg13.view.read (Elt Ideal) X13) (k0_off8_inb i k) (k0_off8_eq i k) _ (ix2 _ d) fun b => ?_).trans (h13 _ d)
  match b with
  | 0 => simp [ix2]
  | 1 => simp [ix2]

include h15 in
/-- An entry of a loaded block of value scales. -/
theorem ldVs_at (k : Fin (k0_t3_loop i).trips) (a : Fin 512) (d : Fin 128) :
    ldVs i arg15 X15 k (ix2 a d) = VS ⟨512 * k.val + a.val, by have := lt3 i k; have := ltq i; have := a.isLt; omega⟩ := by
  refine (ld_of (arg15.view.read (Elt Ideal) X15) (k0_off8_inb i k) (k0_off8_eq i k) _ (ix2 _ d) fun b => ?_).trans (h15 _ d)
  match b with
  | 0 => simp [ix2]
  | 1 => simp [ix2]

include h13 in
/-- An entry of the diagonal block of dequantised keys. -/
theorem dKd_at (a : Fin 512) (d : Fin 128) :
    dKd i arg13 X13 (ix2 a d) = KD ⟨512 * (i 2).val + a.val, by have := ltq i; have := a.isLt; omega⟩ d := by
  refine (ld_of (arg13.view.read (Elt Ideal) X13) (k0_off12_inb i) (k0_off12_eq i) _ (ix2 _ d) fun b => ?_).trans (h13 _ d)
  match b with
  | 0 => simp [ix2]
  | 1 => simp [ix2]

include h15 in
/-- An entry of the diagonal block of value scales. -/
theorem dVs_at (a : Fin 512) (d : Fin 128) :
    dVs i arg15 X15 (ix2 a d) = VS ⟨512 * (i 2).val + a.val, by have := ltq i; have := a.isLt; omega⟩ := by
  refine (ld_of (arg15.view.read (Elt Ideal) X15) (k0_off12_inb i) (k0_off12_eq i) _ (ix2 _ d) fun b => ?_).trans (h15 _ d)
  match b with
  | 0 => simp [ix2]
  | 1 => simp [ix2]

/-- Row `b` of the queries of this head. -/
def qrow (b : Fin 512) : Fin 128 → EReal := fun d =>
  arg3.view.read (Elt Ideal) X3 (ix3 0 b ⟨128 * k2.val + d.val, by have := lt2 k2; have := d.isLt; omega⟩)

/-- An entry of a head's loaded queries. -/
theorem ldX_at (a : Fin 1) (n : Fin 512) (d : Fin 128) : ldX arg3 k2 X3 (ix3 a n d) = qrow arg3 k2 X3 n d := by
  have ha : a.val = 0 := by have := a.isLt; omega
  refine ld_of (arg3.view.read (Elt Ideal) X3) (k0_off6_inb k2) (k0_off6_eq k2) _ _ fun b => ?_
  match b with
  | 0 => simp [ix3, ha]
  | 1 => simp [ix3]
  | 2 => simp [ix3]

/-- An entry of the dequantised queries. -/
theorem dQ_at (d : Fin 128) (b : Fin 512) : dQ arg3 arg16 k2 X3 (ix2 d b) = d32 (qrow arg3 k2 X3 b) d := by
  have h : dQ arg3 arg16 k2 X3 = hQt arg3 k2 X3 := View.readAt_writes_full arg16.view arg16.view.junk _ _ _ []
  rw [h]
  refine (pay42_at (ldX arg3 k2 X3) d b).trans ?_
  congr 1
  funext e
  exact ldX_at arg3 k2 X3 0 b e

variable (hQ : ∀ d b, ldQ arg16 X16 (ix2 d b) = QD b d)

include h13 hQ in
/-- An entry of the weights of a full block. -/
theorem score_at (k : Fin (k0_t3_loop i).trips) (a b : Fin 512) :
    k0_pay44 (F := Ideal) (ldKd i arg13 X13 k) (ldQ arg16 X16) (ix2 a b) = ext (W i KD QD b) (512 * k.val + a.val) := by
  have h1 := lt3 i k
  have h2 := ltq i
  have h3 := a.isLt
  rw [pay44_at, ext_of _ _ (by omega)]
  unfold W wF
  rw [if_pos (by show 512 * k.val + a.val ≤ _; omega)]
  congr 1
  · funext d; exact ldKd_at i arg13 X13 KD h13 k a d
  · funext d; exact hQ d b

include h13 h15 hQ in
/-- An entry of the scaled weights of a full block. -/
theorem scaled_at (k : Fin (k0_t3_loop i).trips) (a b : Fin 512) :
    k0_pay45 (F := Ideal) (ldKd i arg13 X13 k) (ldQ arg16 X16) (ldVs i arg15 X15 k) (ix2 a b) = ext (WV i KD VS QD b) (512 * k.val + a.val) := by
  have h1 := lt3 i k
  have h2 := ltq i
  have h3 := a.isLt
  have hs := score_at i arg13 arg16 X13 X16 KD QD h13 hQ k a b
  rw [pay44_at] at hs
  rw [pay45_at _ _ _ (fun a => VS ⟨512 * k.val + a.val, by have := a.isLt; omega⟩) (fun n d => ldVs_at i arg15 X15 VS h15 k n d), hs,
    ext_of _ _ (by omega), ext_of _ _ (by omega)]
  rfl

include h13 h15 hQ in
/-- An entry of the scaled weights of a full block as stored. -/
theorem store_at (k : Fin (k0_t3_loop i).trips) (a b : Fin 512) :
    k0_pay46 (F := Ideal) (ldKd i arg13 X13 k) (ldQ arg16 X16) (ldVs i arg15 X15 k) (ix2 a b) = ext (WV i KD VS QD b) (512 * k.val + a.val) := by
  have hs := scaled_at i arg13 arg15 arg16 X13 X15 X16 KD VS QD h13 h15 hQ k a b
  have h1 := lt3 i k
  have h2 := ltq i
  rw [pay45_at _ _ _ (fun a => VS ⟨512 * k.val + a.val, by have := a.isLt; omega⟩) (fun n d => ldVs_at i arg15 X15 VS h15 k n d)] at hs
  rw [pay46_at _ _ _ (fun a => VS ⟨512 * k.val + a.val, by have := a.isLt; omega⟩) (fun n d => ldVs_at i arg15 X15 VS h15 k n d), hs]

include h13 hQ in
/-- An entry of the weights of the diagonal block. -/
theorem diag_at (a b : Fin 512) :
    k0_pay56 (F := Ideal) (dKd i arg13 X13) (ldQ arg16 X16) (ix2 a b) = ext (W i KD QD b) (512 * (i 2).val + a.val) := by
  have h2 := ltq i
  have h3 := a.isLt
  rw [pay56_at, ext_of _ _ (by omega)]
  unfold W wF
  by_cases h : a.val ≤ b.val
  · rw [if_pos h, if_pos (by show 512 * (i 2).val + a.val ≤ _; omega)]
    congr 1
    · funext d; exact dKd_at i arg13 X13 KD h13 a d
    · funext d; exact hQ d b
  · rw [if_neg h, if_neg (by show ¬ 512 * (i 2).val + a.val ≤ _; omega)]

include h13 h15 hQ in
/-- An entry of the scaled weights of the diagonal block. -/
theorem diagV_at (a b : Fin 512) :
    k0_pay57 (F := Ideal) (dKd i arg13 X13) (ldQ arg16 X16) (dVs i arg15 X15) (ix2 a b) = ext (WV i KD VS QD b) (512 * (i 2).val + a.val) := by
  have h2 := ltq i
  have h3 := a.isLt
  rw [pay57_at _ _ _ (fun a => VS ⟨512 * (i 2).val + a.val, by have := a.isLt; omega⟩) (fun n d => dVs_at i arg15 X15 VS h15 n d),
    diag_at i arg13 arg16 X13 X16 KD QD h13 hQ a b, ext_of _ _ (by omega), ext_of _ _ (by omega)]
  rfl

include h13 h15 hQ in
/-- An entry of the scaled weights of the diagonal block as stored. -/
theorem diagS_at (a b : Fin 512) :
    k0_pay58 (F := Ideal) (dKd i arg13 X13) (ldQ arg16 X16) (dVs i arg15 X15) (ix2 a b) = ext (WV i KD VS QD b) (512 * (i 2).val + a.val) := by
  have h2 := ltq i
  have h3 := a.isLt
  rw [pay58_at _ _ _ (fun a => VS ⟨512 * (i 2).val + a.val, by have := a.isLt; omega⟩) (fun n d => dVs_at i arg15 X15 VS h15 n d),
    diag_at i arg13 arg16 X13 X16 KD QD h13 hQ a b, ext_of _ _ (by omega), ext_of _ _ (by omega)]
  rfl

include h13 h15 hQ in
/-- What the score loop carries after `k` trips. -/
theorem carry_at (k : ℕ) (hk : k ≤ (k0_t3_loop i).trips) (s : Fin 8) (b : Fin 512) :
    (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) k).1.1 (ix2 s b) = sumTo (fun t => ext (W i KD QD b) (8 * t + s.val)) (64 * k)
    ∧ (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) k).1.2.1 (ix2 s b) = maxTo (fun t => ext (W i KD QD b) (8 * t + s.val)) (64 * k)
    ∧ (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) k).1.2.2 (ix2 s b) = maxTo (fun t => ext (WV i KD VS QD b) (8 * t + s.val)) (64 * k) := by
  induction k with
  | zero =>
    refine ⟨(pay43_at s b).trans ?_, (pay43_at s b).trans ?_, (pay43_at s b).trans ?_⟩
    all_goals simp [sumTo, maxTo]
  | succ k ih =>
    obtain ⟨h1, h2, h3⟩ := ih (by omega)
    have hs := st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) ⟨k, hk⟩
    dsimp only at hs
    rw [hs]
    dsimp only
    rw [trip3_R]
    dsimp only
    rw [pay47_at, pay48_at, pay49_at, h1, h2, h3]
    simp only [score_at i arg13 arg16 X13 X16 KD QD h13 hQ, scaled_at i arg13 arg15 arg16 X13 X15 X16 KD VS QD h13 h15 hQ]
    exact ⟨sum_step _ k s, max_step _ k s, max_step _ k s⟩

include h13 h15 hQ in
/-- What the score loop's pieces leave of the rows before the diagonal block, the diagonal block's on top. -/
theorem scores_at (f17 : BufTy.Contents (Elt Ideal) arg17.view.ty) (n : Fin 6144) (b : Fin 512) (hn : n.val < 512 * ((i 2).val + 1)) :
    arg17.view.read (Elt Ideal) (arg17.view.writes (Elt Ideal) f17
      (⟨Rect.unit (s := S6144x512) (k0_off13 i) S512x512.size (k0_off13_inb i), k0_pay58 (dKd i arg13 X13) (ldQ arg16 X16) (dVs i arg15 X15)⟩
        :: (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) (k0_t3_loop i).trips).2)) (ix2 n b) = WV i KD VS QD b n := by
  let G : S6144x512.Idx → EReal := fun y => ext (WV i KD VS QD (y 1)) (y 0).val
  have hq := ltq i
  obtain ⟨hp, hm⟩ := pieces_fold (Val := Elt Ideal) (fun k => (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) k).2) (k0_t3_loop i).trips G
    (fun k => [⟨Rect.unit (s := S6144x512) (k0_off9 i k) S512x512.size (k0_off9_inb i k),
        k0_pay46 (ldKd i arg13 X13 k) (ldQ arg16 X16) (ldVs i arg15 X15 k)⟩]) rfl
    (fun k => by
      have hs := st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 a19 v5 v84 v92 cst X13 X15 X16 (k0_pay43, k0_pay43, k0_pay43) k
      dsimp only at hs ⊢
      rw [hs, trip3_L])
    (fun k p hp x => by
      rw [List.mem_singleton] at hp
      subst hp
      obtain ⟨x0, x1, rfl⟩ : ∃ (a b : Fin 512), x = ix2 a b := ⟨x 0, x 1, funext fun j => by match j with | 0 => rfl | 1 => rfl⟩
      have hk := lt3 i k
      refine (store_at i arg13 arg15 arg16 X13 X15 X16 KD VS QD h13 h15 hQ k x0 x1).trans ?_
      have he := emb_of (k0_off9_inb i k) (k0_off9_eq i k) (ix2 x0 x1) (ix2 ⟨512 * k.val + x0.val, by have := x0.isLt; omega⟩ x1)
        (fun j => by match j with | 0 => rfl | 1 => exact (Nat.zero_add _).symm)
      exact (congrArg G he).symm) (k0_t3_loop i).trips le_rfl
  refine (View.read_writes_apply_of_pieces (Val := Elt Ideal) arg17.view f17 G _ ?_ (ix2 n b) ?_).trans (ext_of _ _ n.isLt)
  · intro p hp' x
    rcases List.mem_cons.mp hp' with rfl | h
    · obtain ⟨x0, x1, rfl⟩ : ∃ (a b : Fin 512), x = ix2 a b := ⟨x 0, x 1, funext fun j => by match j with | 0 => rfl | 1 => rfl⟩
      refine (diagS_at i arg13 arg15 arg16 X13 X15 X16 KD VS QD h13 h15 hQ x0 x1).trans ?_
      have he := emb_of (k0_off13_inb i) (k0_off13_eq i) (ix2 x0 x1) (ix2 ⟨512 * (i 2).val + x0.val, by have := x0.isLt; omega⟩ x1)
        (fun j => by match j with | 0 => rfl | 1 => exact (Nat.zero_add _).symm)
      exact (congrArg G he).symm
    · exact hp p h x
  · by_cases h : n.val < 512 * (i 2).val
    · have ht := trips3 i
      refine ⟨_, List.mem_cons_of_mem _ (hm ⟨n.val / 512, by omega⟩ (by show n.val / 512 < _; omega) _ (List.mem_singleton.mpr rfl)), ?_⟩
      refine mem_of (k0_off9_inb i _) (k0_off9_eq i _) _ fun j => ?_
      match j with
      | 0 => exact ⟨by show 512 * (n.val / 512) ≤ n.val; omega, by show n.val < 512 * (n.val / 512) + 512; omega⟩
      | 1 => exact ⟨Nat.zero_le _, by show b.val < 0 + 512; have := b.isLt; omega⟩
    · refine ⟨_, List.mem_cons_self, mem_of (k0_off13_inb i) (k0_off13_eq i) _ fun j => ?_⟩
      match j with
      | 0 => exact ⟨by show 512 * (i 2).val ≤ n.val; omega, by show n.val < 512 * (i 2).val + 512; omega⟩
      | 1 => exact ⟨Nat.zero_le _, by show b.val < 0 + 512; have := b.isLt; omega⟩

/-- The head's weights. -/
abbrev hW (b : Fin 512) : Fin 6144 → EReal := W i KD (fun b => d32 (qrow arg3 k2 X3 b)) b

include h13 in
/-- The denominator is the sum of the weights. -/
theorem hL_at (b : Fin 512) (hv : ∀ n d, arg15.view.read (Elt Ideal) X15 (ix2 n d) = VS n) : hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 (ix2 0 b) = ∑ n, hW i arg3 k2 X3 KD b n := by
  have hq := ltq i
  unfold hL
  rw [hSt_eq, pay59_at]
  unfold hSt3
  have hc := fun s : Fin 8 => (carry_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15 (hX16 arg3 arg16 k2 X3)
    KD VS (fun b => d32 (qrow arg3 k2 X3 b)) h13 hv (fun d b => dQ_at arg3 arg16 k2 X3 d b) (k0_t3_loop i).trips le_rfl s b).1
  simp only [hc, diag_at i arg13 arg16 X13 (hX16 arg3 arg16 k2 X3) KD (fun b => d32 (qrow arg3 k2 X3 b)) h13 (fun d b => dQ_at arg3 arg16 k2 X3 d b)]
  rw [trips3]
  refine (sum_all (ext (W i KD (fun b => d32 (qrow arg3 k2 X3 b)) b)) (i 2).val).trans ?_
  exact sumTo_ext _ _ (by omega) fun n h => W_zero i KD (fun b => d32 (qrow arg3 k2 X3 b)) b n h

include h13 in
/-- The running maximum is the greatest weight. -/
theorem hM_at (b : Fin 512) (hv : ∀ n d, arg15.view.read (Elt Ideal) X15 (ix2 n d) = VS n) : hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 (ix2 0 b) = peak (hW i arg3 k2 X3 KD b) := by
  have hq := ltq i
  unfold hM
  rw [hSt_eq, pay60_at]
  unfold hSt3
  have hc := fun s : Fin 8 => (carry_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15 (hX16 arg3 arg16 k2 X3)
    KD VS (fun b => d32 (qrow arg3 k2 X3 b)) h13 hv (fun d b => dQ_at arg3 arg16 k2 X3 d b) (k0_t3_loop i).trips le_rfl s b).2.1
  simp only [hc, diag_at i arg13 arg16 X13 (hX16 arg3 arg16 k2 X3) KD (fun b => d32 (qrow arg3 k2 X3 b)) h13 (fun d b => dQ_at arg3 arg16 k2 X3 d b)]
  rw [trips3]
  refine (max_all (ext (W i KD (fun b => d32 (qrow arg3 k2 X3 b)) b)) (i 2).val).trans ?_
  exact maxTo_ext _ _ (by omega) fun n h => W_zero i KD (fun b => d32 (qrow arg3 k2 X3 b)) b n h

include h13 in
/-- Its reciprocal. -/
theorem hMi_at (b : Fin 512) (hv : ∀ n d, arg15.view.read (Elt Ideal) X15 (ix2 n d) = VS n) : hMi 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 (ix2 0 b) = pinvF (hW i arg3 k2 X3 KD b) := by
  have h := hM_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b hv
  unfold hMi
  rw [pay61_at]
  unfold hM at h
  rw [h]
  rfl

include h13 in
/-- The greatest scaled weight over the greatest weight, over 448. -/
theorem hY_at (b : Fin 512) (hv : ∀ n d, arg15.view.read (Elt Ideal) X15 (ix2 n d) = VS n) : hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 (ix2 0 b) = yF (hW i arg3 k2 X3 KD b) VS := by
  have hq := ltq i
  have hi := hMi_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b hv
  unfold hMi at hi
  unfold hY
  rw [pay62_at, hi]
  rw [hSt_eq]
  unfold hSt3
  have hc := fun s : Fin 8 => (carry_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15 (hX16 arg3 arg16 k2 X3)
    KD VS (fun b => d32 (qrow arg3 k2 X3 b)) h13 hv (fun d b => dQ_at arg3 arg16 k2 X3 d b) (k0_t3_loop i).trips le_rfl s b).2.2
  simp only [hc, diagV_at i arg13 arg15 arg16 X13 X15 (hX16 arg3 arg16 k2 X3) KD VS (fun b => d32 (qrow arg3 k2 X3 b)) h13 hv (fun d b => dQ_at arg3 arg16 k2 X3 d b)]
  rw [trips3]
  have hm := (max_all (ext (WV i KD VS (fun b => d32 (qrow arg3 k2 X3 b)) b)) (i 2).val).trans (maxTo_ext _ _ (by omega) fun n h => WV_zero i KD VS (fun b => d32 (qrow arg3 k2 X3 b)) b n h)
  exact congrArg (fun z => z * pinvF (hW i arg3 k2 X3 KD b) * c448) hm

include h13 in
/-- The scratch holds the scaled weights of the keys up to the diagonal block. -/
theorem hX17_at (f17 : BufTy.Contents (Elt Ideal) arg17.view.ty) (n : Fin 6144) (b : Fin 512) (hn : n.val < 512 * ((i 2).val + 1))
    (hv : ∀ n d, arg15.view.read (Elt Ideal) X15 (ix2 n d) = VS n) :
    arg17.view.read (Elt Ideal) (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17) (ix2 n b) = hW i arg3 k2 X3 KD b n * VS n := by
  unfold hX17
  rw [hSt_eq]
  unfold hSt3
  exact scores_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 (Scf.iv 0#32 1#32 k2.val) (Scalar.muli (Scf.iv 0#32 1#32 k2.val) 128#32) (hScale arg3 k2 X3) (hScaled arg3 k2 X3) hLow X13 X15 (hX16 arg3 arg16 k2 X3)
    KD VS (fun b => d32 (qrow arg3 k2 X3 b)) h13 hv (fun d b => dQ_at arg3 arg16 k2 X3 d b) f17 n b hn

/-- What a value adds to a channel. -/
abbrev hT (b : Fin 512) (d : Fin 128) : Fin 6144 → EReal := fun n => VT n d * pF (hW i arg3 k2 X3 KD b) VS n

include h13 h14 h15 in
/-- The accumulator after `k` trips of the value loop. -/
theorem acc_at (f17 : BufTy.Contents (Elt Ideal) arg17.view.ty) (k : ℕ) (hk : k ≤ (k0_t5_loop i).trips) (d : Fin 128) (b : Fin 512) :
    arg18.view.read (Elt Ideal) (arg18.view.writes (Elt Ideal) arg18.view.junk
      (pb_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hMi 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64) X14 (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17)
        (arg18.view.writes (Elt Ideal) arg18.view.junk hZ) k ++ hZ)) (ix2 d b) = sumTo (ext (hT i arg3 k2 X3 KD VS VT b d)) (512 * k) := by
  induction k generalizing d b with
  | zero =>
    have h := View.read_writes_full (Val := Elt Ideal) arg18.view arg18.view.junk (off := ![0, 0]) (by decide) (k0_pay68 (F := Ideal)) []
    refine (congrFun h _).trans ((pay68_at d b).trans ?_)
    simp [sumTo]
  | succ k ih =>
    have hs := pb_k0_t5_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hMi 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64) X14 (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17)
        (arg18.view.writes (Elt Ideal) arg18.view.junk hZ) ⟨k, hk⟩
    dsimp only at hs
    rw [hs, trip5_L, ← View.writes_append, List.cons_append, List.nil_append, List.cons_append]
    refine (congrFun (View.read_writes_full (Val := Elt Ideal) arg18.view arg18.view.junk (off := ![0, 0]) (by decide) _ _) _).trans ?_
    have hk5 := lt5 i ⟨k, hk⟩
    have hq := ltq i
    dsimp only at hk5
    rw [pay69_at]
    have hread := (ld_of (arg18.view.read (Elt Ideal) (arg18.view.writes (Elt Ideal) arg18.view.junk
      (pb_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hMi 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64) X14 (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17)
        (arg18.view.writes (Elt Ideal) arg18.view.junk hZ) k ++ hZ))) (off := ![0, 0]) (size := S128x512.size) (by decide) rfl (ix2 d b) (ix2 d b)
        (fun j => by match j with | 0 => exact (Nat.zero_add _).symm | 1 => exact (Nat.zero_add _).symm)).trans (ih (by omega) d b)
    have hv : ∀ n : Fin 512, View.readAt (Elt Ideal) arg14.view (Rect.unit (s := S128x6144) (k0_off15 i ⟨k, hk⟩) S128x512.size (k0_off15_inb i ⟨k, hk⟩)).toLoadRect X14 (ix2 d n)
        = VT ⟨512 * k + n.val, by have := n.isLt; omega⟩ d := fun n => by
      refine (ld_of (arg14.view.read (Elt Ideal) X14) (k0_off15_inb i ⟨k, hk⟩) (k0_off15_eq i ⟨k, hk⟩) _ (ix2 d _) fun j => ?_).trans (h14 d _)
      match j with
      | 0 => simp [ix2]
      | 1 => simp [ix2]
    have hsc : ∀ n : Fin 512, View.readAt (Elt Ideal) arg17.view (Rect.unit (s := S6144x512) (k0_off14 i ⟨k, hk⟩) S512x512.size (k0_off14_inb i ⟨k, hk⟩)).toLoadRect (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17) (ix2 n b)
        = hW i arg3 k2 X3 KD b ⟨512 * k + n.val, by have := n.isLt; omega⟩ * VS ⟨512 * k + n.val, by have := n.isLt; omega⟩ := fun n => by
      refine (ld_of (arg17.view.read (Elt Ideal) (hX17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 f17)) (k0_off14_inb i ⟨k, hk⟩) (k0_off14_eq i ⟨k, hk⟩) _ (ix2 ⟨512 * k + n.val, by have := n.isLt; omega⟩ b) fun j => ?_).trans
        (hX17_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 f17 _ b (by show 512 * k + n.val < _; have := n.isLt; omega) h15)
      match j with
      | 0 => simp [ix2]
      | 1 => simp [ix2]
    have hMi := hMi_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b h15
    have hY := hY_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b h15
    rw [hMi, hY]
    refine (congrArg₂ (· + ·) hread (Finset.sum_congr rfl fun n _ => congrArg₂ (· * ·) (hv n) (congrArg₂ min (congrArg (· * _) (hsc n)) rfl))).trans ?_
    unfold sumTo
    rw [show 512 * (k + 1) = 512 * k + 512 by ring, Finset.sum_range_add, Finset.sum_range (n := 512)]
    congr 1
    refine Finset.sum_congr rfl fun n _ => ?_
    rw [ext_of _ _ (by have := n.isLt; omega)]
    rfl

/-- Keys after the diagonal block add nothing to the weighted sum. -/
theorem hT_zero (b : Fin 512) (d : Fin 128) (n : Fin 6144) (h : 512 * ((i 2).val + 1) ≤ n.val) : hT i arg3 k2 X3 KD VS VT b d n = 0 := by
  show VT n d * pF (hW i arg3 k2 X3 KD b) VS n = 0
  unfold pF
  rw [show hW i arg3 k2 X3 KD b n = 0 from W_zero i KD (fun b => d32 (qrow arg3 k2 X3 b)) b n h, zero_mul, zero_mul, b448, min_eq_left, mul_zero]
  exact_mod_cast (by norm_num : (0 : ℝ) ≤ 448)

include h13 h14 h15 in
/-- The accumulator is the sum of the value codes times the weight codes. -/
theorem hAcc_at (f17 : BufTy.Contents (Elt Ideal) arg17.view.ty) (d : Fin 128) (b : Fin 512) :
    hAcc 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17 (ix2 d b) = ∑ n, VT n d * pF (hW i arg3 k2 X3 KD b) VS n := by
  have hq := ltq i
  rw [hAcc_eq]
  unfold hP
  refine (acc_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 KD VS VT h13 h14 h15 f17 _ le_rfl d b).trans ?_
  rw [trips5]
  exact sumTo_ext _ _ (by omega) fun n h => hT_zero i arg3 k2 X3 KD VS VT b d n h

include h13 h14 h15 in
/-- The attention of one head. -/
theorem out_at (f17 : BufTy.Contents (Elt Ideal) arg17.view.ty) (a : Fin 1) (b : Fin 512) (d : Fin 128) :
    k0_pay2 (F := Ideal) (hAcc 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 f17) (k0_pay71 (hL 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hM 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) (k0_pay65 (hY 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3) k0_pay63 k0_pay64)) (ix3 a b d)
      = attend (hW i arg3 k2 X3 KD b) VS (fun n => VT n d) := by
  rw [pay2_at, pay71_at, hAcc_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X14 X15 X3 KD VS VT h13 h14 h15 f17 d b, hL_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b h15,
    hM_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b h15, hY_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k2 X13 X15 X3 KD VS h13 b h15]
  rfl

end Cert.Proof.KernelIdeal

end
-- ==== Proof.IdealReach.lean ====
/- What the seven heads of a query block leave in the three output blocks, as functions of the query, key and value blocks. -/
module

public import proofs.«01_k».proof.Proof.IdealAttend
public import Idealize.ShloMosaic.Lib.WritesUnit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row `b` of head `h` of a query block. -/
def qrowG (Q : S1x512x896.Idx → EReal) (h : Fin 7) (b : Fin 512) : Fin 128 → EReal := fun d =>
  Q (ix3 0 b ⟨128 * h.val + d.val, by have := h.isLt; have := d.isLt; omega⟩)

/-- The head of a column. -/
def hOf (x : Fin 896) : Fin 7 := ⟨x.val / 128, by have := x.isLt; omega⟩
/-- Its channel in the head. -/
def dOf (x : Fin 896) : Fin 128 := ⟨x.val % 128, by omega⟩

/-- The attention block. -/
def outG (q : ℕ) (Q : S1x512x896.Idx → EReal) (K V : S1x6144x128.Idx → EReal) : S1x512x896.Idx → EReal := fun y =>
  attend (wF t1 t2 (fun n => d32 (rowK K n)) (d32 (qrowG Q (hOf (y 2)) (y 1))) (512 * q + (y 1).val)) (fun n => s128 (rowK V n)) (fun n => c128 (rowK V n) (dOf (y 2)))
/-- The query codes. -/
def qcG (Q : S1x512x896.Idx → EReal) : S1x512x896.Idx → EReal := fun y => c32 (qrowG Q (hOf (y 2)) (y 1)) (dOf (y 2))
/-- The query scales. -/
def qsG (Q : S1x512x896.Idx → EReal) : S1x1x7x4x512.Idx → EReal := fun y => s32 (qrowG Q (y 2) (y 4)) (y 3)

variable (𝒱 : Variants) (c : Dev nD) (bd : Option 𝒱.V) (i : grid0.Coords)
    (arg3 : Memref sig .tc .vmem S1x512x896 .bf16) (harg3 : arg3.IsWhole)
    (arg4 : Memref sig .tc .vmem S1x6144x128 .bf16) (harg4 : arg4.IsWhole)
    (arg5 : Memref sig .tc .vmem S1x6144x128 .bf16) (harg5 : arg5.IsWhole)
    (arg6 : Memref sig .tc .vmem S1x512x896 .bf16) (harg6 : arg6.IsWhole)
    (arg7 : Memref sig .tc .vmem S1x512x896 .fp8e4m3) (harg7 : arg7.IsWhole)
    (arg8 : Memref sig .tc .vmem S1x1x7x4x512 .f32) (harg8 : arg8.IsWhole)
    (arg9 : Memref sig .tc .vmem S1x6144x128 .fp8e4m3) (harg9 : arg9.IsWhole)
    (arg10 : Memref sig .tc .vmem S1x1x4x6144 .f32) (harg10 : arg10.IsWhole)
    (arg11 : Memref sig .tc .vmem S1x6144x128 .fp8e4m3) (harg11 : arg11.IsWhole)
    (arg12 : Memref sig .tc .vmem S1x1x1x6144 .f32) (harg12 : arg12.IsWhole)
    (arg13 : Memref sig .tc .vmem S6144x128 .bf16) (harg13 : arg13.IsWhole)
    (arg14 : Memref sig .tc .vmem S128x6144 .fp8e4m3) (harg14 : arg14.IsWhole)
    (arg15 : Memref sig .tc .vmem S6144x128 .f32) (harg15 : arg15.IsWhole)
    (arg16 : Memref sig .tc .vmem S128x512 .bf16) (harg16 : arg16.IsWhole)
    (arg17 : Memref sig .tc .vmem S6144x512 .f32) (harg17 : arg17.IsWhole)
    (arg18 : Memref sig .tc .vmem S128x512 .f32) (harg18 : arg18.IsWhole)
    (arg2 : BitVec 32) (X3 : BufTy.Contents (Elt Ideal) arg3.view.ty) (X13 : BufTy.Contents (Elt Ideal) arg13.view.ty)
    (X14 : BufTy.Contents (Elt Ideal) arg14.view.ty) (X15 : BufTy.Contents (Elt Ideal) arg15.view.ty)
    (Q : S1x512x896.Idx → EReal) (K V : S1x6144x128.Idx → EReal)
    (h3 : arg3.view.read (Elt Ideal) X3 = Q) (h13 : arg13.view.read (Elt Ideal) X13 = kdG K)
    (h14 : arg14.view.read (Elt Ideal) X14 = vtG V) (h15 : arg15.view.read (Elt Ideal) X15 = vsrG V)

include h3 in
/-- The queries a trip reads are the ones of its head. -/
theorem qrow_eq (k2 : Fin k0_t2_loop.trips) (h : Fin 7) (hk : h.val = k2.val) (b : Fin 512) : qrow arg3 k2 X3 b = qrowG Q h b := by
  subst h3
  funext d
  unfold qrow qrowG
  simp only [hk]

include h3 h13 h14 h15 in
/-- What the three query outputs hold after some heads. -/
theorem reach_eq (G6 : BufTy.Contents (Elt Ideal) arg6.view.ty) (G7 : BufTy.Contents (Elt Ideal) arg7.view.ty) (G8 : BufTy.Contents (Elt Ideal) arg8.view.ty)
    (k : ℕ) (g6 : BufTy.Contents (Elt Ideal) arg6.view.ty) (g7 : BufTy.Contents (Elt Ideal) arg7.view.ty) (g8 : BufTy.Contents (Elt Ideal) arg8.view.ty)
    (hr : Reach (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 G6 G7 G8 k g6 g7 g8) :
    (∀ y : S1x512x896.Idx, (y 2).val < 128 * k → arg6.view.read (Elt Ideal) g6 y = outG (i 2).val Q K V y)
    ∧ (∀ y : S1x512x896.Idx, (y 2).val < 128 * k → arg7.view.read (Elt Ideal) g7 y = qcG Q y)
    ∧ (∀ y : S1x1x7x4x512.Idx, (y 2).val < k → arg8.view.read (Elt Ideal) g8 y = qsG Q y) := by
  induction hr with
  | zero => exact ⟨fun y h => absurd h (by omega), fun y h => absurd h (by omega), fun y h => absurd h (by omega)⟩
  | succ k f6 f7 f8 f16 f17 f18 hr ih =>
    obtain ⟨i6, i7, i8⟩ := ih
    rw [head_6, head_7, head_8]
    refine ⟨fun y h => ?_, fun y h => ?_, fun y h => ?_⟩
    · by_cases hy : (y 2).val < 128 * k.val
      · exact (View.read_writes_cons_unit_of_not_mem (Val := Elt Ideal) arg6.view f6 (k0_off6_inb k) _ [] y (k0_off6_eq k) 2 (.inl hy)).trans (i6 y hy)
      · have h0 : (y 0).val = 0 := by have : (y 0).val < 1 := (y 0).isLt; omega
        have hd : (dOf (y 2)).val = (y 2).val - 128 * k.val := by show (y 2).val % 128 = _; omega
        have hh : (hOf (y 2)).val = k.val := by show (y 2).val / 128 = _; omega
        refine (View.read_writes_cons_unit_of_mem (Val := Elt Ideal) arg6.view f6 (k0_off6_inb k) _ [] y (ix3 0 (y 1) (dOf (y 2))) (k0_off6_eq k) fun a => ?_).trans ?_
        · match a with
          | 0 => exact h0
          | 1 => exact (Nat.zero_add _).symm
          | 2 => show (y 2).val = 128 * k.val + (dOf (y 2)).val; omega
        · refine (out_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k X13 X14 X15 X3 (fun n => d32 (rowK K n)) (fun n => s128 (rowK V n)) (fun n => c128 (rowK V n))
            (fun n d => by rw [h13]; rfl) (fun d n => by rw [h14]; rfl) (fun n d => by rw [h15]; rfl) f17 0 (y 1) (dOf (y 2))).trans ?_
          exact congrArg (fun r => attend (wF t1 t2 (fun n => d32 (rowK K n)) (d32 r) (512 * (i 2).val + (y 1).val)) (fun n => s128 (rowK V n)) (fun n => c128 (rowK V n) (dOf (y 2))))
            (qrow_eq arg3 X3 Q h3 k (hOf (y 2)) hh (y 1))
    · by_cases hy : (y 2).val < 128 * k.val
      · exact (View.read_writes_cons_unit_of_not_mem (Val := Elt Ideal) arg7.view f7 (k0_off6_inb k) _ [] y (k0_off6_eq k) 2 (.inl hy)).trans (i7 y hy)
      · have h0 : (y 0).val = 0 := by have : (y 0).val < 1 := (y 0).isLt; omega
        have hd : (dOf (y 2)).val = (y 2).val - 128 * k.val := by show (y 2).val % 128 = _; omega
        have hh : (hOf (y 2)).val = k.val := by show (y 2).val / 128 = _; omega
        refine (View.read_writes_cons_unit_of_mem (Val := Elt Ideal) arg7.view f7 (k0_off6_inb k) _ [] y (ix3 0 (y 1) (dOf (y 2))) (k0_off6_eq k) fun a => ?_).trans ?_
        · match a with
          | 0 => exact h0
          | 1 => exact (Nat.zero_add _).symm
          | 2 => show (y 2).val = 128 * k.val + (dOf (y 2)).val; omega
        · refine (pay40_at (ldX arg3 k X3) 0 (y 1) (dOf (y 2))).trans ?_
          exact congrArg (fun r => c32 r (dOf (y 2))) ((funext fun d => ldX_at arg3 k X3 0 (y 1) d).trans (qrow_eq arg3 X3 Q h3 k (hOf (y 2)) hh (y 1)))
    · by_cases hy : (y 2).val < k.val
      · exact (View.read_writes_cons_unit_of_not_mem (Val := Elt Ideal) arg8.view f8 (k0_off7_inb k) _ [] y (k0_off7_eq k) 2 (.inl hy)).trans (i8 y hy)
      · have h0 : (y 0).val = 0 := by have : (y 0).val < 1 := (y 0).isLt; omega
        have h1 : (y 1).val = 0 := by have : (y 1).val < 1 := (y 1).isLt; omega
        have hh : (y 2).val = k.val := by omega
        refine (View.read_writes_cons_unit_of_mem (Val := Elt Ideal) arg8.view f8 (k0_off7_inb k) _ [] y (ix5 0 0 0 (y 3) (y 4)) (k0_off7_eq k) fun a => ?_).trans ?_
        · match a with
          | 0 => exact h0
          | 1 => exact h1
          | 2 => exact hh
          | 3 => exact (Nat.zero_add _).symm
          | 4 => exact (Nat.zero_add _).symm
        · refine (pay41_at (ldX arg3 k X3) 0 0 0 (y 3) (y 4)).trans ?_
          exact congrArg (fun r => s32 r (y 3)) ((funext fun d => ldX_at arg3 k X3 0 (y 4) d).trans (qrow_eq arg3 X3 Q h3 k (y 2) hh (y 4)))

include h3 h13 h14 h15 in
/-- The three blocks after the last head. -/
theorem reach_all (G6 : BufTy.Contents (Elt Ideal) arg6.view.ty) (G7 : BufTy.Contents (Elt Ideal) arg7.view.ty) (G8 : BufTy.Contents (Elt Ideal) arg8.view.ty)
    (g6 : BufTy.Contents (Elt Ideal) arg6.view.ty) (g7 : BufTy.Contents (Elt Ideal) arg7.view.ty) (g8 : BufTy.Contents (Elt Ideal) arg8.view.ty)
    (hr : Reach (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 G6 G7 G8 k0_t2_loop.trips g6 g7 g8) :
    arg6.view.read (Elt Ideal) g6 = outG (i 2).val Q K V ∧ arg7.view.read (Elt Ideal) g7 = qcG Q ∧ arg8.view.read (Elt Ideal) g8 = qsG Q := by
  obtain ⟨h6, h7, h8⟩ := reach_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 X3 X13 X14 X15 Q K V h3 h13 h14 h15 G6 G7 G8 _ g6 g7 g8 hr
  refine ⟨funext fun y => h6 y ?_, funext fun y => h7 y ?_, funext fun y => h8 y ?_⟩
  · rw [trips2]; exact (y 2).isLt
  · rw [trips2]; exact (y 2).isLt
  · rw [trips2]; exact (y 2).isLt

end Cert.Proof.KernelIdeal

end
-- ==== Proof.IdealGeom.lean ====
/- Where each block of the three arguments and the seven results lies, at each of the 192 grid points. -/
module

public import proofs.«01_k».proof.Proof.IdealReach
public import Idealize.ShloMosaic.Lib.Pipeline.ValueKit.Geometry
public import Idealize.ShloMosaic.Lib.Pipeline.ValueKit.Point

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ)

/-- The keys and values are prepared at the first block of queries of a group. -/
theorem cond_iff : ∀ t : Fin cfg0.N, k0_cond1 (grid0.coords t) = 1#1 ↔ t.val % 12 = 0 :=
  (by decide +kernel : ∀ t : Fin grid0.N, k0_cond1 (grid0.coords t) = 1#1 ↔ t.val % 12 = 0)
/-- The last coordinate of a point. -/
theorem coord2 : ∀ t : Fin cfg0.N, (grid0.coords t 2).val = t.val % 12 :=
  (by decide +kernel : ∀ t : Fin grid0.N, (grid0.coords t 2).val = t.val % 12)
/-- The block of queries of a point. -/
theorem idx_0 : ∀ t : Fin cfg0.N, win0_0.index t = ![t.val / 96, t.val % 12, t.val / 12 % 8] :=
  (by decide +kernel : ∀ t : Fin grid0.N, win0_0.index t = ![t.val / 96, t.val % 12, t.val / 12 % 8])
/-- The block of keys of a point. -/
theorem idx_1 : ∀ t : Fin cfg0.N, win0_1.index t = ![t.val / 96, 0, t.val / 12 % 8] :=
  (by decide +kernel : ∀ t : Fin grid0.N, win0_1.index t = ![t.val / 96, 0, t.val / 12 % 8])
/-- The block of values of a point. -/
theorem idx_2 : ∀ t : Fin cfg0.N, win0_2.index t = ![t.val / 96, 0, t.val / 12 % 8] :=
  (by decide +kernel : ∀ t : Fin grid0.N, win0_2.index t = ![t.val / 96, 0, t.val / 12 % 8])
/-- The block of the attention of a point. -/
theorem idx_3 : ∀ t : Fin cfg0.N, win0_3.index t = ![t.val / 96, t.val % 12, t.val / 12 % 8] :=
  (by decide +kernel : ∀ t : Fin grid0.N, win0_3.index t = ![t.val / 96, t.val % 12, t.val / 12 % 8])
/-- The block of query codes of a point. -/
theorem idx_4 : ∀ t : Fin cfg0.N, win0_4.index t = ![t.val / 96, t.val % 12, t.val / 12 % 8] :=
  (by decide +kernel : ∀ t : Fin grid0.N, win0_4.index t = ![t.val / 96, t.val % 12, t.val / 12 % 8])
/-- The block of query scales of a point. -/
theorem idx_5 : ∀ t : Fin cfg0.N, win0_5.index t = ![t.val / 96, t.val / 12 % 8, 0, 0, t.val % 12] :=
  (by decide +kernel : ∀ t : Fin grid0.N, win0_5.index t = ![t.val / 96, t.val / 12 % 8, 0, 0, t.val % 12])
/-- The block of key codes of a point. -/
theorem idx_6 : ∀ t : Fin cfg0.N, win0_6.index t = ![t.val / 96, 0, t.val / 12 % 8] :=
  (by decide +kernel : ∀ t : Fin grid0.N, win0_6.index t = ![t.val / 96, 0, t.val / 12 % 8])
/-- The block of key scales of a point. -/
theorem idx_7 : ∀ t : Fin cfg0.N, win0_7.index t = ![t.val / 96, t.val / 12 % 8, 0, 0] :=
  (by decide +kernel : ∀ t : Fin grid0.N, win0_7.index t = ![t.val / 96, t.val / 12 % 8, 0, 0])
/-- The block of value codes of a point. -/
theorem idx_8 : ∀ t : Fin cfg0.N, win0_8.index t = ![t.val / 96, 0, t.val / 12 % 8] :=
  (by decide +kernel : ∀ t : Fin grid0.N, win0_8.index t = ![t.val / 96, 0, t.val / 12 % 8])
/-- The block of value scales of a point. -/
theorem idx_9 : ∀ t : Fin cfg0.N, win0_9.index t = ![t.val / 96, t.val / 12 % 8, 0, 0] :=
  (by decide +kernel : ∀ t : Fin grid0.N, win0_9.index t = ![t.val / 96, t.val / 12 % 8, 0, 0])

/-- There are 192 points. -/
theorem lt_N (t : Fin cfg0.N) : t.val < 192 := t.isLt.trans_eq N_0

/-- The batch of a point, its group of heads, its block of queries. -/
def bOf (t : Fin cfg0.N) : Fin 2 := ⟨t.val / 96, by have := lt_N t; omega⟩
/-- The group of heads of a point. -/
def gpOf (t : Fin cfg0.N) : Fin 8 := ⟨t.val / 12 % 8, by omega⟩
/-- The block of queries of a point. -/
def qOf (t : Fin cfg0.N) : Fin 12 := ⟨t.val % 12, by omega⟩

/-- An entry of a point's queries. -/
theorem iblk0_at (c : Dev nD) (t : Fin cfg0.N) (n : Fin 512) (x : Fin 896) :
    iblk m c 0 t (ix3 (0 : Fin 1) n x) = m ((c : Thread nD τ).loc main_arg0)
      (ix3 (bOf t) (⟨512 * (qOf t).val + n.val, by have := (qOf t).isLt; have := n.isLt; omega⟩ : Fin 6144)
        (⟨896 * (gpOf t).val + x.val, by have := (gpOf t).isLt; have := x.isLt; omega⟩ : Fin 7168)) := by
  blk_point [iblk, V, idx_0 t]
  all_goals (simp only [bOf, gpOf, qOf]; omega)

/-- An entry of a point's keys. -/
theorem iblk1_at (c : Dev nD) (t : Fin cfg0.N) (n : Fin 6144) (d : Fin 128) :
    iblk m c 1 t (ix3 (0 : Fin 1) n d) = m ((c : Thread nD τ).loc main_arg1)
      (ix3 (bOf t) n (⟨128 * (gpOf t).val + d.val, by have := (gpOf t).isLt; have := d.isLt; omega⟩ : Fin 1024)) := by
  blk_point [iblk, V, idx_1 t]
  all_goals (simp only [bOf, gpOf, qOf]; omega)

/-- An entry of a point's values. -/
theorem iblk2_at (c : Dev nD) (t : Fin cfg0.N) (n : Fin 6144) (d : Fin 128) :
    iblk m c 2 t (ix3 (0 : Fin 1) n d) = m ((c : Thread nD τ).loc main_arg2)
      (ix3 (bOf t) n (⟨128 * (gpOf t).val + d.val, by have := (gpOf t).isLt; have := d.isLt; omega⟩ : Fin 1024)) := by
  blk_point [iblk, V, idx_2 t]
  all_goals (simp only [bOf, gpOf, qOf]; omega)

/-- The key block of a point. -/
def kb (c : Dev nD) (t : Fin cfg0.N) : S1x6144x128.Idx → EReal := iblk m c 1 t
/-- The value block of a point. -/
def vb (c : Dev nD) (t : Fin cfg0.N) : S1x6144x128.Idx → EReal := iblk m c 2 t
/-- The query block of a point. -/
def qb (c : Dev nD) (t : Fin cfg0.N) : S1x512x896.Idx → EReal := iblk m c 0 t

/-- Points of one group of heads share batch and group. -/
theorem same_of (t u : Fin cfg0.N) (h : t.val / 12 = u.val / 12) : bOf t = bOf u ∧ gpOf t = gpOf u :=
  ⟨Fin.ext (by show t.val / 96 = u.val / 96; omega), Fin.ext (by show t.val / 12 % 8 = u.val / 12 % 8; omega)⟩

/-- They share the keys. -/
theorem kb_same (c : Dev nD) (t u : Fin cfg0.N) (h : t.val / 12 = u.val / 12) : kb m c t = kb m c u := by
  obtain ⟨h1, h2⟩ := same_of t u h
  funext y
  obtain ⟨y0, y1, y2, rfl⟩ : ∃ (a : Fin 1) (b : Fin 6144) (d : Fin 128), y = ix3 a b d :=
    ⟨y 0, y 1, y 2, funext fun j => by match j with | 0 => rfl | 1 => rfl | 2 => rfl⟩
  obtain rfl : y0 = 0 := Subsingleton.elim _ _
  show iblk m c 1 t (ix3 (0 : Fin 1) y1 y2) = iblk m c 1 u (ix3 (0 : Fin 1) y1 y2)
  rw [iblk1_at, iblk1_at, h1]
  simp only [h2]

/-- They share the values. -/
theorem vb_same (c : Dev nD) (t u : Fin cfg0.N) (h : t.val / 12 = u.val / 12) : vb m c t = vb m c u := by
  obtain ⟨h1, h2⟩ := same_of t u h
  funext y
  obtain ⟨y0, y1, y2, rfl⟩ : ∃ (a : Fin 1) (b : Fin 6144) (d : Fin 128), y = ix3 a b d :=
    ⟨y 0, y 1, y 2, funext fun j => by match j with | 0 => rfl | 1 => rfl | 2 => rfl⟩
  obtain rfl : y0 = 0 := Subsingleton.elim _ _
  show iblk m c 2 t (ix3 (0 : Fin 1) y1 y2) = iblk m c 2 u (ix3 (0 : Fin 1) y1 y2)
  rw [iblk2_at, iblk2_at, h1]
  simp only [h2]

end Cert.Proof.KernelIdeal

end
-- ==== Proof.IdealRun.lean ====
/- What the kernel leaves in each of its seven arrays, over the reals: at every grid point the body writes the closed
   forms of its blocks, and the scratch buffers carry the prepared keys and values from the first point of a group of
   heads to the others. -/
module

public import proofs.«01_k».proof.Proof.IdealGeom
public import proofs.«01_k».proof.Proof.IdealBody
public import Idealize.ShloMosaic.Adequacy
public import Idealize.ShloMosaic.Lib.Pipeline.TableIdle
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Val

local notation "𝕄" => MT nD τ sig Unit (Elt Ideal) ℕ (UR sig nD τ) ℕ

variable (m : (ℓ : Loc nD τ sig) → Buf (Elt Ideal) ℓ) (ρ : Dev nD → PrngReg)

/-- Before point `k`, unless it is the first of its group, the scratch buffers hold the group's prepared keys and values. -/
def Prep (c : Dev nD) (k : ℕ) (d13 : S6144x128.Idx → EReal) (d14 : S128x6144.Idx → EReal) (d15 : S6144x128.Idx → EReal) : Prop :=
  ∀ h : k < cfg0.N, k % 12 ≠ 0 → d13 = kdG (kb m c ⟨k, h⟩) ∧ d14 = vtG (vb m c ⟨k, h⟩) ∧ d15 = vsrG (vb m c ⟨k, h⟩)

/-- What holds of the scratch buffers before point `k`. -/
def Phi (c : Dev nD) (k : ℕ) : sProp 𝕄 :=
  iprop((∃ d13 d14 d15, ⌜Prep m c k d13 d14 d15⌝ ∗ owns (c : Thread nD τ) (Memref.whole cc0_scratch0) fullShare d13 ∗ owns (c : Thread nD τ) (Memref.whole cc0_scratch1) fullShare d14 ∗ owns (c : Thread nD τ) (Memref.whole cc0_scratch2) fullShare d15 ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r)

/-- The proof data: each input block left in place, each output block at its closed form. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outG (grid0.coords t 2).val (qb m c t) (kb m c t) (vb m c t)
    | ⟨4, _⟩ => qcG (qb m c t)
    | ⟨5, _⟩ => qsG (qb m c t)
    | ⟨6, _⟩ => kcG (kb m c t)
    | ⟨7, _⟩ => ksG (kb m c t)
    | ⟨8, _⟩ => vcG (vb m c t)
    | ⟨9, _⟩ => vsG (vb m c t)
    | ⟨n + 10, h⟩ => absurd (show n + 10 < 10 from h) (by omega)
  Φ k := Phi m c k.val
  q _ := fullShare
  owed _ := 0

/-- The invariant opened: the six scratch buffers and the generator register, each at something. -/
theorem phi_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]; simp only [owns_whole]; try rfl

/-- Before the first point the scratch buffers hold anything. -/
theorem phi_in (c : Dev nD) : (Pipeline.ΦA spec0 c : sProp 𝕄) ⊢ Phi m c 0 := by
  rw [phi_eq]; unfold Phi
  iintro ⟨⟨⟨%d13, H13⟩, ⟨%d14, H14⟩, ⟨%d15, H15⟩, H16, H17, H18⟩, Hg⟩
  isplitr [Hg]
  · iexists d13, d14, d15
    isplitr
    · ipureintro; exact fun _ h => absurd rfl h
    isplitl [H13]; · iexact H13
    isplitl [H14]; · iexact H14
    isplitl [H15]; · iexact H15
    isplitl [H16]; · iexact H16
    isplitl [H17]; · iexact H17
    iexact H18
  iexact Hg

/-- And so they do at the end. -/
theorem phi_out (c : Dev nD) (k : ℕ) : Phi m c k ⊢ (Pipeline.ΦA spec0 c : sProp 𝕄) := by
  rw [phi_eq]; unfold Phi
  iintro ⟨⟨%d13, %d14, %d15, -, H13, H14, H15, H16, H17, H18⟩, Hg⟩
  isplitr [Hg]
  · isplitl [H13]; · iexists d13; iexact H13
    isplitl [H14]; · iexists d14; iexact H14
    isplitl [H15]; · iexists d15; iexact H15
    isplitl [H16]; · iexact H16
    isplitl [H17]; · iexact H17
    iexact H18
  iexact Hg

/-- The point before. -/
def prv (t : Fin cfg0.N) : Fin cfg0.N := ⟨t.val - 1, Nat.lt_of_le_of_lt (Nat.sub_le _ _) t.isLt⟩

/-- The point before one that does not start a group is in the same group. -/
theorem prv_grp (t : Fin cfg0.N) (h : t.val % 12 ≠ 0) : (prv t).val / 12 = t.val / 12 := by
  show (t.val - 1) / 12 = t.val / 12; omega

/-- A point that prepares nothing does not start a group. -/
theorem idle_pt (t : Fin cfg0.N) (h : (!(k0_cond1 (grid0.coords t) == 1#1)) = true) : t.val % 12 ≠ 0 := fun h0 => by
  rw [(cond_iff t).mpr h0] at h; exact absurd h (by decide)
/-- A point that starts a group prepares. -/
theorem live_pt (t : Fin cfg0.N) (h0 : t.val % 12 = 0) : (!(k0_cond1 (grid0.coords t) == 1#1)) = false := by
  rw [(cond_iff t).mpr h0]; rfl

/-- Window 6's buffer was stored at the first point of the group. -/
theorem fresh6 : ∀ (n : ℕ) (hn : n < cfg0.N), n % 12 ≠ 0 → cfg0.fresh 6 n = false
  | 0, _, h => absurd rfl h
  | n + 1, hn, h => by
    have hn' : n < cfg0.N := Nat.lt_of_succ_lt hn
    rw [Pipeline.Cfg.fresh_succ cfg0 6 n hn',
      show (cfg0.win 6).flush ⟨n, hn'⟩ = false from Bool.eq_false_iff.mpr fun hf => by
        have h2 : n % 12 = 11 := (flush0_6 ⟨n, hn'⟩).mp hf
        omega, Bool.false_or]
    by_cases h0 : n % 12 = 0
    · rw [show cfg0.idle 6 (cfg0.grid.coords ⟨n, hn'⟩) = false from live_pt ⟨n, hn'⟩ h0, Bool.false_and]
    · rw [fresh6 n hn' h0, Bool.and_false]

/-- At a later point of a group, window 6 still holds what the first left in it. -/
theorem kept6 (c : Dev nD) (t : Fin cfg0.N) (h : t.val % 12 ≠ 0) (d) : (dats m 0 c).before 6 t d = kcG (kb m c t) := by
  rw [(dats m 0 c).before_out_traj 6 rfl (fun _ _ => rfl) (fun u hu hi _ => by
    show kcG (kb m c u) = kcG (kb m c (prv u))
    rw [kb_same m c (prv u) u (prv_grp u (idle_pt u hi))]) t.val t rfl d, fresh6 t.val t.isLt h, if_neg Bool.false_ne_true]
  show kcG (kb m c (prv t)) = _
  rw [kb_same m c (prv t) t (prv_grp t h)]

/-- What the body leaves in window 6 is what the launch asks of it, at either kind of point. -/
theorem leaves6 (c : Dev nD) (t : Fin cfg0.N) :
    (owns (c : Thread nD τ) (st0_6 t) fullShare ((dats m 0 c).after 6 t) : sProp 𝕄) ⊢
      match cfg0.idle 6 (cfg0.grid.coords t) with
      | true =>
        match (cfg0.win 6).flush t with
        | false => iprop(∃ d, owns (c : Thread nD τ) (st0_6 t) fullShare ((dats m 0 c).before 6 t d))
        | true => owns (c : Thread nD τ) (st0_6 t) fullShare ((dats m 0 c).after 6 t)
      | false => owns (c : Thread nD τ) (st0_6 t) fullShare ((dats m 0 c).after 6 t) := by
  cases hi : cfg0.idle 6 (cfg0.grid.coords t)
  · exact .rfl
  · cases hf : (cfg0.win 6).flush t
    · dsimp only
      iintro H
      iexists kcG (kb m c t)
      rw [kept6 m c t (idle_pt t hi) (kcG (kb m c t))]
      iexact H
    · exact .rfl

/-- Window 7's buffer was stored at the first point of the group. -/
theorem fresh7 : ∀ (n : ℕ) (hn : n < cfg0.N), n % 12 ≠ 0 → cfg0.fresh 7 n = false
  | 0, _, h => absurd rfl h
  | n + 1, hn, h => by
    have hn' : n < cfg0.N := Nat.lt_of_succ_lt hn
    rw [Pipeline.Cfg.fresh_succ cfg0 7 n hn',
      show (cfg0.win 7).flush ⟨n, hn'⟩ = false from Bool.eq_false_iff.mpr fun hf => by
        have h2 : n % 12 = 11 := (flush0_7 ⟨n, hn'⟩).mp hf
        omega, Bool.false_or]
    by_cases h0 : n % 12 = 0
    · rw [show cfg0.idle 7 (cfg0.grid.coords ⟨n, hn'⟩) = false from live_pt ⟨n, hn'⟩ h0, Bool.false_and]
    · rw [fresh7 n hn' h0, Bool.and_false]

/-- At a later point of a group, window 7 still holds what the first left in it. -/
theorem kept7 (c : Dev nD) (t : Fin cfg0.N) (h : t.val % 12 ≠ 0) (d) : (dats m 0 c).before 7 t d = ksG (kb m c t) := by
  rw [(dats m 0 c).before_out_traj 7 rfl (fun _ _ => rfl) (fun u hu hi _ => by
    show ksG (kb m c u) = ksG (kb m c (prv u))
    rw [kb_same m c (prv u) u (prv_grp u (idle_pt u hi))]) t.val t rfl d, fresh7 t.val t.isLt h, if_neg Bool.false_ne_true]
  show ksG (kb m c (prv t)) = _
  rw [kb_same m c (prv t) t (prv_grp t h)]

/-- What the body leaves in window 7 is what the launch asks of it, at either kind of point. -/
theorem leaves7 (c : Dev nD) (t : Fin cfg0.N) :
    (owns (c : Thread nD τ) (st0_7 t) fullShare ((dats m 0 c).after 7 t) : sProp 𝕄) ⊢
      match cfg0.idle 7 (cfg0.grid.coords t) with
      | true =>
        match (cfg0.win 7).flush t with
        | false => iprop(∃ d, owns (c : Thread nD τ) (st0_7 t) fullShare ((dats m 0 c).before 7 t d))
        | true => owns (c : Thread nD τ) (st0_7 t) fullShare ((dats m 0 c).after 7 t)
      | false => owns (c : Thread nD τ) (st0_7 t) fullShare ((dats m 0 c).after 7 t) := by
  cases hi : cfg0.idle 7 (cfg0.grid.coords t)
  · exact .rfl
  · cases hf : (cfg0.win 7).flush t
    · dsimp only
      iintro H
      iexists ksG (kb m c t)
      rw [kept7 m c t (idle_pt t hi) (ksG (kb m c t))]
      iexact H
    · exact .rfl

/-- Window 8's buffer was stored at the first point of the group. -/
theorem fresh8 : ∀ (n : ℕ) (hn : n < cfg0.N), n % 12 ≠ 0 → cfg0.fresh 8 n = false
  | 0, _, h => absurd rfl h
  | n + 1, hn, h => by
    have hn' : n < cfg0.N := Nat.lt_of_succ_lt hn
    rw [Pipeline.Cfg.fresh_succ cfg0 8 n hn',
      show (cfg0.win 8).flush ⟨n, hn'⟩ = false from Bool.eq_false_iff.mpr fun hf => by
        have h2 : n % 12 = 11 := (flush0_8 ⟨n, hn'⟩).mp hf
        omega, Bool.false_or]
    by_cases h0 : n % 12 = 0
    · rw [show cfg0.idle 8 (cfg0.grid.coords ⟨n, hn'⟩) = false from live_pt ⟨n, hn'⟩ h0, Bool.false_and]
    · rw [fresh8 n hn' h0, Bool.and_false]

/-- At a later point of a group, window 8 still holds what the first left in it. -/
theorem kept8 (c : Dev nD) (t : Fin cfg0.N) (h : t.val % 12 ≠ 0) (d) : (dats m 0 c).before 8 t d = vcG (vb m c t) := by
  rw [(dats m 0 c).before_out_traj 8 rfl (fun _ _ => rfl) (fun u hu hi _ => by
    show vcG (vb m c u) = vcG (vb m c (prv u))
    rw [vb_same m c (prv u) u (prv_grp u (idle_pt u hi))]) t.val t rfl d, fresh8 t.val t.isLt h, if_neg Bool.false_ne_true]
  show vcG (vb m c (prv t)) = _
  rw [vb_same m c (prv t) t (prv_grp t h)]

/-- What the body leaves in window 8 is what the launch asks of it, at either kind of point. -/
theorem leaves8 (c : Dev nD) (t : Fin cfg0.N) :
    (owns (c : Thread nD τ) (st0_8 t) fullShare ((dats m 0 c).after 8 t) : sProp 𝕄) ⊢
      match cfg0.idle 8 (cfg0.grid.coords t) with
      | true =>
        match (cfg0.win 8).flush t with
        | false => iprop(∃ d, owns (c : Thread nD τ) (st0_8 t) fullShare ((dats m 0 c).before 8 t d))
        | true => owns (c : Thread nD τ) (st0_8 t) fullShare ((dats m 0 c).after 8 t)
      | false => owns (c : Thread nD τ) (st0_8 t) fullShare ((dats m 0 c).after 8 t) := by
  cases hi : cfg0.idle 8 (cfg0.grid.coords t)
  · exact .rfl
  · cases hf : (cfg0.win 8).flush t
    · dsimp only
      iintro H
      iexists vcG (vb m c t)
      rw [kept8 m c t (idle_pt t hi) (vcG (vb m c t))]
      iexact H
    · exact .rfl

/-- Window 9's buffer was stored at the first point of the group. -/
theorem fresh9 : ∀ (n : ℕ) (hn : n < cfg0.N), n % 12 ≠ 0 → cfg0.fresh 9 n = false
  | 0, _, h => absurd rfl h
  | n + 1, hn, h => by
    have hn' : n < cfg0.N := Nat.lt_of_succ_lt hn
    rw [Pipeline.Cfg.fresh_succ cfg0 9 n hn',
      show (cfg0.win 9).flush ⟨n, hn'⟩ = false from Bool.eq_false_iff.mpr fun hf => by
        have h2 : n % 12 = 11 := (flush0_9 ⟨n, hn'⟩).mp hf
        omega, Bool.false_or]
    by_cases h0 : n % 12 = 0
    · rw [show cfg0.idle 9 (cfg0.grid.coords ⟨n, hn'⟩) = false from live_pt ⟨n, hn'⟩ h0, Bool.false_and]
    · rw [fresh9 n hn' h0, Bool.and_false]

/-- At a later point of a group, window 9 still holds what the first left in it. -/
theorem kept9 (c : Dev nD) (t : Fin cfg0.N) (h : t.val % 12 ≠ 0) (d) : (dats m 0 c).before 9 t d = vsG (vb m c t) := by
  rw [(dats m 0 c).before_out_traj 9 rfl (fun _ _ => rfl) (fun u hu hi _ => by
    show vsG (vb m c u) = vsG (vb m c (prv u))
    rw [vb_same m c (prv u) u (prv_grp u (idle_pt u hi))]) t.val t rfl d, fresh9 t.val t.isLt h, if_neg Bool.false_ne_true]
  show vsG (vb m c (prv t)) = _
  rw [vb_same m c (prv t) t (prv_grp t h)]

/-- What the body leaves in window 9 is what the launch asks of it, at either kind of point. -/
theorem leaves9 (c : Dev nD) (t : Fin cfg0.N) :
    (owns (c : Thread nD τ) (st0_9 t) fullShare ((dats m 0 c).after 9 t) : sProp 𝕄) ⊢
      match cfg0.idle 9 (cfg0.grid.coords t) with
      | true =>
        match (cfg0.win 9).flush t with
        | false => iprop(∃ d, owns (c : Thread nD τ) (st0_9 t) fullShare ((dats m 0 c).before 9 t d))
        | true => owns (c : Thread nD τ) (st0_9 t) fullShare ((dats m 0 c).after 9 t)
      | false => owns (c : Thread nD τ) (st0_9 t) fullShare ((dats m 0 c).after 9 t) := by
  cases hi : cfg0.idle 9 (cfg0.grid.coords t)
  · exact .rfl
  · cases hf : (cfg0.win 9).flush t
    · dsimp only
      iintro H
      iexists vsG (vb m c t)
      rw [kept9 m c t (idle_pt t hi) (vsG (vb m c t))]
      iexact H
    · exact .rfl

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

/-- The body at a point, whichever of its two cases the point is. -/
theorem sound_body (c : Dev nD) (t : Fin cfg0.N) :
    bodyPre m c t ⊢ wp frame (wpE (defs₀ (F := Ideal)) Variants.none c none) Set.univ (bodyAt0 t) (fun _ => bodyPost m c t) := by
  have b0 := fun d => before0_0_of m (dats m 0 c) rfl (fun _ => rfl) t d
  have b1 := fun d => before0_1_of m (dats m 0 c) rfl (fun _ => rfl) t d
  have b2 := fun d => before0_2_of m (dats m 0 c) rfl (fun _ => rfl) t d
  unfold bodyPre bodyPost
  simp only [b0, b1, b2]
  rw [show (dats m 0 c).Φ t.succ = Phi m c (t.val + 1) from rfl,
    show (dats m 0 c).owesAt () t.succ = (dats m 0 c).owesAt () t.castSucc from rfl,
    show (dats m 0 c).Φ t.castSucc = Phi m c t.val from rfl,
    show (dats m 0 c).after 0 t = qb m c t from rfl, show (dats m 0 c).after 1 t = kb m c t from rfl,
    show (dats m 0 c).after 2 t = vb m c t from rfl]
  rw [show (dats m 0 c).after 3 t = outG (grid0.coords t 2).val (qb m c t) (kb m c t) (vb m c t) from rfl]
  rw [show (dats m 0 c).after 4 t = qcG (qb m c t) from rfl]
  rw [show (dats m 0 c).after 5 t = qsG (qb m c t) from rfl]
  rw [show (dats m 0 c).after 6 t = kcG (kb m c t) from rfl]
  rw [show (dats m 0 c).after 7 t = ksG (kb m c t) from rfl]
  rw [show (dats m 0 c).after 8 t = vcG (vb m c t) from rfl]
  rw [show (dats m 0 c).after 9 t = vsG (vb m c t) from rfl]
  rw [show iblk m c 0 t = qb m c t from rfl, show iblk m c 1 t = kb m c t from rfl, show iblk m c 2 t = vb m c t from rfl]
  have hk6 := kept6 m c t
  have hk7 := kept7 m c t
  have hk8 := kept8 m c t
  have hk9 := kept9 m c t
  generalize (dats m 0 c).owesAt () t.castSucc = O
  unfold Phi owns
  iintro ⟨⟨⟨%d13, %d14, %d15, %hP, ⟨%f13, %e13, H13⟩, ⟨%f14, %e14, H14⟩, ⟨%f15, %e15, H15⟩, ⟨%d16, %f16, -, H16⟩, ⟨%d17, %f17, -, H17⟩, ⟨%d18, %f18, -, H18⟩⟩, Hg⟩, HO, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩⟩
  by_cases h1 : k0_cond1 (grid0.coords t) = 1#1
  · have r9 := (fin_9 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f9).trans (congrArg kcG e4)
    have r10 := (fin_10 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f10).trans (congrArg ksG e4)
    have r11 := (fin_11 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f11).trans (congrArg vcG e5)
    have r12 := (fin_12 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f12).trans (congrArg vsG e5)
    have r13 := (fin_13 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f13).trans (congrArg kdG e4)
    have r14 := (fin_14 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f14).trans (congrArg vtG e5)
    have r15 := (fin_15 Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h1 f4 f5 f15).trans (congrArg vsrG e5)
    iapply (bodyFirst (F := Ideal) c (grid0.coords t) _ _ _ _ _ _ _ _ _ _ _ _ _ _ _ _ _ _ _ _ _ _ _ _ _ _ _ _ _ _ _ _ h1 f3 f4 f5 f6 f7 f8 f9 f10 f11 f12 f13 f14 f15 f16 f17 f18 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H9, H10, H11, H12, H13, H14, H15, ⟨%j16, H16⟩, ⟨%j17, H17⟩, ⟨%j18, H18⟩, ⟨%g6, %g7, %g8, H6, H7, H8, %hr⟩⟩
    obtain ⟨r6, r7, r8⟩ := reach_all Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _ f3 _ _ _ _ _ _ e3 r13 r14 r15 _ _ _ g6 g7 g8 hr
    isplitl [Hg H13 H14 H15 H16 H17 H18]
    · isplitr [Hg]
      · iexists kdG (kb m c t), vtG (vb m c t), vsrG (vb m c t)
        isplitr
        · ipureintro
          intro h hne
          have hs : t.val / 12 = (⟨t.val + 1, h⟩ : Fin cfg0.N).val / 12 := by show t.val / 12 = (t.val + 1) / 12; omega
          rw [kb_same m c t _ hs, vb_same m c t _ hs]
          exact ⟨rfl, rfl, rfl⟩
        isplitl [H13]
        · iexists _; isplitr; swap; · iexact H13
          ipureintro; exact r13
        isplitl [H14]
        · iexists _; isplitr; swap; · iexact H14
          ipureintro; exact r14
        isplitl [H15]
        · iexists _; isplitr; swap; · iexact H15
          ipureintro; exact r15
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      iexact Hg
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact r6
    isplitl [H7]
    · iexists _; isplitr; swap; · iexact H7
      ipureintro; exact r7
    isplitl [H8]
    · iexists _; isplitr; swap; · iexact H8
      ipureintro; exact r8
    isplitl [H9]
    · iexists _; isplitr; swap; · iexact H9
      ipureintro; exact r9
    isplitl [H10]
    · iexists _; isplitr; swap; · iexact H10
      ipureintro; exact r10
    isplitl [H11]
    · iexists _; isplitr; swap; · iexact H11
      ipureintro; exact r11
    iexists _; isplitr; swap; · iexact H12
    ipureintro; exact r12
  · have ht : t.val % 12 ≠ 0 := fun h => h1 ((cond_iff t).mpr h)
    obtain ⟨p13, p14, p15⟩ := hP t.isLt ht
    have r13 := e13.trans p13
    have r14 := e14.trans p14
    have r15 := e15.trans p15
    have r9 := e9.trans (hk6 ht d9)
    have r10 := e10.trans (hk7 ht d10)
    have r11 := e11.trans (hk8 ht d11)
    have r12 := e12.trans (hk9 ht d12)
    iapply (bodyRest (F := Ideal) c (grid0.coords t) _ _ _ _ _ _ _ _ _ _ _ _ _ _ _ _ _ _ _ _ _ _ _ _ _ _ _ _ _ _ _ _ h1 f3 f4 f5 f6 f7 f8 f9 f10 f11 f12 f13 f14 f15 f16 f17 f18 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H9, H10, H11, H12, H13, H14, H15, ⟨%j16, H16⟩, ⟨%j17, H17⟩, ⟨%j18, H18⟩, ⟨%g6, %g7, %g8, H6, H7, H8, %hr⟩⟩
    obtain ⟨r6, r7, r8⟩ := reach_all Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _ f3 _ _ _ _ _ _ e3 r13 r14 r15 _ _ _ g6 g7 g8 hr
    isplitl [Hg H13 H14 H15 H16 H17 H18]
    · isplitr [Hg]
      · iexists kdG (kb m c t), vtG (vb m c t), vsrG (vb m c t)
        isplitr
        · ipureintro
          intro h hne
          have hs : t.val / 12 = (⟨t.val + 1, h⟩ : Fin cfg0.N).val / 12 := by show t.val / 12 = (t.val + 1) / 12; omega
          rw [kb_same m c t _ hs, vb_same m c t _ hs]
          exact ⟨rfl, rfl, rfl⟩
        isplitl [H13]
        · iexists _; isplitr; swap; · iexact H13
          ipureintro; exact r13
        isplitl [H14]
        · iexists _; isplitr; swap; · iexact H14
          ipureintro; exact r14
        isplitl [H15]
        · iexists _; isplitr; swap; · iexact H15
          ipureintro; exact r15
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      iexact Hg
    isplitl [HO]; · iexact HO
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact r6
    isplitl [H7]
    · iexists _; isplitr; swap; · iexact H7
      ipureintro; exact r7
    isplitl [H8]
    · iexists _; isplitr; swap; · iexact H8
      ipureintro; exact r8
    isplitl [H9]
    · iexists _; isplitr; swap; · iexact H9
      ipureintro; exact r9
    isplitl [H10]
    · iexists _; isplitr; swap; · iexact H10
      ipureintro; exact r10
    isplitl [H11]
    · iexists _; isplitr; swap; · iexact H11
      ipureintro; exact r11
    iexists _; isplitr; swap; · iexact H12
    ipureintro; exact r12

/-- The body table's row at a point is the body there. -/
theorem defs₀_row (t : Fin cfg0.N) : defs₀ (F := Ideal) .tc cfg0.body (cfg0.bodyArgs t (cfg0.slots t)) = bodyAt0 t := by
  unfold defs₀; rw [Defs.onTc_tc]

/-- The body at every point. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => BIClass.sep_mono .rfl (BIClass.sep_mono .rfl (BIClass.sep_mono .rfl (BIClass.sep_mono .rfl (BIClass.sep_mono .rfl (BIClass.sep_mono .rfl (BIClass.sep_mono .rfl (BIClass.sep_mono .rfl
    (BIClass.sep_mono (leaves6 m c t) (BIClass.sep_mono (leaves7 m c t) (BIClass.sep_mono (leaves8 m c t) (leaves9 m c t)))))))))))

set_option backward.isDefEq.respectTransparency.types false in
/-- From any launch the program ends with each array at what the proof data writes in it. -/
theorem frame_run :
    θ_run defs (onTc (τ := τ) (main (F := Ideal))) ⟨m, fun _ => 0, ρ⟩ (fun r =>
      Pipeline.FramePost cfgs (dats m) (0 : Fin 1) (Pipeline.afterTail₀ cfgs (dats m) (0 : Fin 1) (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps)
    (hmain := hmain m Variants.none) (hA := fun _ _ => rfl) (hin := fun c => phi_in m c) (hout := fun c => phi_out m c _)
    (Q' := _) (hQ' := fun r h => h)

end Val

end Cert.Proof.KernelIdeal

end
-- ==== Proof.Target.lean ====
/- The seven results as functions of the three arguments, entry by entry. -/
module

public import proofs.«01_k».proof.Proof.IdealRead
public import Idealize.ShloMosaic.Lib.ValueIdxCore

@[expose] public section

noncomputable section

namespace Cert.Proof

open Idealize.ShloMosaic

/-- The shape of the queries and of the attention. -/
abbrev SQ : Shape := ⟨3, ![2, 6144, 7168]⟩
/-- The shape of the keys and of the values. -/
abbrev SK : Shape := ⟨3, ![2, 6144, 1024]⟩

/-- A head's row of the queries. -/
def qRow (A : SQ.Idx → EReal) (b : Fin 2) (n : Fin 6144) (h : Fin 56) : Fin 128 → EReal := fun d =>
  A (ix3 b n ⟨128 * h.val + d.val, by have := h.isLt; have := d.isLt; omega⟩)
/-- A head's row of the keys or values. -/
def kRow (K : SK.Idx → EReal) (b : Fin 2) (n : Fin 6144) (g : Fin 8) : Fin 128 → EReal := fun d =>
  K (ix3 b n ⟨128 * g.val + d.val, by have := g.isLt; have := d.isLt; omega⟩)

/-- The head of a query column. -/
def hd56 (x : Fin 7168) : Fin 56 := ⟨x.val / 128, by have := x.isLt; omega⟩
/-- Its channel. -/
def ch56 (x : Fin 7168) : Fin 128 := ⟨x.val % 128, by omega⟩
/-- Its group of heads. -/
def gp56 (x : Fin 7168) : Fin 8 := ⟨x.val / 896, by have := x.isLt; omega⟩
/-- The head of a key or value column. -/
def hd8 (x : Fin 1024) : Fin 8 := ⟨x.val / 128, by have := x.isLt; omega⟩
/-- Its channel. -/
def ch8 (x : Fin 1024) : Fin 128 := ⟨x.val % 128, by omega⟩

/-- The query codes. -/
def qcAt (A : SQ.Idx → EReal) (b : Fin 2) (n : Fin 6144) (x : Fin 7168) : EReal := c32 (qRow A b n (hd56 x)) (ch56 x)
/-- The query scales. -/
def qsAt (A : SQ.Idx → EReal) (b : Fin 2) (n : Fin 6144) (h : Fin 56) (s : Fin 4) : EReal := s32 (qRow A b n h) s
/-- The key codes. -/
def kcAt (K : SK.Idx → EReal) (b : Fin 2) (n : Fin 6144) (x : Fin 1024) : EReal := c32 (kRow K b n (hd8 x)) (ch8 x)
/-- The key scales. -/
def ksAt (K : SK.Idx → EReal) (b : Fin 2) (n : Fin 6144) (g : Fin 8) (s : Fin 4) : EReal := s32 (kRow K b n g) s
/-- The value codes. -/
def vcAt (K : SK.Idx → EReal) (b : Fin 2) (n : Fin 6144) (x : Fin 1024) : EReal := c128 (kRow K b n (hd8 x)) (ch8 x)
/-- The value scales. -/
def vsAt (K : SK.Idx → EReal) (b : Fin 2) (n : Fin 6144) (g : Fin 8) : EReal := s128 (kRow K b n g)
/-- The attention. -/
def outAt (A : SQ.Idx → EReal) (K V : SK.Idx → EReal) (b : Fin 2) (n : Fin 6144) (x : Fin 7168) : EReal :=
  attend (wF KernelIdeal.t1 KernelIdeal.t2 (fun j => d32 (kRow K b j (gp56 x))) (d32 (qRow A b n (hd56 x))) n.val)
    (fun j => s128 (kRow V b j (gp56 x))) (fun j => c128 (kRow V b j (gp56 x)) (ch56 x))

end Cert.Proof

end
-- ==== Proof.IdealArr.lean ====
/- The kernel's seven results after the run, each as its function of the arguments. -/
module

public import proofs.«01_k».proof.Proof.IdealRun
public import proofs.«01_k».proof.Proof.Target

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.Sem

namespace Val

variable (m : (ℓ : Loc nD τ sig) → Buf (Elt Ideal) ℓ) (ρ : Dev nD → PrngReg)

/-- The three arguments. -/
def A0 (c : Dev nD) : SQ.Idx → EReal := m ((c : Thread nD τ).loc main_arg0)
/-- The keys. -/
def A1 (c : Dev nD) : SK.Idx → EReal := m ((c : Thread nD τ).loc main_arg1)
/-- The values. -/
def A2 (c : Dev nD) : SK.Idx → EReal := m ((c : Thread nD τ).loc main_arg2)

/-- A row of a point's block of the keys is a row of the keys. -/
theorem rowK_kb (c : Dev nD) (t : Fin cfg0.N) (n : Fin 6144) : rowK (kb m c t) n = kRow (A1 m c) (bOf t) n (gpOf t) :=
  funext fun d => iblk1_at m c t n d
/-- A row of a point's block of the values is a row of the values. -/
theorem rowK_vb (c : Dev nD) (t : Fin cfg0.N) (n : Fin 6144) : rowK (vb m c t) n = kRow (A2 m c) (bOf t) n (gpOf t) :=
  funext fun d => iblk2_at m c t n d

/-- The row of a query of a point's block. -/
def nOf (t : Fin cfg0.N) (b : Fin 512) : Fin 6144 := ⟨512 * (qOf t).val + b.val, by have := (qOf t).isLt; have := b.isLt; omega⟩
/-- The head of a head of a point's block. -/
def hdOf (t : Fin cfg0.N) (h : Fin 7) : Fin 56 := ⟨7 * (gpOf t).val + h.val, by have := (gpOf t).isLt; have := h.isLt; omega⟩

/-- A head's row of a point's block of the queries is a row of the queries. -/
theorem qrowG_qb (c : Dev nD) (t : Fin cfg0.N) (h : Fin 7) (b : Fin 512) :
    qrowG (qb m c t) h b = qRow (A0 m c) (bOf t) (nOf t b) (hdOf t h) := by
  funext d
  refine (iblk0_at m c t b ⟨128 * h.val + d.val, by have := h.isLt; have := d.isLt; omega⟩).trans ?_
  show A0 m c (ix3 (bOf t) (nOf t b) _) = A0 m c (ix3 (bOf t) (nOf t b) _)
  congr 2
  exact Fin.ext (by show 896 * (gpOf t).val + (128 * h.val + d.val) = 128 * (7 * (gpOf t).val + h.val) + d.val; omega)

/-- The columns of a point's block. -/
def xOf (t : Fin cfg0.N) (x : Fin 896) : Fin 7168 := ⟨896 * (gpOf t).val + x.val, by have := (gpOf t).isLt; have := x.isLt; omega⟩
/-- The same for the keys and values. -/
def xkOf (t : Fin cfg0.N) (x : Fin 128) : Fin 1024 := ⟨128 * (gpOf t).val + x.val, by have := (gpOf t).isLt; have := x.isLt; omega⟩

/-- The head of a column of a point's block. -/
theorem hd56_xOf (t : Fin cfg0.N) (x : Fin 896) : hd56 (xOf t x) = hdOf t (hOf x) :=
  Fin.ext (by show (896 * (gpOf t).val + x.val) / 128 = 7 * (gpOf t).val + x.val / 128; omega)
/-- Its channel. -/
theorem ch56_xOf (t : Fin cfg0.N) (x : Fin 896) : ch56 (xOf t x) = dOf x :=
  Fin.ext (by show (896 * (gpOf t).val + x.val) % 128 = x.val % 128; omega)
/-- Its group of heads. -/
theorem gp56_xOf (t : Fin cfg0.N) (x : Fin 896) : gp56 (xOf t x) = gpOf t :=
  Fin.ext (by show (896 * (gpOf t).val + x.val) / 896 = (gpOf t).val; have := x.isLt; omega)
/-- The head of a key column of a point's block. -/
theorem hd8_xkOf (t : Fin cfg0.N) (x : Fin 128) : hd8 (xkOf t x) = gpOf t :=
  Fin.ext (by show (128 * (gpOf t).val + x.val) / 128 = (gpOf t).val; have := x.isLt; omega)
/-- Its channel. -/
theorem ch8_xkOf (t : Fin cfg0.N) (x : Fin 128) : ch8 (xkOf t x) = x :=
  Fin.ext (by show (128 * (gpOf t).val + x.val) % 128 = x.val; have := x.isLt; omega)

/-- Where each entry of a block of each output window lies. -/
theorem emb_3 (t : Fin cfg0.N) (y : S1x512x896.Idx) : (win0_3.blk t).view.emb y = ix3 (bOf t) (nOf t (y 1)) (xOf t (y 2)) := by
  blk_ext [idx_3 t, bOf, nOf, xOf, qOf, gpOf]
/-- Where an entry of a block of the query codes lies. -/
theorem emb_4 (t : Fin cfg0.N) (y : S1x512x896.Idx) : (win0_4.blk t).view.emb y = ix3 (bOf t) (nOf t (y 1)) (xOf t (y 2)) := by
  blk_ext [idx_4 t, bOf, nOf, xOf, qOf, gpOf]
/-- Where an entry of a block of the query scales lies. -/
theorem emb_5 (t : Fin cfg0.N) (y : S1x1x7x4x512.Idx) : (win0_5.blk t).view.emb y = ix5 (bOf t) (gpOf t) (y 2) (y 3) (nOf t (y 4)) := by
  blk_ext [idx_5 t, bOf, nOf, xOf, qOf, gpOf]
/-- Where an entry of a block of the key codes lies. -/
theorem emb_6 (t : Fin cfg0.N) (y : S1x6144x128.Idx) : (win0_6.blk t).view.emb y = ix3 (bOf t) (y 1) (xkOf t (y 2)) := by
  blk_ext [idx_6 t, bOf, nOf, xkOf, qOf, gpOf]
/-- Where an entry of a block of the key scales lies. -/
theorem emb_7 (t : Fin cfg0.N) (y : S1x1x4x6144.Idx) : (win0_7.blk t).view.emb y = ix4 (bOf t) (gpOf t) (y 2) (y 3) := by
  blk_ext [idx_7 t, bOf, nOf, xkOf, qOf, gpOf]
/-- Where an entry of a block of the value codes lies. -/
theorem emb_8 (t : Fin cfg0.N) (y : S1x6144x128.Idx) : (win0_8.blk t).view.emb y = ix3 (bOf t) (y 1) (xkOf t (y 2)) := by
  blk_ext [idx_8 t, bOf, nOf, xkOf, qOf, gpOf]
/-- Where an entry of a block of the value scales lies. -/
theorem emb_9 (t : Fin cfg0.N) (y : S1x1x1x6144.Idx) : (win0_9.blk t).view.emb y = ix4 (bOf t) (gpOf t) (y 2) (y 3) := by
  blk_ext [idx_9 t, bOf, nOf, xkOf, qOf, gpOf]

/-- The arrays' closed forms. -/
def R3 (c : Dev nD) : S2x6144x7168.Idx → EReal := fun y => outAt (A0 m c) (A1 m c) (A2 m c) (y 0) (y 1) (y 2)
/-- The query codes the call leaves. -/
def R4 (c : Dev nD) : S2x6144x7168.Idx → EReal := fun y => qcAt (A0 m c) (y 0) (y 1) (y 2)
/-- The query scales the call leaves. -/
def R5 (c : Dev nD) : S2x8x7x4x6144.Idx → EReal := fun y =>
  qsAt (A0 m c) (y 0) (y 4) ⟨7 * (y 1).val + (y 2).val, by have h1 : (y 1).val < 8 := (y 1).isLt; have h2 : (y 2).val < 7 := (y 2).isLt; omega⟩ (y 3)
/-- The key codes the call leaves. -/
def R6 (c : Dev nD) : S2x6144x1024.Idx → EReal := fun y => kcAt (A1 m c) (y 0) (y 1) (y 2)
/-- The key scales the call leaves. -/
def R7 (c : Dev nD) : S2x8x4x6144.Idx → EReal := fun y => ksAt (A1 m c) (y 0) (y 3) (y 1) (y 2)
/-- The value codes the call leaves. -/
def R8 (c : Dev nD) : S2x6144x1024.Idx → EReal := fun y => vcAt (A2 m c) (y 0) (y 1) (y 2)
/-- The value scales the call leaves. -/
def R9 (c : Dev nD) : S2x8x1x6144.Idx → EReal := fun y => vsAt (A2 m c) (y 0) (y 3) (y 1)

/-- An entry of a point's attention is an entry of the attention. -/
theorem pt3 (c : Dev nD) (t : Fin cfg0.N) (b : Fin 512) (x : Fin 896) :
    attend (wF t1 t2 (fun n => d32 (rowK (kb m c t) n)) (d32 (qrowG (qb m c t) (hOf x) b)) (512 * (grid0.coords t 2).val + b.val)) (fun n => s128 (rowK (vb m c t) n)) (fun n => c128 (rowK (vb m c t) n) (dOf x))
      = outAt (A0 m c) (A1 m c) (A2 m c) (bOf t) (nOf t b) (xOf t x) := by
  unfold outAt
  rw [hd56_xOf, ch56_xOf, gp56_xOf, qrowG_qb, coord2 t]
  simp only [rowK_kb, rowK_vb]
  rfl
/-- The same for the query codes. -/
theorem pt4 (c : Dev nD) (t : Fin cfg0.N) (b : Fin 512) (x : Fin 896) :
    c32 (qrowG (qb m c t) (hOf x) b) (dOf x) = qcAt (A0 m c) (bOf t) (nOf t b) (xOf t x) := by
  unfold qcAt
  rw [hd56_xOf, ch56_xOf, qrowG_qb]
/-- The same for the query scales. -/
theorem pt5 (c : Dev nD) (t : Fin cfg0.N) (h : Fin 7) (s : Fin 4) (b : Fin 512) :
    s32 (qrowG (qb m c t) h b) s = qsAt (A0 m c) (bOf t) (nOf t b) (hdOf t h) s := by
  unfold qsAt
  rw [qrowG_qb]
/-- The same for the key codes. -/
theorem pt6 (c : Dev nD) (t : Fin cfg0.N) (n : Fin 6144) (x : Fin 128) :
    c32 (rowK (kb m c t) n) x = kcAt (A1 m c) (bOf t) n (xkOf t x) := by
  unfold kcAt
  rw [hd8_xkOf, ch8_xkOf, rowK_kb]
/-- The same for the key scales. -/
theorem pt7 (c : Dev nD) (t : Fin cfg0.N) (n : Fin 6144) (s : Fin 4) :
    s32 (rowK (kb m c t) n) s = ksAt (A1 m c) (bOf t) n (gpOf t) s := by
  unfold ksAt
  rw [rowK_kb]
/-- The same for the value codes. -/
theorem pt8 (c : Dev nD) (t : Fin cfg0.N) (n : Fin 6144) (x : Fin 128) :
    c128 (rowK (vb m c t) n) x = vcAt (A2 m c) (bOf t) n (xkOf t x) := by
  unfold vcAt
  rw [hd8_xkOf, ch8_xkOf, rowK_vb]
/-- The same for the value scales. -/
theorem pt9 (c : Dev nD) (t : Fin cfg0.N) (n : Fin 6144) :
    s128 (rowK (vb m c t) n) = vsAt (A2 m c) (bOf t) n (gpOf t) := by
  unfold vsAt
  rw [rowK_vb]

/-- After the call the attention's array holds the attention. -/
theorem final3 (c : Dev nD) : (dats m 0 c).arrAt 3 cfg0.N = R3 m c := by
  refine (dats m 0 c).arrAt_eq_of_covers 3 _ (by decide +kernel) fun t hf y => ?_
  blk_simp
  refine Eq.trans (b := outG (grid0.coords t 2).val (qb m c t) (kb m c t) (vb m c t) y) rfl ?_
  refine Eq.trans ?_ (congrArg (R3 m c) (emb_3 t y)).symm
  exact pt3 m c t (y 1) (y 2)

/-- After the call the query codes' array holds them. -/
theorem final4 (c : Dev nD) : (dats m 0 c).arrAt 4 cfg0.N = R4 m c := by
  refine (dats m 0 c).arrAt_eq_of_covers 4 _ (by decide +kernel) fun t hf y => ?_
  blk_simp
  refine Eq.trans (b := qcG (qb m c t) y) rfl ?_
  refine Eq.trans ?_ (congrArg (R4 m c) (emb_4 t y)).symm
  exact pt4 m c t (y 1) (y 2)

/-- After the call the query scales' array holds them. -/
theorem final5 (c : Dev nD) : (dats m 0 c).arrAt 5 cfg0.N = R5 m c := by
  refine (dats m 0 c).arrAt_eq_of_covers 5 _ (by decide +kernel) fun t hf y => ?_
  blk_simp
  refine Eq.trans (b := qsG (qb m c t) y) rfl ?_
  refine Eq.trans ?_ (congrArg (R5 m c) (emb_5 t y)).symm
  exact pt5 m c t (y 2) (y 3) (y 4)

/-- After the call the key codes' array holds them. -/
theorem final6 (c : Dev nD) : (dats m 0 c).arrAt 6 cfg0.N = R6 m c := by
  refine (dats m 0 c).arrAt_eq_of_covers 6 _ (by decide +kernel) fun t hf y => ?_
  blk_simp
  refine Eq.trans (b := kcG (kb m c t) y) rfl ?_
  refine Eq.trans ?_ (congrArg (R6 m c) (emb_6 t y)).symm
  exact pt6 m c t (y 1) (y 2)

/-- After the call the key scales' array holds them. -/
theorem final7 (c : Dev nD) : (dats m 0 c).arrAt 7 cfg0.N = R7 m c := by
  refine (dats m 0 c).arrAt_eq_of_covers 7 _ (by decide +kernel) fun t hf y => ?_
  blk_simp
  refine Eq.trans (b := ksG (kb m c t) y) rfl ?_
  refine Eq.trans ?_ (congrArg (R7 m c) (emb_7 t y)).symm
  exact pt7 m c t (y 3) (y 2)

/-- After the call the value codes' array holds them. -/
theorem final8 (c : Dev nD) : (dats m 0 c).arrAt 8 cfg0.N = R8 m c := by
  refine (dats m 0 c).arrAt_eq_of_covers 8 _ (by decide +kernel) fun t hf y => ?_
  blk_simp
  refine Eq.trans (b := vcG (vb m c t) y) rfl ?_
  refine Eq.trans ?_ (congrArg (R8 m c) (emb_8 t y)).symm
  exact pt8 m c t (y 1) (y 2)

/-- After the call the value scales' array holds them. -/
theorem final9 (c : Dev nD) : (dats m 0 c).arrAt 9 cfg0.N = R9 m c := by
  refine (dats m 0 c).arrAt_eq_of_covers 9 _ (by decide +kernel) fun t hf y => ?_
  blk_simp
  refine Eq.trans (b := vsG (vb m c t) y) rfl ?_
  refine Eq.trans ?_ (congrArg (R9 m c) (emb_9 t y)).symm
  exact pt9 m c t (y 3)

/-- The scales as they come back: heads and groups in one axis, rows before them. -/
def R5' (c : Dev nD) : S2x6144x224.Idx → EReal := fun y =>
  qsAt (A0 m c) (y 0) (y 1) ⟨(y 2).val / 4, by have h : (y 2).val < 224 := (y 2).isLt; omega⟩ ⟨(y 2).val % 4, by omega⟩
/-- The key scales as returned. -/
def R7' (c : Dev nD) : S2x6144x32.Idx → EReal := fun y =>
  ksAt (A1 m c) (y 0) (y 1) ⟨(y 2).val / 4, by have h : (y 2).val < 32 := (y 2).isLt; omega⟩ ⟨(y 2).val % 4, by omega⟩
/-- The value scales as returned. -/
def R9' (c : Dev nD) : S2x6144x8.Idx → EReal := fun y => vsAt (A2 m c) (y 0) (y 1) (y 2)

/-- Merging axes and swapping the last two brings the query scales to the form returned. -/
theorem host5 (c : Dev nD) :
    transpose S2x6144x224 [0, 2, 1] (shapeCast S2x224x6144 (R5 m c) shapeCasts_S2x8x7x4x6144_S2x224x6144) transposes_S2x224x6144_S2x6144x224_0_2_1 = R5' m c := by
  have h : ∀ (f : S2x8x7x4x6144.Idx → EReal) (b : Fin 2) (n : Fin 6144) (s : Fin 224),
      transpose S2x6144x224 [0, 2, 1] (shapeCast S2x224x6144 f shapeCasts_S2x8x7x4x6144_S2x224x6144) transposes_S2x224x6144_S2x6144x224_0_2_1 (ix3 b n s)
        = f (ix5 b ⟨s.val / 28, by have := s.isLt; omega⟩ ⟨s.val / 4 % 7, by omega⟩ ⟨s.val % 4, by omega⟩ n) := by
    intro f b n s
    pointwise
  funext y
  obtain ⟨b, n, s, rfl⟩ : ∃ b n s, y = ix3 b n s := ⟨y 0, y 1, y 2, funext fun j => by match j with | 0 => rfl | 1 => rfl | 2 => rfl⟩
  refine (h _ b n s).trans ?_
  have e : 7 * (s.val / 28) + s.val / 4 % 7 = s.val / 4 := by omega
  exact congrArg (fun k => qsAt (A0 m c) b n k ⟨s.val % 4, by omega⟩) (Fin.ext e)

/-- The same for the key scales. -/
theorem host7 (c : Dev nD) :
    transpose S2x6144x32 [0, 2, 1] (shapeCast S2x32x6144 (R7 m c) shapeCasts_S2x8x4x6144_S2x32x6144) transposes_S2x32x6144_S2x6144x32_0_2_1 = R7' m c := by
  have h : ∀ (f : S2x8x4x6144.Idx → EReal) (b : Fin 2) (n : Fin 6144) (s : Fin 32),
      transpose S2x6144x32 [0, 2, 1] (shapeCast S2x32x6144 f shapeCasts_S2x8x4x6144_S2x32x6144) transposes_S2x32x6144_S2x6144x32_0_2_1 (ix3 b n s)
        = f (ix4 b ⟨s.val / 4, by have := s.isLt; omega⟩ ⟨s.val % 4, by omega⟩ n) := by
    intro f b n s
    pointwise
  funext y
  obtain ⟨b, n, s, rfl⟩ : ∃ b n s, y = ix3 b n s := ⟨y 0, y 1, y 2, funext fun j => by match j with | 0 => rfl | 1 => rfl | 2 => rfl⟩
  exact h _ b n s

/-- The same for the value scales. -/
theorem host9 (c : Dev nD) :
    transpose S2x6144x8 [0, 2, 1] (shapeCast S2x8x6144 (R9 m c) shapeCasts_S2x8x1x6144_S2x8x6144) transposes_S2x8x6144_S2x6144x8_0_2_1 = R9' m c := by
  have h : ∀ (f : S2x8x1x6144.Idx → EReal) (b : Fin 2) (n : Fin 6144) (s : Fin 8),
      transpose S2x6144x8 [0, 2, 1] (shapeCast S2x8x6144 f shapeCasts_S2x8x1x6144_S2x8x6144) transposes_S2x8x6144_S2x6144x8_0_2_1 (ix3 b n s)
        = f (ix4 b s (0 : Fin 1) n) := by
    intro f b n s
    pointwise
  funext y
  obtain ⟨b, n, s, rfl⟩ : ∃ b n s, y = ix3 b n s := ⟨y 0, y 1, y 2, funext fun j => by match j with | 0 => rfl | 1 => rfl | 2 => rfl⟩
  exact h _ b n s

end Val

end Cert.Proof.KernelIdeal

end
-- ==== Proof.IdealValue.lean ====
/- The results of the kernel's program from any launch. -/
module

public import proofs.«01_k».proof.Proof.IdealArr

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Val

variable (m : (ℓ : Loc nD τ sig) → Buf (Elt Ideal) ℓ) (ρ : Dev nD → PrngReg)

/-- The operations after the call keep the arrays of the call. -/
theorem arrTail (c : Dev nD) (w : Fin 10) :
    Pipeline.withArrays (cfgs 0).spec c (V0 m c) (fun w => (dats m 0 c).arrAt w (cfgs 0).N) (Proc.devRef .tc (Pipeline.arrRef (cfgs 0).spec w)) = (dats m 0 c).arrAt w cfg0.N :=
  Pipeline.withArrays_arr (cfgs 0).spec (by decide) c (V0 m c) (fun w => (dats m 0 c).arrAt w (cfgs 0).N) w

/-- The query scales after the operations that follow the call. -/
theorem tail2 (c : Dev nD) : Pipeline.afterTail₀ cfgs (dats m) (0 : Fin 1) (V0 m) [hostOps1] c main_v2 = R5' m c := by
  unfold Pipeline.afterTail₀ hostOps1
  simp only [List.flatten_cons, List.flatten_nil, List.append_nil]
  after_results
  refine Eq.trans ?_ (host5 m c)
  have h := (arrTail m c 5).trans (final5 m c)
  exact congrArg (fun f => transpose S2x6144x224 [0, 2, 1] (shapeCast S2x224x6144 f shapeCasts_S2x8x7x4x6144_S2x224x6144) transposes_S2x224x6144_S2x6144x224_0_2_1) h

/-- The key scales after the operations that follow the call. -/
theorem tail4 (c : Dev nD) : Pipeline.afterTail₀ cfgs (dats m) (0 : Fin 1) (V0 m) [hostOps1] c main_v4 = R7' m c := by
  unfold Pipeline.afterTail₀ hostOps1
  simp only [List.flatten_cons, List.flatten_nil, List.append_nil]
  after_results
  refine Eq.trans ?_ (host7 m c)
  have h := (arrTail m c 7).trans (final7 m c)
  exact congrArg (fun f => transpose S2x6144x32 [0, 2, 1] (shapeCast S2x32x6144 f shapeCasts_S2x8x4x6144_S2x32x6144) transposes_S2x32x6144_S2x6144x32_0_2_1) h

/-- The value scales after the operations that follow the call. -/
theorem tail6 (c : Dev nD) : Pipeline.afterTail₀ cfgs (dats m) (0 : Fin 1) (V0 m) [hostOps1] c main_v6 = R9' m c := by
  unfold Pipeline.afterTail₀ hostOps1
  simp only [List.flatten_cons, List.flatten_nil, List.append_nil]
  after_results
  refine Eq.trans ?_ (host9 m c)
  have h := (arrTail m c 9).trans (final9 m c)
  exact congrArg (fun f => transpose S2x6144x8 [0, 2, 1] (shapeCast S2x8x6144 f shapeCasts_S2x8x1x6144_S2x8x6144) transposes_S2x8x6144_S2x6144x8_0_2_1) h

/-- The results, and the arguments kept. -/
theorem value_run :
    θ_run defs (onTc (τ := τ) (main (F := Ideal))) ⟨m, fun _ => 0, ρ⟩ fun r => ∀ c : Dev nD,
      r.2.mem ((c : Thread nD τ).loc main_v0_0) = R3 m c
      ∧ r.2.mem ((c : Thread nD τ).loc main_v0_1) = R4 m c
      ∧ r.2.mem ((c : Thread nD τ).loc main_v2) = R5' m c
      ∧ r.2.mem ((c : Thread nD τ).loc main_v0_3) = R6 m c
      ∧ r.2.mem ((c : Thread nD τ).loc main_v4) = R7' m c
      ∧ r.2.mem ((c : Thread nD τ).loc main_v0_5) = R8 m c
      ∧ r.2.mem ((c : Thread nD τ).loc main_v6) = R9' m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).1 3).trans (final3 m c), ((h.1 c).1 4).trans (final4 m c),
      ((h.1 c).2 main_v2 (by decide)).trans (tail2 m c), ((h.1 c).1 6).trans (final6 m c),
      ((h.1 c).2 main_v4 (by decide)).trans (tail4 m c), ((h.1 c).1 8).trans (final8 m c),
      ((h.1 c).2 main_v6 (by decide)).trans (tail6 m c),
      ((h.1 c).1 0).trans ((dats m 0 c).arrAt_in 0 rfl _), ((h.1 c).1 1).trans ((dats m 0 c).arrAt_in 1 rfl _), ((h.1 c).1 2).trans ((dats m 0 c).arrAt_in 2 rfl _)⟩)
    (frame_run m ρ)

end Val

end Cert.Proof.KernelIdeal

end
-- ==== Proof.RefQuant.lean ====
/- The reference's quantiser, entry by entry. -/
module

public import proofs.«01_k».proof.Proof.Gen.ReferenceIdeal.Value
public import proofs.«01_k».proof.Proof.Attend
public import proofs.«01_k».proof.Proof.Target
public import Idealize.ShloMosaic.Lib.Pointwise

@[expose] public section

set_option maxRecDepth 16384
set_option maxHeartbeats 4000000

noncomputable section

namespace Cert.Proof.Ref

open Idealize.ShloMosaic Idealize.ShloMosaic.Tactic
open Cert.ReferenceIdeal Cert.ReferenceIdeal.Gen

/-- The reference's scale and inverse scale of a value. -/
def sE (y : EReal) : EReal := Ideal.exp2 (refE y)
/-- The reference's inverse scale of a value. -/
def iE (y : EReal) : EReal := Ideal.exp2 (Ideal.ofBits .f32 0x00000000#32 - refE y)

/-- The named constant is the logarithm of two. -/
theorem ln2 : Named.named (F := Ideal) κ "ln_2" (φ := .f32) 0x3F317218#32 = ((Real.log 2 : ℝ) : EReal) := rfl

/-- The exponent as the reference writes it. -/
theorem refE_if (y : EReal) :
    (if y < Ideal.ofBits FTy.f32 0x00800000#32 then 0
      else Ideal.liftRound Int.floor (Ideal.div (Ideal.log y) (Named.named (F := Ideal) κ "ln_2" (φ := .f32) 0x3F317218#32)) + 1) = refE y := by
  unfold refE
  rw [ln2, Ideal.ofBits_zero_f32, Ideal.ofBits_one_f32]
  by_cases h : y < Ideal.ofBits FTy.f32 0x00800000#32
  · rw [if_pos h]
    show _ = Scalar.select (BitVec.ofBool (decide (y < _))) _ _
    rw [decide_eq_true h]; rfl
  · rw [if_neg h]
    show _ = Scalar.select (BitVec.ofBool (decide (y < _))) _ _
    rw [decide_eq_false h]; rfl

/-- The inverse scale as the reference writes it. -/
theorem iE_eq (y : EReal) : Ideal.exp2 (0 - refE y) = iE y := by
  unfold iE; rw [Ideal.ofBits_zero_f32]

/-- Two to a power, as the instance and as the function. -/
theorem exp2_op (y : EReal) : FloatOps.exp2 (F := Ideal) (φ := .f32) y = Ideal.exp2 y := rfl

/-- Loading the whole of the queries. -/
theorem ld0 (x : Vec Ideal S2x6144x7168 .bf16) : View.ld x r0_0 = x := View.ld_unit_zero (by decide) _ _
/-- Loading the whole of the keys or values. -/
theorem ld1 (x : Vec Ideal S2x6144x1024 .bf16) : View.ld x r0_1 = x := View.ld_unit_zero (by decide) _ _

/-! ## One entry at a time -/

section
variable {s : Shape}
/-- A product, at an entry. -/
theorem mulf_i (u v : FVec Ideal s .f32) (i : s.Idx) : mulf u v i = u i * v i := rfl
/-- A product at half width, at an entry. -/
theorem mulf_ib (u v : FVec Ideal s .bf16) (i : s.Idx) : mulf u v i = u i * v i := rfl
/-- A difference, at an entry. -/
theorem subf_i (u v : FVec Ideal s .f32) (i : s.Idx) : subf u v i = u i - v i := rfl
/-- A quotient, at an entry. -/
theorem divf_i (u v : FVec Ideal s .f32) (i : s.Idx) : divf u v i = Ideal.div (u i) (v i) := rfl
/-- A magnitude, at an entry. -/
theorem absf_i (u : FVec Ideal s .f32) (i : s.Idx) : absf u i = FloatOps.absf (F := Ideal) (φ := .f32) (u i) := rfl
/-- A power of two, at an entry. -/
theorem exp2_i (u : FVec Ideal s .f32) (i : s.Idx) : exp2 u i = Ideal.exp2 (u i) := rfl
/-- A constant array, at an entry. -/
theorem bc_i {α : Type} (x : α) (i : s.Idx) : broadcast s x i = x := rfl

/-- The exponent of an entry, as the reference writes it. -/
theorem exponent_at (v : FVec Ideal s .f32) (i : s.Idx) :
    select (cmpf .olt v (broadcast s (Scalar.ofBits (F := Ideal) .f32 0x00800000#32))) (broadcast s (Scalar.ofBits (F := Ideal) .f32 0x00000000#32))
      (addf (floor (divf (log v) (broadcast s (Named.named (F := Ideal) κ "ln_2" (φ := .f32) 0x3F317218#32)))) (broadcast s (Scalar.ofBits (F := Ideal) .f32 0x3F800000#32))) i
      = refE (v i) := rfl

/-- The inverse scale of an entry. -/
theorem inv_at (v : FVec Ideal s .f32) (y : EReal) (i : s.Idx) (h : v i = refE y) :
    exp2 (subf (broadcast s (Scalar.ofBits (F := Ideal) .f32 0x00000000#32)) v) i = iE y := by
  unfold iE; rw [← h]; rfl

/-- The code of an entry. -/
theorem clip_at (v : FVec Ideal s .f32) (i : s.Idx) (h : (FTy.fp8e4m3).bits < (FTy.f32).bits) :
    truncf .fp8e4m3 (minimumf (broadcast s (Scalar.ofBits (F := Ideal) .f32 0x43E00000#32)) (maximumf (broadcast s (Scalar.ofBits (F := Ideal) .f32 0xC3E00000#32)) v)) h i
      = clip (v i) := rfl
/-- The greatest magnitude of a family over 448, as the reference writes it. -/
theorem mag_gen {k : ℕ} (f : Fin k → EReal) :
    Finset.fold max (Ideal.ofBits .f32 0xFF800000#32) (fun j => FloatOps.absf (F := Ideal) (φ := .f32) (f j)) Finset.univ * FloatOps.ofBits (F := Ideal) .f32 0x3B124925#32
      = amax f * c448 := rfl
end

/-! ## The queries -/

/-- The greatest magnitude of a group of 32 over 448. -/
def yQ (A : Vec Ideal S2x6144x7168 .bf16) (b : Fin 2) (n : Fin 6144) (g : Fin 224) : EReal :=
  amax (fun k : Fin 32 => A (ix3 b n ⟨g.val * 32 + k.val, by have := g.isLt; have := k.isLt; omega⟩)) * c448

/-- The queries by groups. -/
theorem inQ (A : Vec Ideal S2x6144x7168 .bf16) (b : Fin 2) (n : Fin 6144) (g : Fin 224) (k : Fin 32) : k0_pay2 (F := Ideal) A (ix4 b n g k) = A (ix3 b n ⟨g.val * 32 + k.val, by have := g.isLt; have := k.isLt; omega⟩) := by
  pointwise [k0_pay2]

/-- The magnitudes of the queries with an axis of one entry more. -/
theorem unitQ (e : FVec Ideal S2x6144x224 .f32) (b : Fin 2) (n : Fin 6144) (g : Fin 224) (z : Fin 1) :
    shapeCast S2x6144x224x1 e shapeCasts_S2x6144x224_S2x6144x224x1 (ix4 b n g z) = e (ix3 b n g) := by
  pointwise []

/-- The greatest of a group of the queries. -/
theorem maxQ (e : FVec Ideal S2x6144x224x32 .f32) (b : Fin 2) (n : Fin 6144) (g : Fin 224) :
    multiReduction .maximumf [3] S2x6144x224 e 0xFF800000#32 reduces_S2x6144x224x32_S2x6144x224 (.inl rfl) rfl (ix3 b n g)
      = Finset.fold max (Ideal.ofBits .f32 0xFF800000#32) (fun k => e (ix4 b n g k)) Finset.univ := by
  pointwise []

/-- A value of the queries repeated over its group. -/
theorem repQ (e : FVec Ideal S2x6144x224x1 .f32) (b : Fin 2) (n : Fin 6144) (g : Fin 224) (k : Fin 32) :
    broadcastTo S2x6144x224x32 e broadcasts_S2x6144x224x1_S2x6144x224x32 (ix4 b n g k) = e (ix4 b n g (0 : Fin 1)) := by
  pointwise []

/-- The greatest magnitude of a group of the queries over 448. -/
theorem magQ (A : Vec Ideal S2x6144x7168 .bf16) (b : Fin 2) (n : Fin 6144) (g : Fin 224) (z : Fin 1) :
    mulf (shapeCast S2x6144x224x1 (multiReduction .maximumf [3] S2x6144x224 (absf (k0_pay2 (F := Ideal) A)) 0xFF800000#32 reduces_S2x6144x224x32_S2x6144x224 (.inl rfl) rfl) shapeCasts_S2x6144x224_S2x6144x224x1)
      (broadcast S2x6144x224x1 (Scalar.ofBits (F := Ideal) .f32 0x3B124925#32)) (ix4 b n g z) = yQ A b n g := by
  rw [mulf_i, unitQ, maxQ]
  simp only [absf_i, inQ, bc_i]
  exact mag_gen fun k : Fin 32 => A (ix3 b n ⟨g.val * 32 + k.val, by have := g.isLt; have := k.isLt; omega⟩)

/-- The exponent of a group of the queries. -/
theorem exQ (A : Vec Ideal S2x6144x7168 .bf16) (b : Fin 2) (n : Fin 6144) (g : Fin 224) (z : Fin 1) : k0_pay3 (F := Ideal) A (ix4 b n g z) = refE (yQ A b n g) := by
  unfold k0_pay3
  try dsimp only
  rw [exponent_at, magQ]

/-- The scale of a group of the queries. -/
theorem scQ (A : Vec Ideal S2x6144x7168 .bf16) (b : Fin 2) (n : Fin 6144) (g : Fin 224) (z : Fin 1) : k0_pay5 (F := Ideal) A (ix4 b n g z) = sE (yQ A b n g) := by
  unfold k0_pay5 sE
  try dsimp only
  rw [exp2_i, exQ]

/-- The code of a channel of the queries. -/
theorem cdQ (A : Vec Ideal S2x6144x7168 .bf16) (b : Fin 2) (n : Fin 6144) (g : Fin 224) (k : Fin 32) :
    k0_pay4 (F := Ideal) A (ix4 b n g k) = clip (A (ix3 b n ⟨g.val * 32 + k.val, by have := g.isLt; have := k.isLt; omega⟩) * iE (yQ A b n g)) := by
  unfold k0_pay4
  try dsimp only
  rw [clip_at, mulf_i, inQ, repQ, inv_at _ _ _ (exQ A b n g 0)]

/-- The codes of the queries without groups. -/
theorem flatcQ (e : FVec Ideal S2x6144x224x32 .fp8e4m3) (b : Fin 2) (n : Fin 6144) (x : Fin 7168) :
    shapeCast S2x6144x7168 e shapeCasts_S2x6144x224x32_S2x6144x7168 (ix3 b n x) = e (ix4 b n ⟨x.val / 32, by have := x.isLt; omega⟩ ⟨x.val % 32, by omega⟩) := by
  pointwise []

/-- The scales of the queries without their last axis. -/
theorem flatsQ (e : FVec Ideal S2x6144x224x1 .f32) (b : Fin 2) (n : Fin 6144) (g : Fin 224) :
    shapeCast S2x6144x224 e shapeCasts_S2x6144x224x1_S2x6144x224 (ix3 b n g) = e (ix4 b n g (0 : Fin 1)) := by
  pointwise []

/-! ## The keys -/

/-- The greatest magnitude of a group of 32 over 448. -/
def yK (A : Vec Ideal S2x6144x1024 .bf16) (b : Fin 2) (n : Fin 6144) (g : Fin 32) : EReal :=
  amax (fun k : Fin 32 => A (ix3 b n ⟨g.val * 32 + k.val, by have := g.isLt; have := k.isLt; omega⟩)) * c448

/-- The keys by groups. -/
theorem inK (A : Vec Ideal S2x6144x1024 .bf16) (b : Fin 2) (n : Fin 6144) (g : Fin 32) (k : Fin 32) : k0_pay6 (F := Ideal) A (ix4 b n g k) = A (ix3 b n ⟨g.val * 32 + k.val, by have := g.isLt; have := k.isLt; omega⟩) := by
  pointwise [k0_pay6]

/-- The magnitudes of the keys with an axis of one entry more. -/
theorem unitK (e : FVec Ideal S2x6144x32 .f32) (b : Fin 2) (n : Fin 6144) (g : Fin 32) (z : Fin 1) :
    shapeCast S2x6144x32x1 e shapeCasts_S2x6144x32_S2x6144x32x1 (ix4 b n g z) = e (ix3 b n g) := by
  pointwise []

/-- The greatest of a group of the keys. -/
theorem maxK (e : FVec Ideal S2x6144x32x32 .f32) (b : Fin 2) (n : Fin 6144) (g : Fin 32) :
    multiReduction .maximumf [3] S2x6144x32 e 0xFF800000#32 reduces_S2x6144x32x32_S2x6144x32 (.inl rfl) rfl (ix3 b n g)
      = Finset.fold max (Ideal.ofBits .f32 0xFF800000#32) (fun k => e (ix4 b n g k)) Finset.univ := by
  pointwise []

/-- A value of the keys repeated over its group. -/
theorem repK (e : FVec Ideal S2x6144x32x1 .f32) (b : Fin 2) (n : Fin 6144) (g : Fin 32) (k : Fin 32) :
    broadcastTo S2x6144x32x32 e broadcasts_S2x6144x32x1_S2x6144x32x32 (ix4 b n g k) = e (ix4 b n g (0 : Fin 1)) := by
  pointwise []

/-- The greatest magnitude of a group of the keys over 448. -/
theorem magK (A : Vec Ideal S2x6144x1024 .bf16) (b : Fin 2) (n : Fin 6144) (g : Fin 32) (z : Fin 1) :
    mulf (shapeCast S2x6144x32x1 (multiReduction .maximumf [3] S2x6144x32 (absf (k0_pay6 (F := Ideal) A)) 0xFF800000#32 reduces_S2x6144x32x32_S2x6144x32 (.inl rfl) rfl) shapeCasts_S2x6144x32_S2x6144x32x1)
      (broadcast S2x6144x32x1 (Scalar.ofBits (F := Ideal) .f32 0x3B124925#32)) (ix4 b n g z) = yK A b n g := by
  rw [mulf_i, unitK, maxK]
  simp only [absf_i, inK, bc_i]
  exact mag_gen fun k : Fin 32 => A (ix3 b n ⟨g.val * 32 + k.val, by have := g.isLt; have := k.isLt; omega⟩)

/-- The exponent of a group of the keys. -/
theorem exK (A : Vec Ideal S2x6144x1024 .bf16) (b : Fin 2) (n : Fin 6144) (g : Fin 32) (z : Fin 1) : k0_pay11 (F := Ideal) (k0_pay8 A) (k0_pay9 A) k0_pay10 (ix4 b n g z) = refE (yK A b n g) := by
  unfold k0_pay11 k0_pay8 k0_pay9 k0_pay10 k0_pay7
  try dsimp only
  rw [exponent_at, magK]

/-- The scale of a group of the keys. -/
theorem scK (A : Vec Ideal S2x6144x1024 .bf16) (b : Fin 2) (n : Fin 6144) (g : Fin 32) (z : Fin 1) : k0_pay13 (F := Ideal) (k0_pay8 A) (k0_pay9 A) k0_pay10 (ix4 b n g z) = sE (yK A b n g) := by
  unfold k0_pay13 sE
  try dsimp only
  rw [exp2_i, exK]

/-- The code of a channel of the keys. -/
theorem cdK (A : Vec Ideal S2x6144x1024 .bf16) (b : Fin 2) (n : Fin 6144) (g : Fin 32) (k : Fin 32) :
    k0_pay12 (F := Ideal) (k0_pay6 A) (k0_pay8 A) (k0_pay9 A) k0_pay10 (ix4 b n g k) = clip (A (ix3 b n ⟨g.val * 32 + k.val, by have := g.isLt; have := k.isLt; omega⟩) * iE (yK A b n g)) := by
  unfold k0_pay12
  try dsimp only
  rw [clip_at, mulf_i, inK, repK, inv_at _ _ _ (exK A b n g 0)]

/-- The codes of the keys without groups. -/
theorem flatcK (e : FVec Ideal S2x6144x32x32 .fp8e4m3) (b : Fin 2) (n : Fin 6144) (x : Fin 1024) :
    shapeCast S2x6144x1024 e shapeCasts_S2x6144x32x32_S2x6144x1024 (ix3 b n x) = e (ix4 b n ⟨x.val / 32, by have := x.isLt; omega⟩ ⟨x.val % 32, by omega⟩) := by
  pointwise []

/-- The scales of the keys without their last axis. -/
theorem flatsK (e : FVec Ideal S2x6144x32x1 .f32) (b : Fin 2) (n : Fin 6144) (g : Fin 32) :
    shapeCast S2x6144x32 e shapeCasts_S2x6144x32x1_S2x6144x32 (ix3 b n g) = e (ix4 b n g (0 : Fin 1)) := by
  pointwise []

/-! ## The values -/

/-- The greatest magnitude of a group of 128 over 448. -/
def yV (A : Vec Ideal S2x6144x1024 .bf16) (b : Fin 2) (n : Fin 6144) (g : Fin 8) : EReal :=
  amax (fun k : Fin 128 => A (ix3 b n ⟨g.val * 128 + k.val, by have := g.isLt; have := k.isLt; omega⟩)) * c448

/-- The values by groups. -/
theorem inV (A : Vec Ideal S2x6144x1024 .bf16) (b : Fin 2) (n : Fin 6144) (g : Fin 8) (k : Fin 128) : k0_pay14 (F := Ideal) A (ix4 b n g k) = A (ix3 b n ⟨g.val * 128 + k.val, by have := g.isLt; have := k.isLt; omega⟩) := by
  pointwise [k0_pay14]

/-- The magnitudes of the values with an axis of one entry more. -/
theorem unitV (e : FVec Ideal S2x6144x8 .f32) (b : Fin 2) (n : Fin 6144) (g : Fin 8) (z : Fin 1) :
    shapeCast S2x6144x8x1 e shapeCasts_S2x6144x8_S2x6144x8x1 (ix4 b n g z) = e (ix3 b n g) := by
  pointwise []

/-- The greatest of a group of the values. -/
theorem maxV (e : FVec Ideal S2x6144x8x128 .f32) (b : Fin 2) (n : Fin 6144) (g : Fin 8) :
    multiReduction .maximumf [3] S2x6144x8 e 0xFF800000#32 reduces_S2x6144x8x128_S2x6144x8 (.inl rfl) rfl (ix3 b n g)
      = Finset.fold max (Ideal.ofBits .f32 0xFF800000#32) (fun k => e (ix4 b n g k)) Finset.univ := by
  pointwise []

/-- A value of the values repeated over its group. -/
theorem repV (e : FVec Ideal S2x6144x8x1 .f32) (b : Fin 2) (n : Fin 6144) (g : Fin 8) (k : Fin 128) :
    broadcastTo S2x6144x8x128 e broadcasts_S2x6144x8x1_S2x6144x8x128 (ix4 b n g k) = e (ix4 b n g (0 : Fin 1)) := by
  pointwise []

/-- The greatest magnitude of a group of the values over 448. -/
theorem magV (A : Vec Ideal S2x6144x1024 .bf16) (b : Fin 2) (n : Fin 6144) (g : Fin 8) (z : Fin 1) :
    mulf (shapeCast S2x6144x8x1 (multiReduction .maximumf [3] S2x6144x8 (absf (k0_pay14 (F := Ideal) A)) 0xFF800000#32 reduces_S2x6144x8x128_S2x6144x8 (.inl rfl) rfl) shapeCasts_S2x6144x8_S2x6144x8x1)
      (broadcast S2x6144x8x1 (Scalar.ofBits (F := Ideal) .f32 0x3B124925#32)) (ix4 b n g z) = yV A b n g := by
  rw [mulf_i, unitV, maxV]
  simp only [absf_i, inV, bc_i]
  exact mag_gen fun k : Fin 128 => A (ix3 b n ⟨g.val * 128 + k.val, by have := g.isLt; have := k.isLt; omega⟩)

/-- The exponent of a group of the values. -/
theorem exV (A : Vec Ideal S2x6144x1024 .bf16) (b : Fin 2) (n : Fin 6144) (g : Fin 8) (z : Fin 1) : k0_pay15 (F := Ideal) A (ix4 b n g z) = refE (yV A b n g) := by
  unfold k0_pay15
  try dsimp only
  rw [exponent_at, magV]

/-- The scale of a group of the values. -/
theorem scV (A : Vec Ideal S2x6144x1024 .bf16) (b : Fin 2) (n : Fin 6144) (g : Fin 8) (z : Fin 1) : k0_pay19 (F := Ideal) (k0_pay15 A) (ix4 b n g z) = sE (yV A b n g) := by
  unfold k0_pay19 sE
  try dsimp only
  rw [exp2_i, exV]

/-- The code of a channel of the values. -/
theorem cdV (A : Vec Ideal S2x6144x1024 .bf16) (b : Fin 2) (n : Fin 6144) (g : Fin 8) (k : Fin 128) :
    k0_pay18 (F := Ideal) (k0_pay16 A) k0_pay17 (ix4 b n g k) = clip (A (ix3 b n ⟨g.val * 128 + k.val, by have := g.isLt; have := k.isLt; omega⟩) * iE (yV A b n g)) := by
  unfold k0_pay18 k0_pay16 k0_pay17
  try dsimp only
  rw [clip_at, mulf_i, inV, repV, inv_at _ _ _ (exV A b n g 0)]

/-- The codes of the values without groups. -/
theorem flatcV (e : FVec Ideal S2x6144x8x128 .fp8e4m3) (b : Fin 2) (n : Fin 6144) (x : Fin 1024) :
    shapeCast S2x6144x1024 e shapeCasts_S2x6144x8x128_S2x6144x1024 (ix3 b n x) = e (ix4 b n ⟨x.val / 128, by have := x.isLt; omega⟩ ⟨x.val % 128, by omega⟩) := by
  pointwise []

/-- The scales of the values without their last axis. -/
theorem flatsV (e : FVec Ideal S2x6144x8x1 .f32) (b : Fin 2) (n : Fin 6144) (g : Fin 8) :
    shapeCast S2x6144x8 e shapeCasts_S2x6144x8x1_S2x6144x8 (ix3 b n g) = e (ix4 b n g (0 : Fin 1)) := by
  pointwise []

end Cert.Proof.Ref

end
-- ==== Proof.RefLayout.lean ====
/- The reference's attention, one operation at a time: what its layouts, sums and products read. -/
module

public import proofs.«01_k».proof.Proof.RefQuant

@[expose] public section

set_option maxRecDepth 16384
set_option maxHeartbeats 4000000

noncomputable section

namespace Cert.Proof.Ref

open Idealize.ShloMosaic Idealize.ShloMosaic.Tactic
open Cert.ReferenceIdeal Cert.ReferenceIdeal.Gen

variable {α : Type}

/-! ## Queries -/

/-- A query scale repeated over its group. -/
theorem repQb (e : FVec Ideal S2x6144x224x1 .bf16) (b : Fin 2) (n : Fin 6144) (g : Fin 224) (k : Fin 32) :
    broadcastTo S2x6144x224x32 e broadcasts_S2x6144x224x1_S2x6144x224x32 (ix4 b n g k) = e (ix4 b n g (0 : Fin 1)) := by
  pointwise []
/-- The dequantised queries by group, head and channel. -/
theorem q_split (e : FVec Ideal S2x6144x224x32 .bf16) (b : Fin 2) (n : Fin 6144) (g : Fin 8) (h : Fin 7) (d : Fin 128) :
    shapeCast S2x6144x8x7x128 e shapeCasts_S2x6144x224x32_S2x6144x8x7x128 (ix5 b n g h d)
      = e (ix4 b n ⟨g.val * 28 + h.val * 4 + d.val / 32, by have := g.isLt; have := h.isLt; have := d.isLt; omega⟩ ⟨d.val % 32, by omega⟩) := by
  pointwise []
/-- The heads of the queries before the rows. -/
theorem q_swap (e : FVec Ideal S2x6144x8x7x128 .bf16) (b : Fin 2) (g : Fin 8) (h : Fin 7) (n : Fin 6144) (d : Fin 128) :
    transpose S2x8x7x6144x128 [0, 2, 3, 1, 4] e transposes_S2x6144x8x7x128_p0_2_3_1_4_S2x8x7x6144x128 (ix5 b g h n d) = e (ix5 b n g h d) := by
  pointwise []
/-- Batch and group in one axis, head and row in another. -/
theorem q_merge (e : FVec Ideal S2x8x7x6144x128 .bf16) (B : Fin 16) (r : Fin 43008) (d : Fin 128) :
    shapeCast S16x43008x128 e shapeCasts_S2x8x7x6144x128_S16x43008x128 (ix3 B r d)
      = e (ix5 ⟨B.val / 8, by have := B.isLt; omega⟩ ⟨B.val % 8, by omega⟩ ⟨r.val / 6144, by have := r.isLt; omega⟩ ⟨r.val % 6144, by omega⟩ d) := by
  pointwise []

/-! ## Keys and values -/

/-- A key scale repeated over its group. -/
theorem repKb (e : FVec Ideal S2x6144x32x1 .bf16) (b : Fin 2) (n : Fin 6144) (g : Fin 32) (k : Fin 32) :
    broadcastTo S2x6144x32x32 e broadcasts_S2x6144x32x1_S2x6144x32x32 (ix4 b n g k) = e (ix4 b n g (0 : Fin 1)) := by
  pointwise []
/-- The dequantised keys by group and channel. -/
theorem k_split (e : FVec Ideal S2x6144x32x32 .bf16) (b : Fin 2) (n : Fin 6144) (g : Fin 8) (d : Fin 128) :
    shapeCast S2x6144x8x128 e shapeCasts_S2x6144x32x32_S2x6144x8x128 (ix4 b n g d)
      = e (ix4 b n ⟨g.val * 4 + d.val / 32, by have := g.isLt; have := d.isLt; omega⟩ ⟨d.val % 32, by omega⟩) := by
  pointwise []
/-- The groups of the keys before the rows. -/
theorem k_swap (e : FVec Ideal S2x6144x8x128 .bf16) (b : Fin 2) (g : Fin 8) (n : Fin 6144) (d : Fin 128) :
    transpose S2x8x6144x128 [0, 2, 1, 3] e transposes_S2x6144x8x128_p0_2_1_3_S2x8x6144x128 (ix4 b g n d) = e (ix4 b n g d) := by
  pointwise []
/-- Batch and group of the keys in one axis. -/
theorem k_merge (e : FVec Ideal S2x8x6144x128 .bf16) (B : Fin 16) (n : Fin 6144) (d : Fin 128) :
    shapeCast S16x6144x128 e shapeCasts_S2x8x6144x128_S16x6144x128 (ix3 B n d) = e (ix4 ⟨B.val / 8, by have := B.isLt; omega⟩ ⟨B.val % 8, by omega⟩ n d) := by
  pointwise []
/-- The groups of the value codes before the rows. -/
theorem v_swap (e : FVec Ideal S2x6144x8x128 .fp8e4m3) (b : Fin 2) (g : Fin 8) (n : Fin 6144) (d : Fin 128) :
    transpose S2x8x6144x128 [0, 2, 1, 3] e transposes_S2x6144x8x128_p0_2_1_3_S2x8x6144x128 (ix4 b g n d) = e (ix4 b n g d) := by
  pointwise []
/-- Batch and group of the value codes in one axis. -/
theorem v_merge (e : FVec Ideal S2x8x6144x128 .fp8e4m3) (B : Fin 16) (n : Fin 6144) (d : Fin 128) :
    shapeCast S16x6144x128 e shapeCasts_S2x8x6144x128_S16x6144x128 (ix3 B n d) = e (ix4 ⟨B.val / 8, by have := B.isLt; omega⟩ ⟨B.val % 8, by omega⟩ n d) := by
  pointwise []

/-! ## Scores -/

/-- A score before its scale is a sum over the channels. -/
theorem qk_dot (u : FVec Ideal S16x43008x128 .bf16) (v : FVec Ideal S16x6144x128 .bf16) (B : Fin 16) (r : Fin 43008) (j : Fin 6144) :
    matmul dot_S16x43008x128_S16x6144x128_S16x43008x6144_2_2_1_1_0_0 none u v (constant (F := Ideal) S16x43008x6144 .f32 0x00000000#32) (ix3 B r j)
      = ∑ d : Fin 128, u (ix3 B r d) * v (ix3 B j d) := by
  pointwise []
/-- The scores by head and row. -/
theorem s_split (e : FVec Ideal S16x43008x6144 .f32) (B : Fin 16) (h : Fin 7) (i j : Fin 6144) :
    shapeCast S16x7x6144x6144 e shapeCasts_S16x43008x6144_S16x7x6144x6144 (ix4 B h i j)
      = e (ix3 B ⟨h.val * 6144 + i.val, by have := h.isLt; have := i.isLt; omega⟩ j) := by
  pointwise []

/-! ## Rows of weights -/

/-- The greatest of a row. -/
theorem w_max (e : FVec Ideal S16x7x6144x6144 .f32) (B : Fin 16) (h : Fin 7) (i : Fin 6144) :
    multiReduction .maximumf [3] S16x7x6144 e 0xFF800000#32 reduces_S16x7x6144x6144_S16x7x6144 (.inl rfl) rfl (ix3 B h i)
      = Finset.fold max (Ideal.ofBits .f32 0xFF800000#32) (fun j => e (ix4 B h i j)) Finset.univ := by
  pointwise []
/-- The sum of a row. -/
theorem w_sum (e : FVec Ideal S16x7x6144x6144 .f32) (B : Fin 16) (h : Fin 7) (i : Fin 6144) :
    multiReduction .add [3] S16x7x6144 e 0x00000000#32 reduces_S16x7x6144x6144_S16x7x6144 (.inl rfl) rfl (ix3 B h i)
      = ∑ j, e (ix4 B h i j) := by
  pointwise []
/-- A row's value with an axis of one entry more. -/
theorem w_unit (e : FVec Ideal S16x7x6144 .f32) (B : Fin 16) (h : Fin 7) (i : Fin 6144) (z : Fin 1) :
    shapeCast S16x7x6144x1 e shapeCasts_S16x7x6144_S16x7x6144x1 (ix4 B h i z) = e (ix3 B h i) := by
  pointwise []
/-- A row's value repeated over the keys. -/
theorem w_rep (e : FVec Ideal S16x7x6144x1 .f32) (B : Fin 16) (h : Fin 7) (i j : Fin 6144) :
    broadcastTo S16x7x6144x6144 e broadcasts_S16x7x6144x1_S16x7x6144x6144 (ix4 B h i j) = e (ix4 B h i (0 : Fin 1)) := by
  pointwise []
/-- A row's value repeated over the channels. -/
theorem o_rep (e : FVec Ideal S16x7x6144x1 .f32) (B : Fin 16) (h : Fin 7) (i : Fin 6144) (d : Fin 128) :
    broadcastTo S16x7x6144x128 e broadcasts_S16x7x6144x1_S16x7x6144x128 (ix4 B h i d) = e (ix4 B h i (0 : Fin 1)) := by
  pointwise []
/-- The position of a key. -/
theorem key_at (B : Fin 16) (h : Fin 7) (i j : Fin 6144) :
    iota .tc S16x7x6144x6144 32 [3] iota_S16x7x6144x6144_d3_w32 (ix4 B h i j) = BitVec.ofNat 32 j.val := by
  pointwise []
/-- The position of a query. -/
theorem row_at (B : Fin 16) (h : Fin 7) (i j : Fin 6144) :
    iota .tc S16x7x6144x6144 32 [2] iota_S16x7x6144x6144_d2_w32 (ix4 B h i j) = BitVec.ofNat 32 i.val := by
  pointwise []

/-! ## The values' scales -/

/-- The value scales without their last axis. -/
theorem vs_flat (e : FVec Ideal S2x6144x8x1 .f32) (b : Fin 2) (n : Fin 6144) (g : Fin 8) :
    shapeCast S2x6144x8 e shapeCasts_S2x6144x8x1_S2x6144x8 (ix3 b n g) = e (ix4 b n g (0 : Fin 1)) := by
  pointwise []
/-- The groups of the value scales before the rows. -/
theorem vs_swap (e : FVec Ideal S2x6144x8 .f32) (b : Fin 2) (g : Fin 8) (n : Fin 6144) :
    transpose S2x8x6144 [0, 2, 1] e transposes_S2x6144x8_p0_2_1_S2x8x6144 (ix3 b g n) = e (ix3 b n g) := by
  pointwise []
/-- Batch and group of the value scales in one axis. -/
theorem vs_merge (e : FVec Ideal S2x8x6144 .f32) (B : Fin 16) (y z : Fin 1) (n : Fin 6144) :
    shapeCast S16x1x1x6144 e shapeCasts_S2x8x6144_S16x1x1x6144 (ix4 B y z n) = e (ix3 ⟨B.val / 8, by have := B.isLt; omega⟩ ⟨B.val % 8, by omega⟩ n) := by
  pointwise []
/-- The value scales repeated over heads and queries. -/
theorem vs_rep (e : FVec Ideal S16x1x1x6144 .f32) (B : Fin 16) (h : Fin 7) (i j : Fin 6144) :
    broadcastTo S16x7x6144x6144 e broadcasts_S16x1x1x6144_S16x7x6144x6144 (ix4 B h i j) = e (ix4 B (0 : Fin 1) (0 : Fin 1) j) := by
  pointwise []

/-! ## The result -/

/-- Head and row of the weight codes in one axis. -/
theorem p_merge (e : FVec Ideal S16x7x6144x6144 .fp8e4m3) (B : Fin 16) (r : Fin 43008) (j : Fin 6144) :
    shapeCast S16x43008x6144 e shapeCasts_S16x7x6144x6144_S16x43008x6144 (ix3 B r j)
      = e (ix4 B ⟨r.val / 6144, by have := r.isLt; omega⟩ ⟨r.val % 6144, by omega⟩ j) := by
  pointwise []
/-- The weighted sum over the keys. -/
theorem pv_dot (u : FVec Ideal S16x43008x6144 .fp8e4m3) (v : FVec Ideal S16x6144x128 .fp8e4m3) (B : Fin 16) (r : Fin 43008) (d : Fin 128) :
    matmul dot_S16x43008x6144_S16x6144x128_S16x43008x128_2_1_1_2_0_0 none u v (constant (F := Ideal) S16x43008x128 .f32 0x00000000#32) (ix3 B r d)
      = ∑ j : Fin 6144, u (ix3 B r j) * v (ix3 B j d) := by
  pointwise []
/-- The weighted sums by head and row. -/
theorem o_split (e : FVec Ideal S16x43008x128 .f32) (B : Fin 16) (h : Fin 7) (i : Fin 6144) (d : Fin 128) :
    shapeCast S16x7x6144x128 e shapeCasts_S16x43008x128_S16x7x6144x128 (ix4 B h i d)
      = e (ix3 B ⟨h.val * 6144 + i.val, by have := h.isLt; have := i.isLt; omega⟩ d) := by
  pointwise []
/-- Batch and group of the attention apart. -/
theorem o_heads (e : FVec Ideal S16x7x6144x128 .bf16) (b : Fin 2) (g : Fin 8) (h : Fin 7) (i : Fin 6144) (d : Fin 128) :
    shapeCast S2x8x7x6144x128 e shapeCasts_S16x7x6144x128_S2x8x7x6144x128 (ix5 b g h i d)
      = e (ix4 ⟨b.val * 8 + g.val, by have := b.isLt; have := g.isLt; omega⟩ h i d) := by
  pointwise []
/-- The rows of the attention before the heads. -/
theorem o_swap (e : FVec Ideal S2x8x7x6144x128 .bf16) (b : Fin 2) (i : Fin 6144) (g : Fin 8) (h : Fin 7) (d : Fin 128) :
    transpose S2x6144x8x7x128 [0, 3, 1, 2, 4] e transposes_S2x8x7x6144x128_p0_3_1_2_4_S2x6144x8x7x128 (ix5 b i g h d) = e (ix5 b g h i d) := by
  pointwise []
/-- The heads and channels of the attention in one axis. -/
theorem o_merge (e : FVec Ideal S2x6144x8x7x128 .bf16) (b : Fin 2) (i : Fin 6144) (x : Fin 7168) :
    shapeCast S2x6144x7168 e shapeCasts_S2x6144x8x7x128_S2x6144x7168 (ix3 b i x)
      = e (ix5 b i ⟨x.val / 896, by have := x.isLt; omega⟩ ⟨x.val / 128 % 7, by omega⟩ ⟨x.val % 128, by omega⟩) := by
  pointwise []

end Cert.Proof.Ref

end
-- ==== Proof.RefCodes.lean ====
/- The reference's codes and scales are the ones of the kernel, for finite arguments. -/
module

public import proofs.«01_k».proof.Proof.RefQuant

@[expose] public section

set_option maxRecDepth 16384

noncomputable section

namespace Cert.Proof.Ref

open Idealize.ShloMosaic Idealize.ShloMosaic.Tactic
open Cert.ReferenceIdeal Cert.ReferenceIdeal.Gen

/-- The greatest finite half-width number. -/
abbrev big : EReal := Ideal.ofBits .bf16 0x7F7F#16

/-- The greatest finite bf16 number, as a number. -/
theorem big_eq : big = ((255 * 2 ^ 120 : ℝ) : EReal) := by
  simp [big, Ideal.ofBits, Ideal.ieee]

/-- The single-precision number nearest `1 / 448`, as a number. -/
theorem c448_eq : c448 = ((9586981 / 2 ^ 32 : ℝ) : EReal) := by
  simp [c448, Ideal.ofBits, Ideal.ieee]
  rw [← EReal.coe_mul]
  norm_num

/-- Every entry is finite. -/
def Finite {s : Shape} (A : s.Idx → EReal) : Prop := ∀ i, max (A i) (-(A i)) ≤ big

/-- A value whose scale both sides agree on. -/
def Ok (y : EReal) : Prop := ∃ r : ℝ, y = (r : EReal) ∧ 0 ≤ r ∧ r < (2 : ℝ) ^ (120 : ℤ)

/-- Both scales of such a value agree. -/
theorem Ok.scale {y : EReal} (h : Ok y) : sE y = scaleOf y := by
  obtain ⟨r, rfl, h0, h1⟩ := h
  exact (scale_eq r h0 (lt_trans h1 (by norm_num))).symm
/-- Both inverse scales of such a value agree. -/
theorem Ok.inv {y : EReal} (h : Ok y) : iE y = invOf y := by
  obtain ⟨r, rfl, h0, h1⟩ := h
  exact (inv_eq r h0 (lt_trans h1 (by norm_num))).symm

/-- The greatest magnitude of a finite family over 448 is a number below `2 ^ 120`. -/
theorem ok_amax {n : ℕ} (f : Fin (n + 1) → EReal) (h : ∀ k, max (f k) (-(f k)) ≤ big) : Ok (amax f * c448) := by
  have hle : amax f ≤ big := by
    unfold amax
    rw [ninf, Finset.fold_max_le]
    exact ⟨bot_le, fun k _ => h k⟩
  have h0 : 0 ≤ amax f := by
    have : max (f 0) (-(f 0)) ≤ amax f := by
      unfold amax
      rw [Finset.le_fold_max]
      exact Or.inr ⟨0, Finset.mem_univ _, le_rfl⟩
    refine le_trans ?_ this
    rcases le_total 0 (f 0) with h | h
    · exact le_max_of_le_left h
    · exact le_max_of_le_right (by simpa using EReal.neg_le_neg_iff.mpr h)
  obtain ⟨a, ha⟩ : ∃ a : ℝ, amax f = (a : EReal) := by
    rw [big_eq] at hle
    induction hx : amax f with
    | bot => rw [hx] at h0; exact absurd h0 (by simp)
    | top => rw [hx] at hle; exact absurd hle (not_le.mpr (EReal.coe_lt_top _))
    | coe a => exact ⟨a, rfl⟩
  rw [ha, big_eq, EReal.coe_le_coe_iff] at hle
  rw [ha] at h0
  have h0' : 0 ≤ a := by exact_mod_cast h0
  refine ⟨a * (9586981 / 2 ^ 32), ?_, by positivity, ?_⟩
  · rw [ha, c448_eq, ← EReal.coe_mul]
  · calc a * (9586981 / 2 ^ 32) ≤ (255 * 2 ^ 120) * (9586981 / 2 ^ 32) := by gcongr
      _ < (2 : ℝ) ^ (120 : ℤ) := by norm_num

variable (A : Vec Ideal S2x6144x7168 .bf16) (K V : Vec Ideal S2x6144x1024 .bf16)

/-! ## The greatest magnitudes -/

/-- The magnitude of a query group, by head and group of the head. -/
theorem yQ_row (b : Fin 2) (n : Fin 6144) (s : Fin 224) (h : Fin 56) (g : Fin 4) (hs : s.val = 4 * h.val + g.val) :
    yQ A b n s = y32 (qRow A b n h) g := by
  unfold yQ y32
  refine congrArg (fun f => amax f * c448) (funext fun k => ?_)
  exact congrArg (fun x => A (ix3 b n x)) (Fin.ext (by show s.val * 32 + k.val = 128 * h.val + (g.val * 32 + k.val); omega))

/-- The magnitude of a key group, by head and group of the head. -/
theorem yK_row (b : Fin 2) (n : Fin 6144) (s : Fin 32) (h : Fin 8) (g : Fin 4) (hs : s.val = 4 * h.val + g.val) :
    yK K b n s = y32 (kRow K b n h) g := by
  unfold yK y32
  refine congrArg (fun f => amax f * c448) (funext fun k => ?_)
  exact congrArg (fun x => K (ix3 b n x)) (Fin.ext (by show s.val * 32 + k.val = 128 * h.val + (g.val * 32 + k.val); omega))

/-- The magnitude of a value row. -/
theorem yV_row (b : Fin 2) (n : Fin 6144) (h : Fin 8) : yV V b n h = y128 (kRow V b n h) := by
  unfold yV y128
  refine congrArg (fun f => amax f * c448) (funext fun k => ?_)
  exact congrArg (fun x => V (ix3 b n x)) (Fin.ext (by show h.val * 128 + k.val = 128 * h.val + k.val; omega))

variable {A K V}

/-- The magnitudes of finite queries. -/
theorem ok_q (hA : Finite A) (b : Fin 2) (n : Fin 6144) (h : Fin 56) (g : Fin 4) : Ok (y32 (qRow A b n h) g) :=
  ok_amax _ fun k => hA _
/-- The magnitudes of finite keys. -/
theorem ok_k (hK : Finite K) (b : Fin 2) (n : Fin 6144) (h : Fin 8) (g : Fin 4) : Ok (y32 (kRow K b n h) g) :=
  ok_amax _ fun k => hK _
/-- The magnitudes of finite values. -/
theorem ok_v (hV : Finite V) (b : Fin 2) (n : Fin 6144) (h : Fin 8) : Ok (y128 (kRow V b n h)) :=
  ok_amax _ fun k => hV _

/-! ## Entries of the quantised arguments -/

/-- A group of the queries, as the head and the group in the head. -/
theorem q_scale (hA : Finite A) (b : Fin 2) (n : Fin 6144) (s : Fin 224) (h : Fin 56) (g : Fin 4) (hs : s.val = 4 * h.val + g.val) (z : Fin 1) :
    k0_pay5 (F := Ideal) A (ix4 b n s z) = s32 (qRow A b n h) g := by
  rw [scQ, yQ_row A b n s h g hs, (ok_q hA b n h g).scale]; rfl
/-- A key scale. -/
theorem k_scale (hK : Finite K) (b : Fin 2) (n : Fin 6144) (s : Fin 32) (h : Fin 8) (g : Fin 4) (hs : s.val = 4 * h.val + g.val) (z : Fin 1) :
    k0_pay13 (F := Ideal) (k0_pay8 K) (k0_pay9 K) k0_pay10 (ix4 b n s z) = s32 (kRow K b n h) g := by
  rw [scK, yK_row K b n s h g hs, (ok_k hK b n h g).scale]; rfl
/-- A value scale. -/
theorem v_scale (hV : Finite V) (b : Fin 2) (n : Fin 6144) (h : Fin 8) (z : Fin 1) :
    k0_pay19 (F := Ideal) (k0_pay15 V) (ix4 b n h z) = s128 (kRow V b n h) := by
  rw [scV, yV_row, (ok_v hV b n h).scale]; rfl

/-- A query code. -/
theorem q_code (hA : Finite A) (b : Fin 2) (n : Fin 6144) (s : Fin 224) (k : Fin 32) (h : Fin 56) (d : Fin 128) (hs : s.val = 4 * h.val + d.val / 32)
    (hk : k.val = d.val % 32) : k0_pay4 (F := Ideal) A (ix4 b n s k) = c32 (qRow A b n h) d := by
  rw [cdQ, yQ_row A b n s h (gOf d) hs, (ok_q hA b n h (gOf d)).inv]
  unfold c32
  refine congrArg (fun x => clip (A (ix3 b n x) * invOf (y32 (qRow A b n h) (gOf d)))) (Fin.ext ?_)
  show s.val * 32 + k.val = 128 * h.val + d.val
  omega
/-- A key code. -/
theorem k_code (hK : Finite K) (b : Fin 2) (n : Fin 6144) (s : Fin 32) (k : Fin 32) (h : Fin 8) (d : Fin 128) (hs : s.val = 4 * h.val + d.val / 32)
    (hk : k.val = d.val % 32) : k0_pay12 (F := Ideal) (k0_pay6 K) (k0_pay8 K) (k0_pay9 K) k0_pay10 (ix4 b n s k) = c32 (kRow K b n h) d := by
  rw [cdK, yK_row K b n s h (gOf d) hs, (ok_k hK b n h (gOf d)).inv]
  unfold c32
  refine congrArg (fun x => clip (K (ix3 b n x) * invOf (y32 (kRow K b n h) (gOf d)))) (Fin.ext ?_)
  show s.val * 32 + k.val = 128 * h.val + d.val
  omega
/-- A value code. -/
theorem v_code (hV : Finite V) (b : Fin 2) (n : Fin 6144) (h : Fin 8) (d : Fin 128) :
    k0_pay18 (F := Ideal) (k0_pay16 V) k0_pay17 (ix4 b n h d) = c128 (kRow V b n h) d := by
  rw [cdV, yV_row, (ok_v hV b n h).inv]
  unfold c128
  refine congrArg (fun x => clip (V (ix3 b n x) * invOf (y128 (kRow V b n h)))) (Fin.ext ?_)
  show h.val * 128 + d.val = 128 * h.val + d.val
  omega

/-! ## The results -/

/-- The reference's query codes are the kernel's. -/
theorem G4_at (hA : Finite A) (b : Fin 2) (n : Fin 6144) (x : Fin 7168) : Value.G4 (F := Ideal) A K V (ix3 b n x) = qcAt A b n x := by
  show k0_pay20 (F := Ideal) (k0_pay4 (View.ld A r0_0)) (ix3 b n x) = _
  rw [ld0]
  unfold k0_pay20
  try dsimp only
  rw [flatcQ]
  exact q_code hA b n _ _ (hd56 x) (ch56 x) (by show x.val / 32 = 4 * (x.val / 128) + x.val % 128 / 32; omega) (by show x.val % 32 = x.val % 128 % 32; omega)

/-- The reference's query scales are the kernel's. -/
theorem G5_at (hA : Finite A) (b : Fin 2) (n : Fin 6144) (s : Fin 224) :
    Value.G5 (F := Ideal) A K V (ix3 b n s) = qsAt A b n ⟨s.val / 4, by have := s.isLt; omega⟩ ⟨s.val % 4, by omega⟩ := by
  show k0_pay21 (F := Ideal) (k0_pay5 (View.ld A r0_0)) (ix3 b n s) = _
  rw [ld0]
  unfold k0_pay21
  try dsimp only
  rw [flatsQ]
  exact q_scale hA b n s _ _ (by show s.val = 4 * (s.val / 4) + s.val % 4; omega) 0

/-- The reference's key codes are the kernel's. -/
theorem G6_at (hK : Finite K) (b : Fin 2) (n : Fin 6144) (x : Fin 1024) : Value.G6 (F := Ideal) A K V (ix3 b n x) = kcAt K b n x := by
  show k0_pay22 (F := Ideal) (k0_pay12 (k0_pay6 (View.ld K r0_1)) (k0_pay8 (View.ld K r0_1)) (k0_pay9 (View.ld K r0_1)) k0_pay10) (ix3 b n x) = _
  rw [ld1]
  unfold k0_pay22
  try dsimp only
  rw [flatcK]
  exact k_code hK b n _ _ (hd8 x) (ch8 x) (by show x.val / 32 = 4 * (x.val / 128) + x.val % 128 / 32; omega) (by show x.val % 32 = x.val % 128 % 32; omega)

/-- The reference's key scales are the kernel's. -/
theorem G7_at (hK : Finite K) (b : Fin 2) (n : Fin 6144) (s : Fin 32) :
    Value.G7 (F := Ideal) A K V (ix3 b n s) = ksAt K b n ⟨s.val / 4, by have := s.isLt; omega⟩ ⟨s.val % 4, by omega⟩ := by
  show k0_pay23 (F := Ideal) (k0_pay13 (k0_pay8 (View.ld K r0_1)) (k0_pay9 (View.ld K r0_1)) k0_pay10) (ix3 b n s) = _
  rw [ld1]
  unfold k0_pay23
  try dsimp only
  rw [flatsK]
  exact k_scale hK b n s _ _ (by show s.val = 4 * (s.val / 4) + s.val % 4; omega) 0

/-- The reference's value codes are the kernel's. -/
theorem G8_at (hV : Finite V) (b : Fin 2) (n : Fin 6144) (x : Fin 1024) : Value.G8 (F := Ideal) A K V (ix3 b n x) = vcAt V b n x := by
  show k0_pay24 (F := Ideal) (k0_pay16 (View.ld V r0_1)) k0_pay17 (ix3 b n x) = _
  rw [ld1]
  unfold k0_pay24
  try dsimp only
  rw [flatcV]
  exact v_code hV b n (hd8 x) (ch8 x)

/-- The reference's value scales are the kernel's. -/
theorem G9_at (hV : Finite V) (b : Fin 2) (n : Fin 6144) (h : Fin 8) : Value.G9 (F := Ideal) A K V (ix3 b n h) = vsAt V b n h := by
  show k0_pay25 (F := Ideal) (k0_pay15 (View.ld V r0_1)) (ix3 b n h) = _
  rw [ld1]
  unfold k0_pay25
  try dsimp only
  rw [flatsV]
  exact v_scale hV b n h 0

end Cert.Proof.Ref

end
-- ==== Proof.RefAttend.lean ====
/- The reference's attention, entry by entry. -/
module

public import proofs.«01_k».proof.Proof.RefLayout
public import proofs.«01_k».proof.Proof.RefCodes

@[expose] public section

set_option maxRecDepth 16384
set_option maxHeartbeats 4000000

noncomputable section

namespace Cert.Proof.Ref

open Idealize.ShloMosaic Idealize.ShloMosaic.Tactic
open Cert.ReferenceIdeal Cert.ReferenceIdeal.Gen

/-! ## One query row -/

/-- The cap. -/
abbrev c50 : EReal := Ideal.ofBits .f32 0x42480000#32
/-- The scale of the scores, `128 ^ (-1/2)`. -/
abbrev ss : EReal := Named.named (F := Ideal) κ "score_scale" (φ := .f32) 0x3DB504F3#32

/-- A score, scaled and capped. -/
def capE (s : EReal) : EReal := c50 * Ideal.tanh (Ideal.div (s * ss) c50)
/-- The capped scores of row `i`, the later keys at minus infinity. -/
def maskE (S : Fin 6144 → EReal) (i : ℕ) (j : Fin 6144) : EReal := if j.val ≤ i then capE (S j) else Ideal.ofBits .f32 0xFF800000#32
/-- The greatest of them. -/
def topE (S : Fin 6144 → EReal) (i : ℕ) : EReal := Finset.fold max (Ideal.ofBits .f32 0xFF800000#32) (maskE S i) Finset.univ
/-- The weights before they are divided by their sum. -/
def eW (S : Fin 6144 → EReal) (i : ℕ) (j : Fin 6144) : EReal := if j.val ≤ i then Ideal.exp (maskE S i j - topE S i) else Ideal.ofBits .f32 0x00000000#32
/-- The weights with the values' scales taken in. -/
def pvW (S : Fin 6144 → EReal) (i : ℕ) (VS : Fin 6144 → EReal) (j : Fin 6144) : EReal := eW S i j * VS j
/-- The greatest of those over 448. -/
def yW (S : Fin 6144 → EReal) (i : ℕ) (VS : Fin 6144 → EReal) : EReal := amax (pvW S i VS) * c448
/-- The attention of one query row in one channel. -/
def refAttend (S : Fin 6144 → EReal) (i : ℕ) (VS VT : Fin 6144 → EReal) : EReal :=
  Ideal.div ((∑ j, clip (pvW S i VS j * iE (yW S i VS)) * VT j) * sE (yW S i VS)) (∑ j, eW S i j)

/-! ## One entry at a time -/

section
variable {s : Shape}
/-- The exponential, at an entry. -/
theorem exp_i (u : FVec Ideal s .f32) (i : s.Idx) : exp u i = Ideal.exp (u i) := rfl
/-- Rounding to half width, at an entry. -/
theorem trunc_i (u : FVec Ideal s .f32) (h : (FTy.bf16).bits < (FTy.f32).bits) (i : s.Idx) : truncf .bf16 u h i = u i := rfl
/-- Widening a code, at an entry. -/
theorem ext_i (u : FVec Ideal s .fp8e4m3) (h : (FTy.fp8e4m3).bits < (FTy.bf16).bits) (i : s.Idx) : extf .bf16 u h i = u i := rfl
/-- The capped scores, at an entry. -/
theorem cap_i (u : FVec Ideal s .f32) (i : s.Idx) :
    mulf (broadcast s (Scalar.ofBits (F := Ideal) .f32 0x42480000#32)) (tanh (divf (mulf u (broadcast s ss)) (broadcast s (Scalar.ofBits (F := Ideal) .f32 0x42480000#32)))) i
      = capE (u i) := rfl
/-- A choice by comparing positions, at an entry. -/
theorem sel_i (a b : IVec s 32) (u v : FVec Ideal s .f32) (i : s.Idx) :
    select (cmpi .sle a b) u v i = Scalar.select (IntOp.cmpi .sle (a i) (b i)) (u i) (v i) := rfl
end

/-- Reading a word, as the instance and as the function. -/
theorem ofb_i (b : BitVec 32) : FloatOps.ofBits (F := Ideal) .f32 b = Ideal.ofBits .f32 b := rfl

/-- Comparing two positions as words compares them. -/
theorem pos_sel (i j : Fin 6144) (u v : EReal) :
    Scalar.select (IntOp.cmpi .sle (BitVec.ofNat 32 j.val) (BitVec.ofNat 32 i.val)) u v = if j.val ≤ i.val then u else v := by
  have h : IntOp.cmpi .sle (BitVec.ofNat 32 j.val) (BitVec.ofNat 32 i.val) = BitVec.ofBool (decide (j.val ≤ i.val)) := by
    have ha := j.isLt
    have hb := i.isLt
    simp only [IntOp.cmpi, BitVec.sle]
    congr 1
    have e1 : (BitVec.ofNat 32 j.val).toInt = j.val := by
      rw [BitVec.toInt_eq_toNat_of_lt (by simp only [BitVec.toNat_ofNat]; omega)]
      simp only [BitVec.toNat_ofNat]; omega
    have e2 : (BitVec.ofNat 32 i.val).toInt = i.val := by
      rw [BitVec.toInt_eq_toNat_of_lt (by simp only [BitVec.toNat_ofNat]; omega)]
      simp only [BitVec.toNat_ofNat]; omega
    rw [e1, e2]
    simp
  rw [h]
  by_cases hc : j.val ≤ i.val
  · rw [if_pos hc, decide_eq_true hc]; rfl
  · rw [if_neg hc, decide_eq_false hc]; rfl

/-! ## Merged axes -/

/-- The dequantised queries by batch and group, head and row. -/
theorem q_row (e : FVec Ideal S2x8x7x6144x128 .bf16) (B : Fin 16) (b : Fin 2) (g : Fin 8) (hB : B.val = b.val * 8 + g.val) (h : Fin 7) (i : Fin 6144) (d : Fin 128) (p) :
    shapeCast S16x43008x128 e shapeCasts_S2x8x7x6144x128_S16x43008x128 (ix3 B ⟨h.val * 6144 + i.val, p⟩ d) = e (ix5 b g h i d) := by
  rw [q_merge]
  have e1 : (⟨B.val / 8, by have := B.isLt; omega⟩ : Fin 2) = b := Fin.ext (by show B.val / 8 = b.val; have := g.isLt; omega)
  have e2 : (⟨B.val % 8, by omega⟩ : Fin 8) = g := Fin.ext (by show B.val % 8 = g.val; have := g.isLt; omega)
  have e3 : (⟨(h.val * 6144 + i.val) / 6144, by have := h.isLt; have := i.isLt; omega⟩ : Fin 7) = h := Fin.ext (by show (h.val * 6144 + i.val) / 6144 = h.val; have := i.isLt; omega)
  have e4 : (⟨(h.val * 6144 + i.val) % 6144, by omega⟩ : Fin 6144) = i := Fin.ext (by show (h.val * 6144 + i.val) % 6144 = i.val; have := i.isLt; omega)
  rw [e1, e2, e3, e4]
/-- The dequantised keys by batch and group. -/
theorem k_row (e : FVec Ideal S2x8x6144x128 .bf16) (B : Fin 16) (b : Fin 2) (g : Fin 8) (hB : B.val = b.val * 8 + g.val) (n : Fin 6144) (d : Fin 128) :
    shapeCast S16x6144x128 e shapeCasts_S2x8x6144x128_S16x6144x128 (ix3 B n d) = e (ix4 b g n d) := by
  rw [k_merge]
  have e1 : (⟨B.val / 8, by have := B.isLt; omega⟩ : Fin 2) = b := Fin.ext (by show B.val / 8 = b.val; have := g.isLt; omega)
  have e2 : (⟨B.val % 8, by omega⟩ : Fin 8) = g := Fin.ext (by show B.val % 8 = g.val; have := g.isLt; omega)
  rw [e1, e2]
/-- The value codes by batch and group. -/
theorem v_row (e : FVec Ideal S2x8x6144x128 .fp8e4m3) (B : Fin 16) (b : Fin 2) (g : Fin 8) (hB : B.val = b.val * 8 + g.val) (n : Fin 6144) (d : Fin 128) :
    shapeCast S16x6144x128 e shapeCasts_S2x8x6144x128_S16x6144x128 (ix3 B n d) = e (ix4 b g n d) := by
  rw [v_merge]
  have e1 : (⟨B.val / 8, by have := B.isLt; omega⟩ : Fin 2) = b := Fin.ext (by show B.val / 8 = b.val; have := g.isLt; omega)
  have e2 : (⟨B.val % 8, by omega⟩ : Fin 8) = g := Fin.ext (by show B.val % 8 = g.val; have := g.isLt; omega)
  rw [e1, e2]
/-- The value scales by batch and group. -/
theorem vs_row (e : FVec Ideal S2x8x6144 .f32) (B : Fin 16) (b : Fin 2) (g : Fin 8) (hB : B.val = b.val * 8 + g.val) (y z : Fin 1) (n : Fin 6144) :
    shapeCast S16x1x1x6144 e shapeCasts_S2x8x6144_S16x1x1x6144 (ix4 B y z n) = e (ix3 b g n) := by
  rw [vs_merge]
  have e1 : (⟨B.val / 8, by have := B.isLt; omega⟩ : Fin 2) = b := Fin.ext (by show B.val / 8 = b.val; have := g.isLt; omega)
  have e2 : (⟨B.val % 8, by omega⟩ : Fin 8) = g := Fin.ext (by show B.val % 8 = g.val; have := g.isLt; omega)
  rw [e1, e2]
/-- The weight codes by head and row. -/
theorem p_row (e : FVec Ideal S16x7x6144x6144 .fp8e4m3) (B : Fin 16) (h : Fin 7) (i j : Fin 6144) (p) :
    shapeCast S16x43008x6144 e shapeCasts_S16x7x6144x6144_S16x43008x6144 (ix3 B ⟨h.val * 6144 + i.val, p⟩ j) = e (ix4 B h i j) := by
  rw [p_merge]
  have e3 : (⟨(h.val * 6144 + i.val) / 6144, by have := h.isLt; have := i.isLt; omega⟩ : Fin 7) = h := Fin.ext (by show (h.val * 6144 + i.val) / 6144 = h.val; have := i.isLt; omega)
  have e4 : (⟨(h.val * 6144 + i.val) % 6144, by omega⟩ : Fin 6144) = i := Fin.ext (by show (h.val * 6144 + i.val) % 6144 = i.val; have := i.isLt; omega)
  rw [e3, e4]

/-! ## The payloads -/

/-- The scores. -/
theorem pay27_at (qc : FVec Ideal S2x6144x224x32 .fp8e4m3) (qs : FVec Ideal S2x6144x224x1 .f32) (kc : FVec Ideal S2x6144x32x32 .fp8e4m3) (ks : FVec Ideal S2x6144x32x1 .f32)
    (B : Fin 16) (b : Fin 2) (g : Fin 8) (hB : B.val = b.val * 8 + g.val) (h : Fin 7) (i j : Fin 6144) (Q Kd : Fin 128 → EReal)
    (hQ : ∀ d : Fin 128, qc (ix4 b i ⟨g.val * 28 + h.val * 4 + d.val / 32, by have := g.isLt; have := h.isLt; have := d.isLt; omega⟩ ⟨d.val % 32, by omega⟩)
      * qs (ix4 b i ⟨g.val * 28 + h.val * 4 + d.val / 32, by have := g.isLt; have := h.isLt; have := d.isLt; omega⟩ (0 : Fin 1)) = Q d)
    (hK : ∀ d : Fin 128, kc (ix4 b j ⟨g.val * 4 + d.val / 32, by have := g.isLt; have := d.isLt; omega⟩ ⟨d.val % 32, by omega⟩)
      * ks (ix4 b j ⟨g.val * 4 + d.val / 32, by have := g.isLt; have := d.isLt; omega⟩ (0 : Fin 1)) = Kd d) :
    k0_pay27 (F := Ideal) qc qs kc ks (ix4 B h i j) = ∑ d, Q d * Kd d := by
  unfold k0_pay27
  dsimp only
  rw [s_split, qk_dot]
  refine Finset.sum_congr rfl fun d _ => ?_
  rw [q_row _ B b g hB, q_swap, q_split, mulf_ib, ext_i, repQb, trunc_i, hQ d]
  rw [k_row _ B b g hB, k_swap, k_split, mulf_ib, ext_i, repKb, trunc_i, hK d]

/-- The masked capped scores. -/
theorem mask_at (u : FVec Ideal S16x7x6144x6144 .f32) (B : Fin 16) (h : Fin 7) (i j : Fin 6144) :
    select (cmpi .sle (iota .tc S16x7x6144x6144 32 [3] iota_S16x7x6144x6144_d3_w32) (iota .tc S16x7x6144x6144 32 [2] iota_S16x7x6144x6144_d2_w32))
      (mulf (broadcast S16x7x6144x6144 (Scalar.ofBits (F := Ideal) .f32 0x42480000#32)) (tanh (divf (mulf u (broadcast S16x7x6144x6144 ss)) (broadcast S16x7x6144x6144 (Scalar.ofBits (F := Ideal) .f32 0x42480000#32)))))
      (broadcast S16x7x6144x6144 (Scalar.ofBits (F := Ideal) .f32 0xFF800000#32)) (ix4 B h i j)
      = maskE (fun j => u (ix4 B h i j)) i.val j := by
  rw [sel_i, key_at, row_at, cap_i, bc_i, pos_sel]
  unfold maskE
  rfl

/-- The weights before they are divided by their sum. -/
theorem pay29_at (u : FVec Ideal S16x7x6144x6144 .f32) (B : Fin 16) (h : Fin 7) (i j : Fin 6144) :
    k0_pay29 (F := Ideal) u k0_pay28 (ix4 B h i j) = eW (fun j => u (ix4 B h i j)) i.val j := by
  unfold k0_pay29 k0_pay28
  dsimp only
  rw [sel_i, key_at, row_at, bc_i, pos_sel, exp_i, subf_i, mask_at, w_rep, w_unit, w_max]
  rw [funext fun j => mask_at u B h i j]
  unfold eW topE
  rfl

/-- Their sum. -/
theorem pay30_at (u : FVec Ideal S16x7x6144x6144 .f32) (B : Fin 16) (h : Fin 7) (i : Fin 6144) (z : Fin 1) :
    k0_pay30 (F := Ideal) u k0_pay28 (ix4 B h i z) = ∑ j, eW (fun j => u (ix4 B h i j)) i.val j := by
  unfold k0_pay30
  dsimp only
  rw [w_unit, w_sum]
  simp only [pay29_at]

/-- The weights with the values' scales taken in. -/
theorem pay31_at (v : FVec Ideal S2x6144x8x1 .f32) (u : FVec Ideal S16x7x6144x6144 .f32) (B : Fin 16) (b : Fin 2) (g : Fin 8) (hB : B.val = b.val * 8 + g.val) (h : Fin 7) (i j : Fin 6144) :
    k0_pay31 (F := Ideal) v u k0_pay28 (ix4 B h i j) = pvW (fun j => u (ix4 B h i j)) i.val (fun j => v (ix4 b j g (0 : Fin 1))) j := by
  unfold k0_pay31 pvW
  dsimp only
  rw [mulf_i, pay29_at, vs_rep, vs_row _ B b g hB, vs_swap, vs_flat]

/-- The exponent of the greatest of those over 448. -/
theorem pay32_at (v : FVec Ideal S2x6144x8x1 .f32) (u : FVec Ideal S16x7x6144x6144 .f32) (B : Fin 16) (b : Fin 2) (g : Fin 8) (hB : B.val = b.val * 8 + g.val) (h : Fin 7) (i : Fin 6144) (z : Fin 1) :
    k0_pay32 (F := Ideal) v u k0_pay28 (ix4 B h i z) = refE (yW (fun j => u (ix4 B h i j)) i.val (fun j => v (ix4 b j g (0 : Fin 1)))) := by
  unfold k0_pay32
  dsimp only
  rw [exponent_at, mulf_i, w_unit, w_max]
  simp only [absf_i, pay31_at v u B b g hB, bc_i]
  refine congrArg refE ?_
  exact mag_gen fun j => pvW (fun j => u (ix4 B h i j)) i.val (fun j => v (ix4 b j g (0 : Fin 1))) j

/-- Those times the inverse scale. -/
theorem pay33_at (v : FVec Ideal S2x6144x8x1 .f32) (u : FVec Ideal S16x7x6144x6144 .f32) (B : Fin 16) (b : Fin 2) (g : Fin 8) (hB : B.val = b.val * 8 + g.val) (h : Fin 7) (i j : Fin 6144) :
    k0_pay33 (F := Ideal) v u k0_pay28 (ix4 B h i j) = pvW (fun j => u (ix4 B h i j)) i.val (fun j => v (ix4 b j g (0 : Fin 1))) j
      * iE (yW (fun j => u (ix4 B h i j)) i.val (fun j => v (ix4 b j g (0 : Fin 1)))) := by
  unfold k0_pay33
  try dsimp only
  rw [mulf_i, pay31_at v u B b g hB, w_rep, inv_at _ _ _ (pay32_at v u B b g hB h i 0)]

/-- The value codes by batch and group. -/
theorem pay26_at (w r : FVec Ideal S2x6144x8x128 .f32) (B : Fin 16) (b : Fin 2) (g : Fin 8) (hB : B.val = b.val * 8 + g.val) (n : Fin 6144) (d : Fin 128) :
    k0_pay26 (F := Ideal) w r (ix3 B n d) = k0_pay18 (F := Ideal) w r (ix4 b n g d) := by
  unfold k0_pay26
  try dsimp only
  rw [v_row _ B b g hB, v_swap]

/-- The attention, from weights, value codes, exponent and sum. -/
theorem pay1_at (vb : FVec Ideal S16x6144x128 .fp8e4m3) (l ex : FVec Ideal S16x7x6144x1 .f32) (p : FVec Ideal S16x7x6144x6144 .f32)
    (b : Fin 2) (i : Fin 6144) (x : Fin 7168) (B : Fin 16) (h : Fin 7) (hB : B.val = b.val * 8 + x.val / 896) (hh : h.val = x.val / 128 % 7) :
    k0_pay1 (F := Ideal) vb l ex p (Scalar.ofBits (F := Ideal) .f32 0xC3E00000#32) (Scalar.ofBits (F := Ideal) .f32 0x43E00000#32) (ix3 b i x)
      = Ideal.div ((∑ j, clip (p (ix4 B h i j)) * vb (ix3 B j (ch56 x))) * Ideal.exp2 (ex (ix4 B h i (0 : Fin 1)))) (l (ix4 B h i (0 : Fin 1))) := by
  have e1 : (⟨b.val * 8 + x.val / 896, by have := b.isLt; have := x.isLt; omega⟩ : Fin 16) = B := Fin.ext hB.symm
  have e2 : (⟨x.val / 128 % 7, by omega⟩ : Fin 7) = h := Fin.ext hh.symm
  unfold k0_pay1
  dsimp only
  rw [o_merge, o_swap, o_heads, trunc_i, divf_i, mulf_i, e1, e2, o_split, pv_dot, o_rep, o_rep, exp2_i]
  simp only [p_row, clip_at]
  unfold ch56
  with_reducible rfl

end Cert.Proof.Ref

end
-- ==== Proof.AttendEq.lean ====
/- The reference's attention of one query row is the kernel's, when scores, value scales and value codes are real numbers. -/
module

public import proofs.«01_k».proof.Proof.RefAttend
public import proofs.«01_k».proof.Proof.Target

@[expose] public section

set_option maxRecDepth 16384
set_option maxHeartbeats 1000000

noncomputable section

namespace Cert.Proof.Ref

open Idealize.ShloMosaic

/-! ## Real numbers among the extended ones -/

/-- A sum of numbers is a number. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of numbers by one that is not zero is their quotient. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The lesser of two numbers is a number. -/
theorem min_coe (x y : ℝ) : min (x : EReal) (y : EReal) = ((min x y : ℝ) : EReal) := by
  rcases le_total x y with h | h
  · rw [min_eq_left h, min_eq_left (EReal.coe_le_coe_iff.mpr h)]
  · rw [min_eq_right h, min_eq_right (EReal.coe_le_coe_iff.mpr h)]

/-- Clipping a number at least zero cuts it from above only. -/
theorem clip_nonneg (r : ℝ) (h : 0 ≤ r) : clip (r : EReal) = ((min r 448 : ℝ) : EReal) := by
  unfold clip
  rw [b448, bn448, max_eq_right (EReal.coe_le_coe_iff.mpr (by linarith)), min_coe, min_comm]

/-- A clipped value is a number. -/
theorem clip_real (x : EReal) : ∃ r : ℝ, clip x = (r : EReal) := by
  have h1 : clip x ≤ ((448 : ℝ) : EReal) := by unfold clip; rw [b448]; exact min_le_left _ _
  have h2 : ((-448 : ℝ) : EReal) ≤ clip x := by
    unfold clip; rw [b448, bn448]
    exact le_min (EReal.coe_le_coe_iff.mpr (by norm_num)) (le_max_left _ _)
  induction hx : clip x with
  | bot => rw [hx] at h2; exact absurd h2 (not_le.mpr (EReal.bot_lt_coe _))
  | top => rw [hx] at h1; exact absurd h1 (not_le.mpr (EReal.coe_lt_top _))
  | coe a => exact ⟨a, rfl⟩

/-- The greatest of real weights, when it is attained. -/
theorem peak_coe (w : Fin 6144 → EReal) (f : Fin 6144 → ℝ) (hw : ∀ j, w j = (f j : EReal)) (P : ℝ) (h0 : 0 ≤ P) (hle : ∀ j, f j ≤ P)
    (j0 : Fin 6144) (hj : f j0 = P) : peak w = (P : EReal) := by
  refine le_antisymm ?_ ?_
  · rw [peak_le_iff]
    exact ⟨by exact_mod_cast h0, fun n => by rw [hw]; exact_mod_cast hle n⟩
  · have := ((peak_le_iff w (peak w)).mp le_rfl).2 j0
    rwa [hw, hj] at this

/-- The greatest magnitude of numbers at least zero, when it is attained. -/
theorem amax_coe (w : Fin 6144 → EReal) (f : Fin 6144 → ℝ) (hw : ∀ j, w j = (f j : EReal)) (h0 : ∀ j, 0 ≤ f j) (P : ℝ) (hle : ∀ j, f j ≤ P)
    (j0 : Fin 6144) (hj : f j0 = P) : amax w = (P : EReal) := by
  have ha : ∀ j, FloatOps.absf (F := Ideal) (φ := .f32) (w j) = (f j : EReal) := fun j => by
    show max (w j) (-(w j)) = _
    rw [hw, ← EReal.coe_neg]
    exact max_eq_left (EReal.coe_le_coe_iff.mpr (by have := h0 j; linarith))
  unfold amax
  refine le_antisymm ?_ ?_
  · rw [ninf, Finset.fold_max_le]
    exact ⟨bot_le, fun k _ => by rw [ha]; exact_mod_cast hle k⟩
  · rw [Finset.le_fold_max]
    exact Or.inr ⟨j0, Finset.mem_univ _, by rw [ha, hj]⟩

/-! ## The scores -/

/-- The kernel's first constant is `1 / (sqrt 128 * 50)`. -/
theorem t1_eq : KernelIdeal.t1 = (((Real.sqrt 128)⁻¹ * (1 / 50) : ℝ) : EReal) := rfl
/-- The kernel's second constant is `50 / log 2`. -/
theorem t2_eq : KernelIdeal.t2 = ((50 * (Real.log 2)⁻¹ : ℝ) : EReal) := rfl
/-- The reference's scale of the scores is `1 / sqrt 128`. -/
theorem ss_eq : ss = (((Real.sqrt 128)⁻¹ : ℝ) : EReal) := rfl
/-- The word of the cap is the number 50. -/
theorem c50_eq : c50 = ((50 : ℝ) : EReal) := by
  simp [c50, Ideal.ofBits, Ideal.ieee]
  rw [← EReal.coe_mul]
  norm_num

/-- The capped score of a real score. -/
def capR (s : ℝ) : ℝ := 50 * Real.tanh (s * (Real.sqrt 128)⁻¹ / 50)

/-- The capped score of a number is a number. -/
theorem capE_coe (s : ℝ) : capE (s : EReal) = (capR s : EReal) := by
  unfold capE
  rw [ss_eq, c50_eq, ← EReal.coe_mul, div_coe _ _ (by norm_num)]
  show ((50 : ℝ) : EReal) * ((Real.tanh _ : ℝ) : EReal) = _
  rw [← EReal.coe_mul]
  rfl

/-- The kernel's weight is the exponential of the capped score. -/
theorem weight_coe (a b : Fin 128 → EReal) (s : ℝ) (h : ∑ d, a d * b d = (s : EReal)) :
    weight KernelIdeal.t1 KernelIdeal.t2 a b = ((Real.exp (capR s) : ℝ) : EReal) := by
  unfold weight
  rw [h, t1_eq, t2_eq, ← EReal.coe_mul]
  show Ideal.exp2 (((Real.tanh _ : ℝ) : EReal) * _) = _
  rw [← EReal.coe_mul]
  show ((Real.rpow 2 _ : ℝ) : EReal) = _
  congr 1
  have hl : Real.log 2 ≠ 0 := (Real.log_pos (by norm_num)).ne'
  show (2 : ℝ) ^ (_ : ℝ) = _
  rw [Real.rpow_def_of_pos (by norm_num)]
  congr 1
  unfold capR
  rw [show s * ((Real.sqrt 128)⁻¹ * (1 / 50)) = s * (Real.sqrt 128)⁻¹ / 50 by ring]
  field_simp

/-! ## The equation -/

/-- Dividing the weights by the greatest one before or after they are scaled, quantised and summed comes to the same. -/
theorem attend_eq (KD : Fin 6144 → Fin 128 → EReal) (Q : Fin 128 → EReal) (i : Fin 6144) (VS VT : Fin 6144 → EReal)
    (s : Fin 6144 → ℝ) (hS : ∀ j, ∑ d, KD j d * Q d = (s j : EReal)) (v : Fin 6144 → ℝ) (hV : ∀ j, VS j = (v j : EReal)) (hv0 : ∀ j, 0 ≤ v j)
    (hv1 : ∀ j, v j ≤ (2 : ℝ) ^ (120 : ℤ)) (c : Fin 6144 → ℝ) (hC : ∀ j, VT j = (c j : EReal)) :
    refAttend (fun j => ∑ d, Q d * KD j d) i.val VS VT = attend (wF KernelIdeal.t1 KernelIdeal.t2 KD Q i.val) VS VT := by
  have hS' : (fun j => ∑ d, Q d * KD j d) = fun j => ((s j : ℝ) : EReal) := funext fun j => by
    rw [← hS]; exact Finset.sum_congr rfl fun d _ => mul_comm _ _
  rw [hS']
  obtain ⟨j0, hj0, hmax⟩ := Finset.exists_max_image (Finset.univ.filter fun j : Fin 6144 => j.val ≤ i.val) (fun j => capR (s j)) ⟨i, by simp⟩
  rw [Finset.mem_filter] at hj0
  have hmax' : ∀ j : Fin 6144, j.val ≤ i.val → capR (s j) ≤ capR (s j0) := fun j hj => hmax j (by simpa using hj)
  -- the weights and the greatest one
  let E : Fin 6144 → ℝ := fun j => if j.val ≤ i.val then Real.exp (capR (s j)) else 0
  let P : ℝ := Real.exp (capR (s j0))
  have hP : 0 < P := Real.exp_pos _
  have hE0 : ∀ j, 0 ≤ E j := fun j => by
    show 0 ≤ if j.val ≤ i.val then Real.exp (capR (s j)) else 0
    split
    · exact (Real.exp_pos _).le
    · exact le_rfl
  have hEP : ∀ j, E j ≤ P := fun j => by
    show (if j.val ≤ i.val then Real.exp (capR (s j)) else 0) ≤ _
    split
    · next h => exact Real.exp_le_exp.mpr (hmax' j h)
    · exact hP.le
  have hEj : E j0 = P := if_pos hj0.2
  have hw : ∀ j, wF KernelIdeal.t1 KernelIdeal.t2 KD Q i.val j = (E j : EReal) := fun j => by
    unfold wF
    by_cases h : j.val ≤ i.val
    · rw [if_pos h, weight_coe _ _ _ (hS j), show E j = _ from if_pos h]
    · rw [if_neg h, show E j = _ from if_neg h, EReal.coe_zero]
  generalize wF KernelIdeal.t1 KernelIdeal.t2 KD Q i.val = w at hw ⊢
  -- the reference's weights
  have htop : topE (fun j => ((s j : ℝ) : EReal)) i.val = ((capR (s j0) : ℝ) : EReal) := by
    unfold topE
    refine le_antisymm ?_ ?_
    · rw [ninf, Finset.fold_max_le]
      refine ⟨bot_le, fun k _ => ?_⟩
      unfold maskE
      by_cases h : k.val ≤ i.val
      · rw [if_pos h, capE_coe]; exact_mod_cast hmax' k h
      · rw [if_neg h, ninf]; exact bot_le
    · rw [Finset.le_fold_max]
      refine Or.inr ⟨j0, Finset.mem_univ _, ?_⟩
      unfold maskE
      rw [if_pos hj0.2, capE_coe]
  have he : ∀ j, eW (fun j => ((s j : ℝ) : EReal)) i.val j = ((E j / P : ℝ) : EReal) := fun j => by
    unfold eW
    rw [htop]
    by_cases h : j.val ≤ i.val
    · rw [if_pos h]
      unfold maskE
      rw [if_pos h, capE_coe, ← EReal.coe_sub]
      show ((Real.exp _ : ℝ) : EReal) = _
      rw [Real.exp_sub, show E j = _ from if_pos h]
    · rw [if_neg h, Ideal.ofBits_zero_f32, show E j = _ from if_neg h, zero_div, EReal.coe_zero]
  have hpv : ∀ j, pvW (fun j => ((s j : ℝ) : EReal)) i.val VS j = ((E j / P * v j : ℝ) : EReal) := fun j => by
    unfold pvW
    rw [he, hV, ← EReal.coe_mul]
  have hwv : ∀ j, w j * VS j = ((E j * v j : ℝ) : EReal) := fun j => by rw [hw, hV, ← EReal.coe_mul]
  -- the greatest scaled weight
  obtain ⟨j1, -, hm1⟩ := Finset.exists_max_image (Finset.univ : Finset (Fin 6144)) (fun j => E j * v j) ⟨i, Finset.mem_univ _⟩
  have hm : ∀ j, E j * v j ≤ E j1 * v j1 := fun j => hm1 j (Finset.mem_univ _)
  have hY0 : 0 ≤ E j1 * v j1 := mul_nonneg (hE0 _) (hv0 _)
  have hpk : peak w = (P : EReal) := peak_coe w E hw P hP.le hEP j0 hEj
  have hpkv : peak (fun n => w n * VS n) = ((E j1 * v j1 : ℝ) : EReal) := peak_coe _ (fun j => E j * v j) hwv _ hY0 hm j1 rfl
  have hinv : pinvF w = ((1 / P : ℝ) : EReal) := by
    unfold pinvF
    rw [hpk, Ideal.ofBits_one_f32, ← EReal.coe_one, div_coe _ _ hP.ne']
  let y : ℝ := E j1 * v j1 * (1 / P) * (9586981 / 2 ^ 32)
  have hyF : yF w VS = (y : EReal) := by
    unfold yF
    rw [hpkv, hinv, c448_eq, ← EReal.coe_mul, ← EReal.coe_mul]
  have hyW : yW (fun j => ((s j : ℝ) : EReal)) i.val VS = (y : EReal) := by
    unfold yW
    rw [amax_coe _ (fun j => E j / P * v j) hpv (fun j => mul_nonneg (div_nonneg (hE0 _) hP.le) (hv0 _)) (E j1 / P * v j1)
      (fun j => by
        rw [div_mul_eq_mul_div, div_mul_eq_mul_div]
        exact div_le_div_of_nonneg_right (hm j) hP.le) j1 rfl, c448_eq, ← EReal.coe_mul]
    congr 1
    show _ = E j1 * v j1 * (1 / P) * (9586981 / 2 ^ 32)
    ring
  have hy0 : 0 ≤ y := mul_nonneg (mul_nonneg hY0 (by positivity)) (by norm_num)
  have hy1 : y < (2 : ℝ) ^ (126 : ℤ) := by
    have h1 : E j1 * v j1 * (1 / P) ≤ (2 : ℝ) ^ (120 : ℤ) := by
      rw [mul_one_div, div_le_iff₀ hP, mul_comm]
      exact mul_le_mul (hv1 _) (hEP _) (hE0 _) (by positivity)
    calc y ≤ (2 : ℝ) ^ (120 : ℤ) * (9586981 / 2 ^ 32) := mul_le_mul_of_nonneg_right h1 (by norm_num)
      _ < _ := by norm_num
  clear_value y
  obtain ⟨hsc, hiv⟩ := scale_spec y hy0 hy1
  have hsE : sE (y : EReal) = (((2 : ℝ) ^ eR y : ℝ) : EReal) := by unfold sE; rw [← scale_eq y hy0 hy1, hsc]
  have hiE : iE (y : EReal) = (((2 : ℝ) ^ (-eR y) : ℝ) : EReal) := by unfold iE; rw [← inv_eq y hy0 hy1, hiv]
  have hb : 0 < (2 : ℝ) ^ (-eR y) := by positivity
  have hp : ∀ j, pF w VS j = ((min (E j * v j * (1 / P * (2 : ℝ) ^ (-eR y))) 448 : ℝ) : EReal) := fun j => by
    unfold pF
    rw [hwv, hinv, hyF, hiv, b448, ← EReal.coe_mul, ← EReal.coe_mul, min_coe]
  have hr : ∀ j, clip (pvW (fun j => ((s j : ℝ) : EReal)) i.val VS j * iE (y : EReal))
      = ((min (E j * v j * (1 / P * (2 : ℝ) ^ (-eR y))) 448 : ℝ) : EReal) := fun j => by
    rw [hpv, hiE, ← EReal.coe_mul, clip_nonneg _ (mul_nonneg (mul_nonneg (div_nonneg (hE0 _) hP.le) (hv0 _)) hb.le)]
    congr 2
    ring
  have hL : 0 < ∑ j, E j := lt_of_lt_of_le hP (by rw [← hEj]; exact Finset.single_le_sum (fun j _ => hE0 j) (Finset.mem_univ j0))
  unfold refAttend attend
  rw [hyW, hyF, hsc, hsE, hpk]
  simp only [hp, hr, hC, hw, he, ← EReal.coe_mul, sum_coe]
  rw [← Finset.sum_div, div_coe _ _ (div_pos hL hP).ne', div_coe _ _ hL.ne', ← EReal.coe_mul]
  congr 1
  rw [Finset.sum_congr rfl fun j _ => mul_comm (min (E j * v j * (1 / P * (2 : ℝ) ^ (-eR y))) 448) (c j)]
  generalize ∑ j, c j * min (E j * v j * (1 / P * (2 : ℝ) ^ (-eR y))) 448 = N
  field_simp

end Cert.Proof.Ref

end
-- ==== Proof.RefOut.lean ====
/- The reference's attention, as a function of the three arguments. -/
module

public import proofs.«01_k».proof.Proof.RefAttend
public import proofs.«01_k».proof.Proof.Target

@[expose] public section

set_option maxRecDepth 16384
set_option maxHeartbeats 4000000

noncomputable section

namespace Cert.Proof.Ref

open Idealize.ShloMosaic Idealize.ShloMosaic.Tactic
open Cert.ReferenceIdeal Cert.ReferenceIdeal.Gen

variable {A : Vec Ideal S2x6144x7168 .bf16} {K V : Vec Ideal S2x6144x1024 .bf16}

/-- One entry of the attention, from the scores, the values' scales and the values' codes. -/
theorem out_of (u : FVec Ideal S16x7x6144x6144 .f32) (vs : FVec Ideal S2x6144x8x1 .f32) (a r : FVec Ideal S2x6144x8x128 .f32)
    (b : Fin 2) (i : Fin 6144) (x : Fin 7168) (B : Fin 16) (h : Fin 7) (hB : B.val = b.val * 8 + (gp56 x).val) (hh : h.val = x.val / 128 % 7) :
    k0_pay1 (F := Ideal) (k0_pay26 a r) (k0_pay30 u k0_pay28) (k0_pay32 vs u k0_pay28) (k0_pay33 vs u k0_pay28)
      (Scalar.ofBits (F := Ideal) .f32 0xC3E00000#32) (Scalar.ofBits (F := Ideal) .f32 0x43E00000#32) (ix3 b i x)
      = refAttend (fun j => u (ix4 B h i j)) i.val (fun j => vs (ix4 b j (gp56 x) (0 : Fin 1))) (fun j => k0_pay18 a r (ix4 b j (gp56 x) (ch56 x))) := by
  rw [pay1_at _ _ _ _ b i x B h hB hh, pay30_at, pay32_at vs u B b (gp56 x) hB]
  simp only [pay33_at vs u B b (gp56 x) hB, pay26_at a r B b (gp56 x) hB]
  unfold refAttend sE
  with_reducible rfl

/-- The reference's attention at an entry. -/
theorem G3_at (hA : Finite A) (hK : Finite K) (hV : Finite V) (b : Fin 2) (i : Fin 6144) (x : Fin 7168) :
    Value.G3 (F := Ideal) A K V (ix3 b i x)
      = refAttend (fun j => ∑ d, d32 (qRow A b i (hd56 x)) d * d32 (kRow K b j (gp56 x)) d) i.val
          (fun j => s128 (kRow V b j (gp56 x))) (fun j => c128 (kRow V b j (gp56 x)) (ch56 x)) := by
  have hx := x.isLt
  have hb := b.isLt
  show k0_pay1 (F := Ideal) (k0_pay26 (k0_pay16 (View.ld V r0_1)) k0_pay17)
    (k0_pay30 (k0_pay27 (k0_pay4 (View.ld A r0_0)) (k0_pay5 (View.ld A r0_0)) (k0_pay12 (k0_pay6 (View.ld K r0_1)) (k0_pay8 (View.ld K r0_1)) (k0_pay9 (View.ld K r0_1)) k0_pay10) (k0_pay13 (k0_pay8 (View.ld K r0_1)) (k0_pay9 (View.ld K r0_1)) k0_pay10)) k0_pay28)
    (k0_pay32 (k0_pay19 (k0_pay15 (View.ld V r0_1))) (k0_pay27 (k0_pay4 (View.ld A r0_0)) (k0_pay5 (View.ld A r0_0)) (k0_pay12 (k0_pay6 (View.ld K r0_1)) (k0_pay8 (View.ld K r0_1)) (k0_pay9 (View.ld K r0_1)) k0_pay10) (k0_pay13 (k0_pay8 (View.ld K r0_1)) (k0_pay9 (View.ld K r0_1)) k0_pay10)) k0_pay28)
    (k0_pay33 (k0_pay19 (k0_pay15 (View.ld V r0_1))) (k0_pay27 (k0_pay4 (View.ld A r0_0)) (k0_pay5 (View.ld A r0_0)) (k0_pay12 (k0_pay6 (View.ld K r0_1)) (k0_pay8 (View.ld K r0_1)) (k0_pay9 (View.ld K r0_1)) k0_pay10) (k0_pay13 (k0_pay8 (View.ld K r0_1)) (k0_pay9 (View.ld K r0_1)) k0_pay10)) k0_pay28)
    (Scalar.ofBits (F := Ideal) .f32 0xC3E00000#32) (Scalar.ofBits (F := Ideal) .f32 0x43E00000#32) (ix3 b i x) = _
  rw [ld0, ld1, ld1]
  rw [out_of _ _ _ _ b i x ⟨b.val * 8 + x.val / 896, by omega⟩ ⟨x.val / 128 % 7, by omega⟩ rfl rfl]
  have hu : ∀ j, k0_pay27 (F := Ideal) (k0_pay4 A) (k0_pay5 A) (k0_pay12 (k0_pay6 K) (k0_pay8 K) (k0_pay9 K) k0_pay10) (k0_pay13 (k0_pay8 K) (k0_pay9 K) k0_pay10)
      (ix4 ⟨b.val * 8 + x.val / 896, by omega⟩ ⟨x.val / 128 % 7, by omega⟩ i j) = ∑ d, d32 (qRow A b i (hd56 x)) d * d32 (kRow K b j (gp56 x)) d := fun j => by
    refine pay27_at _ _ _ _ _ b (gp56 x) rfl _ i j _ _ (fun d => ?_) (fun d => ?_)
    · have hd := d.isLt
      rw [q_code hA b i _ _ (hd56 x) d (by show x.val / 896 * 28 + x.val / 128 % 7 * 4 + d.val / 32 = 4 * (x.val / 128) + d.val / 32; omega) rfl,
        q_scale hA b i _ (hd56 x) (gOf d) (by show x.val / 896 * 28 + x.val / 128 % 7 * 4 + d.val / 32 = 4 * (x.val / 128) + d.val / 32; omega)]
      rfl
    · have hd := d.isLt
      rw [k_code hK b j _ _ (gp56 x) d (by show x.val / 896 * 4 + d.val / 32 = 4 * (x.val / 896) + d.val / 32; omega) rfl,
        k_scale hK b j _ (gp56 x) (gOf d) (by show x.val / 896 * 4 + d.val / 32 = 4 * (x.val / 896) + d.val / 32; omega)]
      rfl
  simp only [hu, v_scale hV, v_code hV]

end Cert.Proof.Ref

end
-- ==== Proof.Equal.lean ====
/- The seven results of the reference are the seven results of the kernel, for finite arguments. -/
module

public import proofs.«01_k».proof.Proof.AttendEq
public import proofs.«01_k».proof.Proof.RefOut
public import proofs.«01_k».proof.Proof.IdealArr
public import proofs.«01_k».proof.Proof.Gen.Pre_finite_inputs

@[expose] public section

set_option maxRecDepth 16384

noncomputable section

namespace Cert.Proof.Ref

open Idealize.ShloMosaic

/-! ## The precondition -/

/-- What the comparison of the precondition says of an argument. -/
theorem finite_of {s : Shape} (x : FVec Ideal s .bf16) (hb : Cert.Pre_finite_inputs.S_.BroadcastsInDim s (![] : Fin 0 → Fin s.rank))
    (h : cmpf .ole (Host.absf x) (broadcastInDim s ![] hb (constant (F := Ideal) Cert.Pre_finite_inputs.S_ .bf16 0x7F7F#16)) = fun _ => 1#1) :
    Finite x := fun i => by
  have hi : BitVec.ofBool (decide (max (x i) (-(x i)) ≤ big)) = 1#1 := congrFun h i
  by_contra hc
  rw [decide_eq_false hc] at hi
  exact absurd hi (by decide)

/-! ## The codes and scales are numbers -/

/-- A scale is a power of two up to `2 ^ 120`. -/
theorem scale_real {y : EReal} (h : Ok y) : ∃ r : ℝ, scaleOf y = (r : EReal) ∧ 0 ≤ r ∧ r ≤ (2 : ℝ) ^ (120 : ℤ) := by
  obtain ⟨r, rfl, h0, h1⟩ := h
  refine ⟨(2 : ℝ) ^ eR r, (scale_spec r h0 (lt_trans h1 (by norm_num))).1, by positivity, ?_⟩
  refine zpow_le_zpow_right₀ (by norm_num) ?_
  unfold eR
  split
  · norm_num
  · next hr =>
    have hl : 0 < Real.log 2 := Real.log_pos (by norm_num)
    have hr0 : 0 < r := lt_of_lt_of_le (by positivity) (not_lt.mp hr)
    have : ⌊Real.log r / Real.log 2⌋ < 120 := by
      rw [Int.floor_lt, div_lt_iff₀ hl]
      have := Real.log_lt_log hr0 h1
      rw [Real.log_zpow] at this
      exact_mod_cast this
    omega

/-- A dequantised channel is a number. -/
theorem d32_real (r : Fin 128 → EReal) (h : ∀ g, Ok (y32 r g)) (d : Fin 128) : ∃ x : ℝ, d32 r d = (x : EReal) := by
  obtain ⟨a, ha⟩ := clip_real (r d * invOf (y32 r (gOf d)))
  obtain ⟨b, hb, -, -⟩ := scale_real (h (gOf d))
  refine ⟨a * b, ?_⟩
  unfold d32 c32 s32
  rw [ha, hb, EReal.coe_mul]

/-- A dot product of rows of numbers is a number. -/
theorem dot_real (u v : Fin 128 → EReal) (hu : ∀ d, ∃ x : ℝ, u d = (x : EReal)) (hv : ∀ d, ∃ x : ℝ, v d = (x : EReal)) :
    ∃ x : ℝ, ∑ d, u d * v d = (x : EReal) := by
  choose a ha using hu
  choose b hb using hv
  refine ⟨∑ d, a d * b d, ?_⟩
  simp only [ha, hb, ← EReal.coe_mul, sum_coe]

/-! ## The results -/

section
variable {A : SQ.Idx → EReal} {K V : SK.Idx → EReal}

/-- The attention. -/
theorem out_eq (hA : Finite A) (hK : Finite K) (hV : Finite V) (b : Fin 2) (i : Fin 6144) (x : Fin 7168) :
    Cert.ReferenceIdeal.Value.G3 (F := Ideal) A K V (ix3 b i x) = outAt A K V b i x := by
  rw [G3_at hA hK hV]
  have hs : ∀ j, ∃ s : ℝ, ∑ d, d32 (kRow K b j (gp56 x)) d * d32 (qRow A b i (hd56 x)) d = (s : EReal) := fun j =>
    dot_real _ _ (d32_real _ fun g => ok_k hK b j _ g) (d32_real _ fun g => ok_q hA b i _ g)
  have hv : ∀ j, ∃ r : ℝ, s128 (kRow V b j (gp56 x)) = (r : EReal) ∧ 0 ≤ r ∧ r ≤ (2 : ℝ) ^ (120 : ℤ) := fun j =>
    scale_real (ok_v hV b j _)
  have hc : ∀ j, ∃ r : ℝ, c128 (kRow V b j (gp56 x)) (ch56 x) = (r : EReal) := fun j => clip_real _
  choose s hs using hs
  choose v hv0 hv1 hv2 using hv
  choose c hc using hc
  exact attend_eq (fun j => d32 (kRow K b j (gp56 x))) (d32 (qRow A b i (hd56 x))) i _ _ s hs v hv0 hv1 hv2 c hc

end

section
variable (m : (ℓ : Loc Cert.KernelIdeal.nD Cert.KernelIdeal.τ Cert.KernelIdeal.sig) → Buf (Elt Ideal) ℓ) (c : Dev Cert.KernelIdeal.nD)

open Cert.Proof.KernelIdeal.Val

/-- The attention, as a whole array: the reference's is the kernel's. -/
theorem res3 (hA : Finite (A0 m c)) (hK : Finite (A1 m c)) (hV : Finite (A2 m c)) :
    Cert.ReferenceIdeal.Value.G3 (F := Ideal) (A0 m c) (A1 m c) (A2 m c) = R3 m c := funext fun y => by
  rw [eq_ix3 y]
  exact out_eq hA hK hV (y 0) (y 1) (y 2)
/-- The query codes, as a whole array: the reference's is the kernel's. -/
theorem res4 (hA : Finite (A0 m c)) : Cert.ReferenceIdeal.Value.G4 (F := Ideal) (A0 m c) (A1 m c) (A2 m c) = R4 m c := funext fun y => by
  rw [eq_ix3 y]
  exact G4_at hA (y 0) (y 1) (y 2)
/-- The query scales, as a whole array: the reference's is the kernel's. -/
theorem res5 (hA : Finite (A0 m c)) : Cert.ReferenceIdeal.Value.G5 (F := Ideal) (A0 m c) (A1 m c) (A2 m c) = R5' m c := funext fun y => by
  rw [eq_ix3 y]
  exact G5_at hA (y 0) (y 1) (y 2)
/-- The key codes, as a whole array: the reference's is the kernel's. -/
theorem res6 (hK : Finite (A1 m c)) : Cert.ReferenceIdeal.Value.G6 (F := Ideal) (A0 m c) (A1 m c) (A2 m c) = R6 m c := funext fun y => by
  rw [eq_ix3 y]
  exact G6_at hK (y 0) (y 1) (y 2)
/-- The key scales, as a whole array: the reference's is the kernel's. -/
theorem res7 (hK : Finite (A1 m c)) : Cert.ReferenceIdeal.Value.G7 (F := Ideal) (A0 m c) (A1 m c) (A2 m c) = R7' m c := funext fun y => by
  rw [eq_ix3 y]
  exact G7_at hK (y 0) (y 1) (y 2)
/-- The value codes, as a whole array: the reference's is the kernel's. -/
theorem res8 (hV : Finite (A2 m c)) : Cert.ReferenceIdeal.Value.G8 (F := Ideal) (A0 m c) (A1 m c) (A2 m c) = R8 m c := funext fun y => by
  rw [eq_ix3 y]
  exact G8_at hV (y 0) (y 1) (y 2)
/-- The value scales, as a whole array: the reference's is the kernel's. -/
theorem res9 (hV : Finite (A2 m c)) : Cert.ReferenceIdeal.Value.G9 (F := Ideal) (A0 m c) (A1 m c) (A2 m c) = R9' m c := funext fun y => by
  rw [eq_ix3 y]
  exact G9_at hV (y 0) (y 1) (y 2)

end

end Cert.Proof.Ref

end
-- ==== Proof.lean ====
/- The claim, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_finite_inputs
public import proofs.«01_k».proof.Proof.KernelFrame
public import proofs.«01_k».proof.Proof.IdealFrame
public import proofs.«01_k».proof.Proof.IdealValue
public import proofs.«01_k».proof.Proof.Equal

@[expose] public section

noncomputable section

namespace Cert.Proof

open Idealize.ShloMosaic Idealize.SL.Sem

/-- Each named constant is a value of the literal it stands for. -/
theorem preserves : Cert.preserves_Kernel_KernelIdeal :=
  ⟨IdealRules.named_const.statement Cert.KernelIdeal.κ "tanh_scale" .f32 0x3AE7B46A#32 _ rfl,
    IdealRules.named_const.statement Cert.KernelIdeal.κ "exp2_scale" .f32 0x429044FE#32 _ rfl⟩

/-- For finite arguments the kernel and the reference end with the same seven results. -/
theorem algebraic : Cert.algebraic_KernelIdeal_ReferenceIdeal_pre_finite_inputs := by
  intro m g m' g' hpre hargs
  have hA : ∀ c, Ref.Finite (KernelIdeal.Val.A0 m c) := fun c => Ref.finite_of _ _ (hpre c).1
  have hK : ∀ c, Ref.Finite (KernelIdeal.Val.A1 m c) := fun c => Ref.finite_of _ _ (hpre c).2.1
  have hV : ∀ c, Ref.Finite (KernelIdeal.Val.A2 m c) := fun c => Ref.finite_of _ _ (hpre c).2.2
  refine ⟨KernelIdeal.Val.R3 m, KernelIdeal.Val.R4 m, KernelIdeal.Val.R5' m, KernelIdeal.Val.R6 m, KernelIdeal.Val.R7' m, KernelIdeal.Val.R8 m,
    KernelIdeal.Val.R9' m, KernelIdeal.Val.value_run m g, ?_⟩
  refine (θ_run _ _ _).mono (fun r h c => ?_) (Cert.ReferenceIdeal.Value.run (F := Ideal) m' g')
  obtain ⟨h3, h4, h5, h6, h7, h8, h9, k0, k1, k2⟩ := h c
  rw [(hargs c).1, (hargs c).2.1, (hargs c).2.2] at h3 h4 h5 h6 h7 h8 h9
  exact ⟨h3.trans (Ref.res3 m c (hA c) (hK c) (hV c)), h4.trans (Ref.res4 m c (hA c)), h5.trans (Ref.res5 m c (hA c)), h6.trans (Ref.res6 m c (hK c)),
    h7.trans (Ref.res7 m c (hK c)), h8.trans (Ref.res8 m c (hV c)), h9.trans (Ref.res9 m c (hV c)), k0, k1, k2⟩

/-- Both programs run and end quiescent with their arguments kept, the named constants stand for their literals, and the results agree. -/
theorem claim : Cert.Claim :=
  ⟨Cert.Kernel.Gen.facts, Cert.KernelIdeal.Gen.facts, Cert.ReferenceIdeal.Gen.facts, Cert.Pre_finite_inputs.Gen.facts,
    fun m g _ => Cert.Proof.Kernel.quiescent_run m g,
    fun m g _ => Cert.Proof.KernelIdeal.quiescent_run m g,
    fun m g _ => Cert.Proof.KernelIdeal.quiescent_run m g,
    fun m g _ => Cert.ReferenceIdeal.Gen.frame m g,
    fun m g _ => Cert.ReferenceIdeal.Gen.frame m g,
    preserves, algebraic⟩

end Cert.Proof

end
